-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S1x2048x768 : Shape := ⟨3, ![1, 2048, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_
  bcast_S_S8x768x768 : S_.BroadcastsInDim S8x768x768 (![] : Fin 0 → Fin S8x768x768.rank)
  reducesTo_S8x768x768_S_d0_1_2 : S8x768x768.ReducesTo [0, 1, 2] S_
  bcast_S_S8x768 : S_.BroadcastsInDim S8x768 (![] : Fin 0 → Fin S8x768.rank)
  reducesTo_S8x768_S_d0_1 : S8x768.ReducesTo [0, 1] S_

variable [Facts]

def fn_part1 {F : FTy → Type} [FloatOps F] (main_arg4 : FVec F S8x768 .f32) (main_arg5 : FVec F S8x768x768 .f32) (main_arg6 : FVec F S8x768 .f32) (main_v13 : IVec S_ 1) (main_v16 : IVec S8x768x768 1) : IVec S_ 1 :=
  let main_c_5 : IVec S_ 1 := constantI S_ 1 1#1
  let main_v17 : IVec S_ 1 := (fun x v => Host.reduce IntOp.andi x v reducesTo_S8x768x768_S_d0_1_2 h_S_) main_v16 main_c_5
  let main_v18 : IVec S_ 1 := andi main_v13 main_v17
  let main_v19 : FVec F S8x768 .f32 := Host.absf main_arg4
  let main_cst_6 : FVec F S_ .f32 := constant S_ .f32 0x7F800000#32
  let main_v20 : FVec F S8x768 .f32 := broadcastInDim S8x768 ![] bcast_S_S8x768 main_cst_6
  let main_v21 : IVec S8x768 1 := cmpf .olt main_v19 main_v20
  let main_c_7 : IVec S_ 1 := constantI S_ 1 1#1
  let main_v22 : IVec S_ 1 := (fun x v => Host.reduce IntOp.andi x v reducesTo_S8x768_S_d0_1 h_S_) main_v21 main_c_7
  let main_v23 : IVec S_ 1 := andi main_v18 main_v22
  let main_v24 : FVec F S8x768x768 .f32 := Host.absf main_arg5
  let main_cst_8 : FVec F S_ .f32 := constant S_ .f32 0x7F800000#32
  let main_v25 : FVec F S8x768x768 .f32 := broadcastInDim S8x768x768 ![] bcast_S_S8x768x768 main_cst_8
  let main_v26 : IVec S8x768x768 1 := cmpf .olt main_v24 main_v25
  let main_c_9 : IVec S_ 1 := constantI S_ 1 1#1
  let main_v27 : IVec S_ 1 := (fun x v => Host.reduce IntOp.andi x v reducesTo_S8x768x768_S_d0_1_2 h_S_) main_v26 main_c_9
  let main_v28 : IVec S_ 1 := andi main_v23 main_v27
  let main_v29 : FVec F S8x768 .f32 := Host.absf main_arg6
  let main_cst_10 : FVec F S_ .f32 := constant S_ .f32 0x7F800000#32
  let main_v30 : FVec F S8x768 .f32 := broadcastInDim S8x768 ![] bcast_S_S8x768 main_cst_10
  let main_v31 : IVec S8x768 1 := cmpf .olt main_v29 main_v30
  let main_c_11 : IVec S_ 1 := constantI S_ 1 1#1
  let main_v32 : IVec S_ 1 := (fun x v => Host.reduce IntOp.andi x v reducesTo_S8x768_S_d0_1 h_S_) main_v31 main_c_11
  let main_v33 : IVec S_ 1 := andi main_v28 main_v32
  main_v33

def fn {F : FTy → Type} [FloatOps F] (main_arg0 : FVec F S1x2048x768 .f32) (main_arg1 : FVec F S768x8 .f32) (main_arg2 : FVec F S8 .f32) (main_arg3 : FVec F S8x768x768 .f32) (main_arg4 : FVec F S8x768 .f32) (main_arg5 : FVec F S8x768x768 .f32) (main_arg6 : FVec F S8x768 .f32) (main_arg7 : FVec F S8x768x768 .f32) (main_arg8 : FVec F S8x768 .f32) (main_arg9 : FVec F S8x768x768 .f32) (main_arg10 : FVec F S8x768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x8 .f32 := Host.absf main_arg1
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x768x768 .f32 := Host.absf main_arg3
  let main_cst_4 : FVec F S_ .f32 := constant S_ .f32 0x7F800000#32
  let main_v15 : FVec F S8x768x768 .f32 := broadcastInDim S8x768x768 ![] bcast_S_S8x768x768 main_cst_4
  let main_v16 : IVec S8x768x768 1 := cmpf .olt main_v14 main_v15
  fn_part1 (F := F) main_arg4 main_arg5 main_arg6 main_v13 main_v16
-- ==== KernelIdeal.lean ====
abbrev S1x2048x768 : Shape := ⟨3, ![1, 2048, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S2048x768 : Shape := ⟨2, ![2048, 768]⟩
abbrev S1x8 : Shape := ⟨2, ![1, 8]⟩
abbrev S8x1x768 : Shape := ⟨3, ![8, 1, 768]⟩
abbrev S2048x8 : Shape := ⟨2, ![2048, 8]⟩
abbrev S1x32 : Shape := ⟨2, ![1, 32]⟩
abbrev S2048 : Shape := ⟨1, ![2048]⟩
abbrev S2048x1 : Shape := ⟨2, ![2048, 1]⟩
abbrev S2047x8 : Shape := ⟨2, ![2047, 8]⟩
abbrev S2x8 : Shape := ⟨2, ![2, 8]⟩
abbrev S2046x8 : Shape := ⟨2, ![2046, 8]⟩
abbrev S4x8 : Shape := ⟨2, ![4, 8]⟩
abbrev S2044x8 : Shape := ⟨2, ![2044, 8]⟩
abbrev S8x8 : Shape := ⟨2, ![8, 8]⟩
abbrev S2040x8 : Shape := ⟨2, ![2040, 8]⟩
abbrev S16x8 : Shape := ⟨2, ![16, 8]⟩
abbrev S2032x8 : Shape := ⟨2, ![2032, 8]⟩
abbrev S32x8 : Shape := ⟨2, ![32, 8]⟩
abbrev S2016x8 : Shape := ⟨2, ![2016, 8]⟩
abbrev S64x8 : Shape := ⟨2, ![64, 8]⟩
abbrev S1984x8 : Shape := ⟨2, ![1984, 8]⟩
abbrev S128x8 : Shape := ⟨2, ![128, 8]⟩
abbrev S1920x8 : Shape := ⟨2, ![1920, 8]⟩
abbrev S256x8 : Shape := ⟨2, ![256, 8]⟩
abbrev S1792x8 : Shape := ⟨2, ![1792, 8]⟩
abbrev S512x8 : Shape := ⟨2, ![512, 8]⟩
abbrev S1536x8 : Shape := ⟨2, ![1536, 8]⟩
abbrev S1024x8 : Shape := ⟨2, ![1024, 8]⟩
abbrev S8x1 : Shape := ⟨2, ![8, 1]⟩
abbrev S8x32 : Shape := ⟨2, ![8, 32]⟩
abbrev S32 : Shape := ⟨1, ![32]⟩
abbrev S8x2048x768 : Shape := ⟨3, ![8, 2048, 768]⟩
abbrev S512x768 : Shape := ⟨2, ![512, 768]⟩
abbrev S1x768x768 : Shape := ⟨3, ![1, 768, 768]⟩
abbrev S1x1x768 : Shape := ⟨3, ![1, 1, 768]⟩
abbrev S1x512x768 : Shape := ⟨3, ![1, 512, 768]⟩
abbrev S768x768 : Shape := ⟨2, ![768, 768]⟩
abbrev S1x768 : Shape := ⟨2, ![1, 768]⟩
abbrev S1 : Shape := ⟨1, ![1]⟩
abbrev S2048x256 : Shape := ⟨2, ![2048, 256]⟩
abbrev S256x768 : Shape := ⟨2, ![256, 768]⟩
abbrev S256x128 : Shape := ⟨2, ![256, 128]⟩
abbrev S256x64 : Shape := ⟨2, ![256, 64]⟩
abbrev S512x64 : Shape := ⟨2, ![512, 64]⟩
abbrev S256x512 : Shape := ⟨2, ![256, 512]⟩
abbrev S256x1 : Shape := ⟨2, ![256, 1]⟩
abbrev S256 : Shape := ⟨1, ![256]⟩

abbrev nBuf : Space → Nat
  | .hbm => 30
  | .vmem => 41
  | .smem => 2
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S8x768x768, .f32⟩
  | .hbm, ⟨4, _⟩ => ⟨S8x768, .f32⟩
  | .hbm, ⟨5, _⟩ => ⟨S8x768x768, .f32⟩
  | .hbm, ⟨6, _⟩ => ⟨S8x768, .f32⟩
  | .hbm, ⟨7, _⟩ => ⟨S8x768x768, .f32⟩
  | .hbm, ⟨8, _⟩ => ⟨S8x768, .f32⟩
  | .hbm, ⟨9, _⟩ => ⟨S8x768x768, .f32⟩
  | .hbm, ⟨10, _⟩ => ⟨S8x768, .f32⟩
  | .hbm, ⟨11, _⟩ => ⟨S2048x768, .f32⟩
  | .hbm, ⟨12, _⟩ => ⟨S2048x768, .bf16⟩
  | .hbm, ⟨13, _⟩ => ⟨S8x768x768, .bf16⟩
  | .hbm, ⟨14, _⟩ => ⟨S8x768x768, .bf16⟩
  | .hbm, ⟨15, _⟩ => ⟨S8x768x768, .bf16⟩
  | .hbm, ⟨16, _⟩ => ⟨S8x768x768, .bf16⟩
  | .hbm, ⟨17, _⟩ => ⟨S1x8, .f32⟩
  | .hbm, ⟨18, _⟩ => ⟨S8x1x768, .f32⟩
  | .hbm, ⟨19, _⟩ => ⟨S8x1x768, .f32⟩
  | .hbm, ⟨20, _⟩ => ⟨S8x1x768, .f32⟩
  | .hbm, ⟨21, _⟩ => ⟨S8x1x768, .f32⟩
  | .hbm, ⟨22, _⟩ => ⟨S2048x8, .f32⟩
  | .hbm, ⟨23, _⟩ => ⟨S2048x8, .f32⟩
  | .hbm, ⟨24, _⟩ => ⟨S1x32, .i32⟩
  | .hbm, ⟨25, _⟩ => ⟨S1x32, .i32⟩
  | .hbm, ⟨26, _⟩ => ⟨S8x2048x768, .bf16⟩
  | .hbm, ⟨27, _⟩ => ⟨S8x2048x768, .bf16⟩
  | .hbm, ⟨28, _⟩ => ⟨S2048x768, .f32⟩
  | .hbm, ⟨29, _⟩ => ⟨S1x2048x768, .f32⟩
  | .local _ .vmem, ⟨0, _⟩ => ⟨S2048x768, .f32⟩
  | .local _ .vmem, ⟨1, _⟩ => ⟨S768x8, .f32⟩
  | .local _ .vmem, ⟨2, _⟩ => ⟨S1x8, .f32⟩
  | .local _ .vmem, ⟨3, _⟩ => ⟨S2048x8, .f32⟩
  | .local _ .vmem, ⟨4, _⟩ => ⟨S2048x8, .f32⟩
  | .local _ .vmem, ⟨5, _⟩ => ⟨S1x32, .i32⟩
  | .local _ .vmem, ⟨6, _⟩ => ⟨S1x32, .i32⟩
  | .local _ .vmem, ⟨7, _⟩ => ⟨S512x768, .bf16⟩
  | .local _ .vmem, ⟨8, _⟩ => ⟨S512x768, .bf16⟩
  | .local _ .vmem, ⟨9, _⟩ => ⟨S1x768x768, .bf16⟩
  | .local _ .vmem, ⟨10, _⟩ => ⟨S1x768x768, .bf16⟩
  | .local _ .vmem, ⟨11, _⟩ => ⟨S1x1x768, .f32⟩
  | .local _ .vmem, ⟨12, _⟩ => ⟨S1x1x768, .f32⟩
  | .local _ .vmem, ⟨13, _⟩ => ⟨S1x768x768, .bf16⟩
  | .local _ .vmem, ⟨14, _⟩ => ⟨S1x768x768, .bf16⟩
  | .local _ .vmem, ⟨15, _⟩ => ⟨S1x1x768, .f32⟩
  | .local _ .vmem, ⟨16, _⟩ => ⟨S1x1x768, .f32⟩
  | .local _ .vmem, ⟨17, _⟩ => ⟨S1x512x768, .bf16⟩
  | .local _ .vmem, ⟨18, _⟩ => ⟨S1x512x768, .bf16⟩
  | .local _ .vmem, ⟨19, _⟩ => ⟨S1x512x768, .bf16⟩
  | .local _ .vmem, ⟨20, _⟩ => ⟨S1x512x768, .bf16⟩
  | .local _ .vmem, ⟨21, _⟩ => ⟨S2048x768, .bf16⟩
  | .local _ .vmem, ⟨22, _⟩ => ⟨S2048x8, .f32⟩
  | .local _ .vmem, ⟨23, _⟩ => ⟨S2048x8, .f32⟩
  | .local _ .vmem, ⟨24, _⟩ => ⟨S1x512x768, .bf16⟩
  | .local _ .vmem, ⟨25, _⟩ => ⟨S1x512x768, .bf16⟩
  | .local _ .vmem, ⟨26, _⟩ => ⟨S1x512x768, .bf16⟩
  | .local _ .vmem, ⟨27, _⟩ => ⟨S1x512x768, .bf16⟩
  | .local _ .vmem, ⟨28, _⟩ => ⟨S1x768x768, .bf16⟩
  | .local _ .vmem, ⟨29, _⟩ => ⟨S1x768x768, .bf16⟩
  | .local _ .vmem, ⟨30, _⟩ => ⟨S1x1x768, .f32⟩
  | .local _ .vmem, ⟨31, _⟩ => ⟨S1x1x768, .f32⟩
  | .local _ .vmem, ⟨32, _⟩ => ⟨S1x768x768, .bf16⟩
  | .local _ .vmem, ⟨33, _⟩ => ⟨S1x768x768, .bf16⟩
  | .local _ .vmem, ⟨34, _⟩ => ⟨S1x1x768, .f32⟩
  | .local _ .vmem, ⟨35, _⟩ => ⟨S1x1x768, .f32⟩
  | .local _ .vmem, ⟨36, _⟩ => ⟨S2048x768, .f32⟩
  | .local _ .vmem, ⟨37, _⟩ => ⟨S2048x256, .bf16⟩
  | .local _ .vmem, ⟨38, _⟩ => ⟨S256x768, .bf16⟩
  | .local _ .vmem, ⟨39, _⟩ => ⟨S256x768, .f32⟩
  | .local _ .vmem, ⟨40, _⟩ => ⟨S256x128, .f32⟩
  | .local _ .smem, ⟨0, _⟩ => ⟨S32, .i32⟩
  | .local _ .smem, ⟨1, _⟩ => ⟨S32, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v12_0 : Ref sig .tc := ⟨.hbm, 26, rfl⟩
abbrev main_v12_1 : Ref sig .tc := ⟨.hbm, 27, rfl⟩
abbrev main_v15 : Ref sig .tc := ⟨.hbm, 28, rfl⟩
abbrev main_v16 : Ref sig .tc := ⟨.hbm, 29, rfl⟩
abbrev main_v13 : Ref sig .tc := ⟨.smem, 0, rfl⟩
abbrev main_v14 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc2_stg9_0 : Ref sig .tc := ⟨.vmem, 36, rfl⟩
abbrev cc2_scratch0 : Ref sig .tc := ⟨.vmem, 37, rfl⟩
abbrev cc2_scratch1 : Ref sig .tc := ⟨.vmem, 38, rfl⟩
abbrev cc2_scratch2 : Ref sig .tc := ⟨.vmem, 39, rfl⟩
abbrev cc2_scratch3 : Ref sig .tc := ⟨.vmem, 40, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc2_sem9_0 : DmaSem sig := 36

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x768x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x768x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x768 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x768 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![24, 4], ![false, false]⟩

abbrev pre2 : Pipeline.Prefetch sig := ⟨2, ![main_v13.idx, main_v14.idx], fun | 0 => main_v13.names | 1 => main_v14.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k2_off2 (i : grid2.Coords) : Fin 1 → Nat :=
  let arg0 : BitVec 32 := BitVec.ofNat 32 (i 0).val
  let v239 : Index := Scalar.indexCast arg0
  ![v239.toNat]
def k2_cond2 (i : grid2.Coords) : BitVec 1 :=
  let arg1 : BitVec 32 := BitVec.ofNat 32 (i 1).val
  let c3_i32 : BitVec 32 := 3#32
  let v236 : BitVec 1 := Scalar.cmpi .eq arg1 c3_i32
  let v237 : BitVec 32 := Scalar.extui v236
  let c0_i32_117 : BitVec 32 := 0#32
  let v238 : BitVec 1 := Scalar.cmpi .ne v237 c0_i32_117
  v238

def k2_off3 (i : grid2.Coords) : Fin 1 → Nat :=
  let arg0 : BitVec 32 := BitVec.ofNat 32 (i 0).val
  let v300 : Index := Scalar.indexCast arg0
  ![v300.toNat]
def k2_cond3 (i : grid2.Coords) : BitVec 1 :=
  let arg0 : BitVec 32 := BitVec.ofNat 32 (i 0).val
  let c0_i32_158 : BitVec 32 := 0#32
  let v313 : BitVec 1 := Scalar.cmpi .eq arg0 c0_i32_158
  let v314 : BitVec 32 := Scalar.extui v313
  let c0_i32_159 : BitVec 32 := 0#32
  let v315 : BitVec 1 := Scalar.cmpi .ne v314 c0_i32_159
  v315

def k2_cond4 (i : grid2.Coords) : BitVec 1 :=
  let arg0 : BitVec 32 := BitVec.ofNat 32 (i 0).val
  let c0_i32_160 : BitVec 32 := 0#32
  let v316 : BitVec 1 := Scalar.cmpi .ne arg0 c0_i32_160
  let v317 : BitVec 32 := Scalar.extui v316
  let c0_i32_161 : BitVec 32 := 0#32
  let v318 : BitVec 1 := Scalar.cmpi .ne v317 c0_i32_161
  v318

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (k2_off1_inb : ∀ i : grid2.Coords, ∀ a, (k2_off1 i) a + S1.size a ≤ S32.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k2_off1_inb i)) numel1_S1
  let c0_i32 : BitVec 32 := 0#32
  let c0_i32_0 : BitVec 32 := 0#32
  ![v1.toNat, arg1.toNat, c0_i32.toNat]

def cc2_transform_4 (k2_off1_inb : ∀ i : grid2.Coords, ∀ a, (k2_off1 i) a + S1.size a ≤ S32.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k2_off1_inb i)) numel1_S1
  let c0_i32 : BitVec 32 := 0#32
  let c0_i32_0 : BitVec 32 := 0#32
  ![v1.toNat, arg1.toNat, c0_i32.toNat]

def cc2_transform_5 (k2_off1_inb : ∀ i : grid2.Coords, ∀ a, (k2_off1 i) a + S1.size a ≤ S32.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_6 (k2_off1_inb : ∀ i : grid2.Coords, ∀ a, (k2_off1 i) a + S1.size a ≤ S32.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_7 (k2_off1_inb : ∀ i : grid2.Coords, ∀ a, (k2_off1 i) a + S1.size a ≤ S32.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_8 (k2_off1_inb : ∀ i : grid2.Coords, ∀ a, (k2_off1 i) a + S1.size a ≤ S32.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x768 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S2048x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S2048x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x768 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x512x768 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x768x768 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x1x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x768x768 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1x1x768 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 1 → Memref sig .tc .vmem S2048x768 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]
-- ==== ReferenceIdeal.lean ====
abbrev S1x2048x768 : Shape := ⟨3, ![1, 2048, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S1x2048x8 : Shape := ⟨3, ![1, 2048, 8]⟩
abbrev S1x1x8 : Shape := ⟨3, ![1, 1, 8]⟩
abbrev S1x2048x2 : Shape := ⟨3, ![1, 2048, 2]⟩
abbrev S_ : Shape := ⟨0, ![]⟩
abbrev S1x2048 : Shape := ⟨2, ![1, 2048]⟩
abbrev S1x2048x1 : Shape := ⟨3, ![1, 2048, 1]⟩
abbrev S1x2048x2x1 : Shape := ⟨4, ![1, 2048, 2, 1]⟩
abbrev S1x1x1x8 : Shape := ⟨4, ![1, 1, 1, 8]⟩
abbrev S1x2048x2x8 : Shape := ⟨4, ![1, 2048, 2, 8]⟩
abbrev S8x768x1x2048 : Shape := ⟨4, ![8, 768, 1, 2048]⟩
abbrev S8x1x2048x768 : Shape := ⟨4, ![8, 1, 2048, 768]⟩
abbrev S8x1x1x768 : Shape := ⟨4, ![8, 1, 1, 768]⟩
abbrev S8x1x2048x12x64 : Shape := ⟨5, ![8, 1, 2048, 12, 64]⟩
abbrev S8x1x12x2048x2048 : Shape := ⟨5, ![8, 1, 12, 2048, 2048]⟩
abbrev S8x1x12x2048 : Shape := ⟨4, ![8, 1, 12, 2048]⟩
abbrev S8x1x12x2048x1 : Shape := ⟨5, ![8, 1, 12, 2048, 1]⟩
abbrev S8x1x12x64x2048 : Shape := ⟨5, ![8, 1, 12, 64, 2048]⟩
abbrev S8x1x2048 : Shape := ⟨3, ![8, 1, 2048]⟩
abbrev S8x1x2048x1 : Shape := ⟨4, ![8, 1, 2048, 1]⟩

abbrev nBuf : Space → Nat
  | .hbm => 91
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S8x768x768, .f32⟩
  | .hbm, ⟨4, _⟩ => ⟨S8x768, .f32⟩
  | .hbm, ⟨5, _⟩ => ⟨S8x768x768, .f32⟩
  | .hbm, ⟨6, _⟩ => ⟨S8x768, .f32⟩
  | .hbm, ⟨7, _⟩ => ⟨S8x768x768, .f32⟩
  | .hbm, ⟨8, _⟩ => ⟨S8x768, .f32⟩
  | .hbm, ⟨9, _⟩ => ⟨S8x768x768, .f32⟩
  | .hbm, ⟨10, _⟩ => ⟨S8x768, .f32⟩
  | .hbm, ⟨11, _⟩ => ⟨S1x2048x8, .f32⟩
  | .hbm, ⟨12, _⟩ => ⟨S1x1x8, .f32⟩
  | .hbm, ⟨13, _⟩ => ⟨S1x2048x8, .f32⟩
  | .hbm, ⟨14, _⟩ => ⟨S1x2048x8, .f32⟩
  | .hbm, ⟨15, _⟩ => ⟨S1x2048x2, .f32⟩
  | .hbm, ⟨16, _⟩ => ⟨S1x2048x2, .i32⟩
  | .hbm, ⟨17, _⟩ => ⟨S_, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S1x2048x1, .f32⟩
  | .hbm, ⟨23, _⟩ => ⟨S1x2048x2, .f32⟩
  | .hbm, ⟨24, _⟩ => ⟨S1x2048x2, .f32⟩
  | .hbm, ⟨25, _⟩ => ⟨S1x2048x2, .f32⟩
  | .hbm, ⟨26, _⟩ => ⟨S_, .f32⟩
  | .hbm, ⟨27, _⟩ => ⟨S1x2048, .f32⟩
  | .hbm, ⟨28, _⟩ => ⟨S1x2048x1, .f32⟩
  | .hbm, ⟨29, _⟩ => ⟨S1x2048x2, .f32⟩
  | .hbm, ⟨30, _⟩ => ⟨S1x2048x2, .f32⟩
  | .hbm, ⟨31, _⟩ => ⟨S1x2048x2x1, .i32⟩
  | .hbm, ⟨32, _⟩ => ⟨S1x1x1x8, .i32⟩
  | .hbm, ⟨33, _⟩ => ⟨S1x2048x2x8, .i32⟩
  | .hbm, ⟨34, _⟩ => ⟨S1x2048x2x8, .i32⟩
  | .hbm, ⟨35, _⟩ => ⟨S1x2048x2x8, .i1⟩
  | .hbm, ⟨36, _⟩ => ⟨S1x2048x2x8, .f32⟩
  | .hbm, ⟨37, _⟩ => ⟨S1x2048x2x1, .f32⟩
  | .hbm, ⟨38, _⟩ => ⟨S1x2048x2x8, .f32⟩
  | .hbm, ⟨39, _⟩ => ⟨S1x2048x2x8, .f32⟩
  | .hbm, ⟨40, _⟩ => ⟨S_, .f32⟩
  | .hbm, ⟨41, _⟩ => ⟨S1x2048x8, .f32⟩
  | .hbm, ⟨42, _⟩ => ⟨S8x768x1x2048, .f32⟩
  | .hbm, ⟨43, _⟩ => ⟨S8x1x2048x768, .f32⟩
  | .hbm, ⟨44, _⟩ => ⟨S8x1x1x768, .f32⟩
  | .hbm, ⟨45, _⟩ => ⟨S8x1x2048x768, .f32⟩
  | .hbm, ⟨46, _⟩ => ⟨S8x1x2048x768, .f32⟩
  | .hbm, ⟨47, _⟩ => ⟨S8x1x2048x12x64, .f32⟩
  | .hbm, ⟨48, _⟩ => ⟨S8x768x1x2048, .f32⟩
  | .hbm, ⟨49, _⟩ => ⟨S8x1x2048x768, .f32⟩
  | .hbm, ⟨50, _⟩ => ⟨S8x1x1x768, .f32⟩
  | .hbm, ⟨51, _⟩ => ⟨S8x1x2048x768, .f32⟩
  | .hbm, ⟨52, _⟩ => ⟨S8x1x2048x768, .f32⟩
  | .hbm, ⟨53, _⟩ => ⟨S8x1x2048x12x64, .f32⟩
  | .hbm, ⟨54, _⟩ => ⟨S8x768x1x2048, .f32⟩
  | .hbm, ⟨55, _⟩ => ⟨S8x1x2048x768, .f32⟩
  | .hbm, ⟨56, _⟩ => ⟨S8x1x1x768, .f32⟩
  | .hbm, ⟨57, _⟩ => ⟨S8x1x2048x768, .f32⟩
  | .hbm, ⟨58, _⟩ => ⟨S8x1x2048x768, .f32⟩
  | .hbm, ⟨59, _⟩ => ⟨S8x1x2048x12x64, .f32⟩
  | .hbm, ⟨60, _⟩ => ⟨S8x1x12x2048x2048, .f32⟩
  | .hbm, ⟨61, _⟩ => ⟨S_, .f32⟩
  | .hbm, ⟨62, _⟩ => ⟨S8x1x12x2048x2048, .f32⟩
  | .hbm, ⟨63, _⟩ => ⟨S8x1x12x2048x2048, .f32⟩
  | .hbm, ⟨64, _⟩ => ⟨S_, .f32⟩
  | .hbm, ⟨65, _⟩ => ⟨S8x1x12x2048, .f32⟩
  | .hbm, ⟨66, _⟩ => ⟨S_, .f32⟩
  | .hbm, ⟨67, _⟩ => ⟨S8x1x12x2048, .f32⟩
  | .hbm, ⟨68, _⟩ => ⟨S8x1x12x2048, .f32⟩
  | .hbm, ⟨69, _⟩ => ⟨S8x1x12x2048x1, .f32⟩
  | .hbm, ⟨70, _⟩ => ⟨S8x1x12x2048x2048, .f32⟩
  | .hbm, ⟨71, _⟩ => ⟨S8x1x12x2048x2048, .f32⟩
  | .hbm, ⟨72, _⟩ => ⟨S8x1x12x2048x2048, .f32⟩
  | .hbm, ⟨73, _⟩ => ⟨S_, .f32⟩
  | .hbm, ⟨74, _⟩ => ⟨S8x1x12x2048, .f32⟩
  | .hbm, ⟨75, _⟩ => ⟨S8x1x12x2048x1, .f32⟩
  | .hbm, ⟨76, _⟩ => ⟨S8x1x12x2048x2048, .f32⟩
  | .hbm, ⟨77, _⟩ => ⟨S8x1x12x2048x2048, .f32⟩
  | .hbm, ⟨78, _⟩ => ⟨S8x1x12x64x2048, .f32⟩
  | .hbm, ⟨79, _⟩ => ⟨S8x1x2048x12x64, .f32⟩
  | .hbm, ⟨80, _⟩ => ⟨S8x1x2048x768, .f32⟩
  | .hbm, ⟨81, _⟩ => ⟨S8x1x2048x768, .f32⟩
  | .hbm, ⟨82, _⟩ => ⟨S8x1x1x768, .f32⟩
  | .hbm, ⟨83, _⟩ => ⟨S8x1x2048x768, .f32⟩
  | .hbm, ⟨84, _⟩ => ⟨S8x1x2048x768, .f32⟩
  | .hbm, ⟨85, _⟩ => ⟨S8x1x2048, .f32⟩
  | .hbm, ⟨86, _⟩ => ⟨S8x1x2048x1, .f32⟩
  | .hbm, ⟨87, _⟩ => ⟨S8x1x2048x768, .f32⟩
  | .hbm, ⟨88, _⟩ => ⟨S8x1x2048x768, .f32⟩
  | .hbm, ⟨89, _⟩ => ⟨S_, .f32⟩
  | .hbm, ⟨90, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_values : Ref sig .tc := ⟨.hbm, 15, rfl⟩
abbrev main_indices : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_7 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Proof.Base2.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The first prefetched table, whole. -/
abbrev tbM0 : Memref sig .tc .smem S32 .i32 := Memref.whole main_v13
abbrev htbM0 : tbM0.IsWhole := Memref.isWhole_whole _
/-- The second prefetched table, whole. -/
abbrev tbM1 : Memref sig .tc .smem S32 .i32 := Memref.whole main_v14
abbrev htbM1 : tbM1.IsWhole := Memref.isWhole_whole _

/-- What a prefetched table's buffer holds. -/
abbrev TbBuf (c : Dev nD) {S : Shape} {e : EltTy} (M : Memref sig .tc .smem S e) : Type := Buf (Elt F) (M.view.loc (c : Thread nD τ))
/-- A prefetched table, held whole. -/
abbrev tbPt (c : Dev nD) {S : Shape} {e : EltTy} (M : Memref sig .tc .smem S e) (f : TbBuf (F := F) c M) : sProp 𝕄 :=
  M.view.loc (c : Thread nD τ) ↦{fullShare} f

/-- The body opens a block of tokens. -/
abbrev opens (i : grid2.Coords) : Prop := k2_cond1 i = 1#1
/-- The body closes a block of tokens. -/
abbrev closes (i : grid2.Coords) : Prop := k2_cond2 i = 1#1
/-- The closing block is the first one. -/
abbrev isFirst (i : grid2.Coords) : Prop := k2_cond3 i = 1#1
/-- The closing block is a later one. -/
abbrev isLater (i : grid2.Coords) : Prop := k2_cond4 i = 1#1

end Cert.KernelIdeal.Own

end
-- ==== Proof.RunA.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Base2

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The attention body where a block opens: the pieces its stores leave, with the proof that the body runs from the
    given contents to a continuation holding them. -/
def runA (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : opens i) (hc1 : ¬closes i)
    (x0 : Vec F S2048x768 .bf16) (x1 : Vec F S2048x8 .f32) (x2 : Vec F S2048x8 .f32) (x3 : Vec F S1x512x768 .bf16) (x4 : Vec F S1x512x768 .bf16) (x5 : Vec F S1x768x768 .bf16) (x6 : Vec F S1x1x768 .f32) (x7 : Vec F S1x768x768 .bf16) (x8 : Vec F S1x1x768 .f32) (x9 : Vec F S2048x768 .f32) (xt0 : TbBuf (F := F) c tbM0) (xt1 : TbBuf (F := F) c tbM1) :
    Σ' (LS0 : List (View.Piece (Elt F) S2048x256 .bf16)), Σ' (LS1 : List (View.Piece (Elt F) S256x768 .bf16)), Σ' (LS2 : List (View.Piece (Elt F) S256x768 .f32)), { LS3 : List (View.Piece (Elt F) S256x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ tbPt c tbM0 xt0 ∗ tbPt c tbM1 xt1) -∗ K ⟨⟩))
          ⊢ wp frame (wpE (defs₀ (F := F)) Variants.none c none) E (cc2__moe_attn_body i tbM0 htbM0 tbM1 htbM1 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc2__moe_attn_body_eq_skeleton]; unfold cc2__moe_attn_body_skel
    simp only [k2_part4_eq_skeleton, k2_part1_eq_skeleton, k2_part5_eq_skeleton, k2_part6_eq_skeleton, k2_part7_eq_skeleton, k2_part8_eq_skeleton, k2_part9_eq_skeleton]
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, HT0, HT1, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc0 | sl_exact hc1)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]; · iexists _; iexact H16
    isplitl [H17]; · iexists _; iexact H17
    isplitl [HT0]; · iexact HT0
    iexact HT1

end Cert.KernelIdeal.Own

end
-- ==== Proof.RunB.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.RunA

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The attention body where a block goes on: the pieces its stores leave, with the proof that the body runs from the
    given contents to a continuation holding them. -/
def runB (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : ¬closes i)
    (x0 : Vec F S2048x768 .bf16) (x1 : Vec F S2048x8 .f32) (x2 : Vec F S2048x8 .f32) (x3 : Vec F S1x512x768 .bf16) (x4 : Vec F S1x512x768 .bf16) (x5 : Vec F S1x768x768 .bf16) (x6 : Vec F S1x1x768 .f32) (x7 : Vec F S1x768x768 .bf16) (x8 : Vec F S1x1x768 .f32) (x9 : Vec F S2048x768 .f32) (xs0 : Vec F S2048x256 .bf16) (xs1 : Vec F S256x768 .bf16) (xs2 : Vec F S256x768 .f32) (xs3 : Vec F S256x128 .f32) (xt0 : TbBuf (F := F) c tbM0) (xt1 : TbBuf (F := F) c tbM1) :
    Σ' (LS2 : List (View.Piece (Elt F) S256x768 .f32)), { LS3 : List (View.Piece (Elt F) S256x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare xs0 ∗ owns (c : Thread nD τ) arg15 fullShare xs1 ∗ owns (c : Thread nD τ) arg16 fullShare xs2 ∗ owns (c : Thread nD τ) arg17 fullShare xs3 ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare xs0 ∗ owns (c : Thread nD τ) arg15 fullShare xs1 ∗ (∃ f, arg16.view.loc (c : Thread nD τ) ↦[arg16.view.set]{fullShare} arg16.view.writes (Elt F) f LS2) ∗ (arg17.view.loc (c : Thread nD τ) ↦[arg17.view.set]{fullShare} arg17.view.writes (Elt F) (harg17.unread xs3) LS3) ∗ tbPt c tbM0 xt0 ∗ tbPt c tbM1 xt1) -∗ K ⟨⟩))
          ⊢ wp frame (wpE (defs₀ (F := F)) Variants.none c none) E (cc2__moe_attn_body i tbM0 htbM0 tbM1 htbM1 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc2__moe_attn_body_eq_skeleton]; unfold cc2__moe_attn_body_skel
    simp only [k2_part4_eq_skeleton, k2_part5_eq_skeleton, k2_part6_eq_skeleton, k2_part7_eq_skeleton, k2_part8_eq_skeleton, k2_part9_eq_skeleton]
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, HT0, HT1, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact hc0 | sl_exact hc1)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    isplitl [H17]; · iexact H17
    isplitl [HT0]; · iexact HT0
    iexact HT1

end Cert.KernelIdeal.Own

end
-- ==== Proof.RunC.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.RunB

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The attention body where the first block closes: the pieces its stores leave, with the proof that the body runs from the
    given contents to a continuation holding them. -/
def runC (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : isFirst i) (hc3 : ¬isLater i)
    (x0 : Vec F S2048x768 .bf16) (x1 : Vec F S2048x8 .f32) (x2 : Vec F S2048x8 .f32) (x3 : Vec F S1x512x768 .bf16) (x4 : Vec F S1x512x768 .bf16) (x5 : Vec F S1x768x768 .bf16) (x6 : Vec F S1x1x768 .f32) (x7 : Vec F S1x768x768 .bf16) (x8 : Vec F S1x1x768 .f32) (xs0 : Vec F S2048x256 .bf16) (xs1 : Vec F S256x768 .bf16) (xs2 : Vec F S256x768 .f32) (xs3 : Vec F S256x128 .f32) (xt0 : TbBuf (F := F) c tbM0) (xt1 : TbBuf (F := F) c tbM1) :
    Σ' (LO : List (View.Piece (Elt F) S2048x768 .f32)), Σ' (LS2 : List (View.Piece (Elt F) S256x768 .f32)), { LS3 : List (View.Piece (Elt F) S256x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ f, arg13.view.loc (c : Thread nD τ) ↦[arg13.view.set]{fullShare} arg13.view.writes (Elt F) f LO) ∗ owns (c : Thread nD τ) arg14 fullShare xs0 ∗ owns (c : Thread nD τ) arg15 fullShare xs1 ∗ (∃ f, arg16.view.loc (c : Thread nD τ) ↦[arg16.view.set]{fullShare} arg16.view.writes (Elt F) f LS2) ∗ (arg17.view.loc (c : Thread nD τ) ↦[arg17.view.set]{fullShare} arg17.view.writes (Elt F) (harg17.unread xs3) LS3) ∗ tbPt c tbM0 xt0 ∗ tbPt c tbM1 xt1) -∗ K ⟨⟩))
          ⊢ wp frame (wpE (defs₀ (F := F)) Variants.none c none) E (cc2__moe_attn_body i tbM0 htbM0 tbM1 htbM1 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc2__moe_attn_body_eq_skeleton]; unfold cc2__moe_attn_body_skel
    simp only [k2_part4_eq_skeleton, k2_part5_eq_skeleton, k2_part6_eq_skeleton, k2_part7_eq_skeleton, k2_part8_eq_skeleton, k2_part9_eq_skeleton, k2_part2_eq_skeleton, k2_part3_eq_skeleton]
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%f16, %hf16, H16⟩, ⟨%f17, %hf17, H17⟩, HT0, HT1, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14; obtain rfl := harg15.eq_unread hf15; obtain rfl := harg16.eq_unread hf16; obtain rfl := harg17.eq_unread hf17
    sl_exec (disch := first | sl_exact hc0 | sl_exact hc1 | sl_exact hc2 | sl_exact hc3)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    isplitl [H17]; · iexact H17
    isplitl [HT0]; · iexact HT0
    iexact HT1

end Cert.KernelIdeal.Own

end
-- ==== Proof.RunD.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.RunC

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The attention body where a later block closes: the pieces its stores leave, with the proof that the body runs from the
    given contents to a continuation holding them. -/
def runD (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : ¬isFirst i) (hc3 : isLater i)
    (x0 : Vec F S2048x768 .bf16) (x1 : Vec F S2048x8 .f32) (x2 : Vec F S2048x8 .f32) (x3 : Vec F S1x512x768 .bf16) (x4 : Vec F S1x512x768 .bf16) (x5 : Vec F S1x768x768 .bf16) (x6 : Vec F S1x1x768 .f32) (x7 : Vec F S1x768x768 .bf16) (x8 : Vec F S1x1x768 .f32) (x9 : Vec F S2048x768 .f32) (xs0 : Vec F S2048x256 .bf16) (xs1 : Vec F S256x768 .bf16) (xs2 : Vec F S256x768 .f32) (xs3 : Vec F S256x128 .f32) (xt0 : TbBuf (F := F) c tbM0) (xt1 : TbBuf (F := F) c tbM1) :
    Σ' (LO : List (View.Piece (Elt F) S2048x768 .f32)), Σ' (LS2 : List (View.Piece (Elt F) S256x768 .f32)), { LS3 : List (View.Piece (Elt F) S256x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare xs0 ∗ owns (c : Thread nD τ) arg15 fullShare xs1 ∗ owns (c : Thread nD τ) arg16 fullShare xs2 ∗ owns (c : Thread nD τ) arg17 fullShare xs3 ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ f, arg13.view.loc (c : Thread nD τ) ↦[arg13.view.set]{fullShare} arg13.view.writes (Elt F) f LO) ∗ owns (c : Thread nD τ) arg14 fullShare xs0 ∗ owns (c : Thread nD τ) arg15 fullShare xs1 ∗ (∃ f, arg16.view.loc (c : Thread nD τ) ↦[arg16.view.set]{fullShare} arg16.view.writes (Elt F) f LS2) ∗ (arg17.view.loc (c : Thread nD τ) ↦[arg17.view.set]{fullShare} arg17.view.writes (Elt F) (harg17.unread xs3) LS3) ∗ tbPt c tbM0 xt0 ∗ tbPt c tbM1 xt1) -∗ K ⟨⟩))
          ⊢ wp frame (wpE (defs₀ (F := F)) Variants.none c none) E (cc2__moe_attn_body i tbM0 htbM0 tbM1 htbM1 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc2__moe_attn_body_eq_skeleton]; unfold cc2__moe_attn_body_skel
    simp only [k2_part4_eq_skeleton, k2_part5_eq_skeleton, k2_part6_eq_skeleton, k2_part7_eq_skeleton, k2_part8_eq_skeleton, k2_part9_eq_skeleton, k2_part2_eq_skeleton, k2_part3_eq_skeleton]
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, HT0, HT1, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact hc0 | sl_exact hc1 | sl_exact hc2 | sl_exact hc3)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    isplitl [H17]; · iexact H17
    isplitl [HT0]; · iexact HT0
    iexact HT1

end Cert.KernelIdeal.Own

end
-- ==== Proof.Head.lean ====
module

public import proofs.«01_k».proof.Proof.Gen.KernelIdeal
public import proofs.«01_k».proof.Proof.Gen.KernelIdeal.Skeleton
public import Idealize.ShloMosaic.Lib.Pipeline.FrameBody
public import Idealize.ShloMosaic.Lib.WritesUnit
public import Idealize.ShloMosaic.Lib.Pointwise

@[expose] public section

set_option maxRecDepth 16384

noncomputable section

namespace Cert.Val

open Idealize.ShloMosaic Idealize.ShloMosaic.TcCoe
open Cert.KernelIdeal hiding ix2
open Cert.KernelIdeal.Gen

variable {F : FTy → Type} [FloatOps F]

/-! # One head of the attention

The twelve heads of a chunk run the same operations at columns `64 h … 64 h + 63`. They are stated once, with the offset as
an argument. -/

theorem slices_q (h : ℕ) (hh : h < 12) : S256x768.Slices ![0, 64 * h] S256x64 := by
  interval_cases h <;> decide
theorem slices_k (h : ℕ) (hh : h < 12) : S512x768.Slices ![0, 64 * h] S512x64 := by
  interval_cases h <;> decide
theorem inb_acc (h : ℕ) (hh : h < 12) : ∀ a : Fin 2, (![0, 64 * h] : Fin 2 → ℕ) a + S256x64.size a ≤ S256x768.size a := by
  interval_cases h <;> decide
theorem inb_l (h : ℕ) (hh : h < 12) : ∀ a : Fin 2, (![0, h] : Fin 2 → ℕ) a + S256x1.size a ≤ S256x128.size a := by
  interval_cases h <;> decide

/-- The exponentials of the scores of head `h`. -/
def hE (q : FVec F S256x768 .bf16) (k : FVec F S512x768 .bf16) (h : ℕ) (hh : h < 12) : FVec F S256x512 .f32 :=
  exp (matmul dot_S256x64_S512x64_S256x512_1_1_0_0_n_n none
    (extractStridedSlice S256x64 ![0, 64 * h] q (slices_q h hh))
    (extractStridedSlice S512x64 ![0, 64 * h] k (slices_k h hh)) (constant S256x512 .f32 0x00000000#32))

/-- The new columns of the accumulator. -/
def hAcc (q : FVec F S256x768 .bf16) (k v : FVec F S512x768 .bf16) (h : ℕ) (hh : h < 12) (old : FVec F S256x64 .f32) :
    FVec F S256x64 .f32 :=
  shapeCast S256x64 (addf old (matmul dot_S256x512_S512x64_S256x64_1_0_0_1_n_n none
    (truncf .bf16 (hE q k h hh) bitsLt_bf16_f32) (extractStridedSlice S512x64 ![0, 64 * h] v (slices_k h hh))
    (constant S256x64 .f32 0x00000000#32))) shapeCasts_S256x64_S256x64

/-- The new column of the normalizer. -/
def hL (q : FVec F S256x768 .bf16) (k : FVec F S512x768 .bf16) (h : ℕ) (hh : h < 12) (old : FVec F S256x1 .f32) :
    FVec F S256x1 .f32 :=
  shapeCast S256x1 (addf old (shapeCast S256x1 (multiReduction .add [1] S256 (hE q k h hh) 0x00000000#32
    reduces_S256x512_S256 (.inl rfl) rfl) shapeCasts_S256_S256x1)) shapeCasts_S256x1_S256x1

abbrev rAcc (h : ℕ) (hh : h < 12) : Rect S256x768 := Rect.unit (s := S256x768) ![0, 64 * h] S256x64.size (inb_acc h hh)
abbrev rL (h : ℕ) (hh : h < 12) : Rect S256x128 := Rect.unit (s := S256x128) ![0, h] S256x1.size (inb_l h hh)

/-- The accumulator's first `n` stores when each reads the stores before it. -/
def lstAccA (a16 : Memref sig .tc .vmem S256x768 .f32) (q : FVec F S256x768 .bf16) (k v : FVec F S512x768 .bf16)
    (z : View.Piece (Elt F) S256x768 .f32) : (n : ℕ) → n ≤ 12 → List (View.Piece (Elt F) S256x768 .f32)
  | 0, _ => [z]
  | n + 1, hn => ⟨rAcc n hn, hAcc q k v n hn
      (a16.view.readCov (lstAccA a16 q k v z n (Nat.le_of_succ_le hn)) (rAcc n hn).toLoadRect)⟩
      :: lstAccA a16 q k v z n (Nat.le_of_succ_le hn)
def lstLA (a17 : Memref sig .tc .vmem S256x128 .f32) (q : FVec F S256x768 .bf16) (k : FVec F S512x768 .bf16)
    (z : View.Piece (Elt F) S256x128 .f32) : (n : ℕ) → n ≤ 12 → List (View.Piece (Elt F) S256x128 .f32)
  | 0, _ => [z]
  | n + 1, hn => ⟨rL n hn, hL q k n hn
      (a17.view.readCov (lstLA a17 q k z n (Nat.le_of_succ_le hn)) (rL n hn).toLoadRect)⟩
      :: lstLA a17 q k z n (Nat.le_of_succ_le hn)

/-- The same when each reads what was held before. -/
def lstAccB (q : FVec F S256x768 .bf16) (k v : FVec F S512x768 .bf16)
    (ld : (h : ℕ) → (hh : h < 12) → FVec F S256x64 .f32) : (n : ℕ) → n ≤ 12 → List (View.Piece (Elt F) S256x768 .f32)
  | 0, _ => []
  | n + 1, hn => ⟨rAcc n hn, hAcc q k v n hn (ld n hn)⟩ :: lstAccB q k v ld n (Nat.le_of_succ_le hn)
def lstLB (q : FVec F S256x768 .bf16) (k : FVec F S512x768 .bf16)
    (ld : (h : ℕ) → (hh : h < 12) → FVec F S256x1 .f32) : (n : ℕ) → n ≤ 12 → List (View.Piece (Elt F) S256x128 .f32)
  | 0, _ => []
  | n + 1, hn => ⟨rL n hn, hL q k n hn (ld n hn)⟩ :: lstLB q k ld n (Nat.le_of_succ_le hn)

/-! ## Their values over the reals -/

/-- The scores' exponential. -/
def eS (q : FVec Ideal S256x768 .bf16) (k : FVec Ideal S512x768 .bf16) (h : ℕ) (hh : h < 12) (t : Fin 256) (j : Fin 512) : EReal :=
  Ideal.exp (∑ d : Fin 64, q (ix2 t ⟨64 * h + d.val, by omega⟩) * k (ix2 j ⟨64 * h + d.val, by omega⟩))

theorem hE_val (q : FVec Ideal S256x768 .bf16) (k : FVec Ideal S512x768 .bf16) (h : ℕ) (hh : h < 12) (t : Fin 256) (j : Fin 512) :
    hE q k h hh (ix2 t j) = eS q k h hh t j := by
  pointwise [hE, eS]

theorem hAcc_val (q : FVec Ideal S256x768 .bf16) (k v : FVec Ideal S512x768 .bf16) (h : ℕ) (hh : h < 12)
    (old : FVec Ideal S256x64 .f32) (t : Fin 256) (d : Fin 64) :
    hAcc q k v h hh old (ix2 t d)
      = old (ix2 t d) + ∑ j : Fin 512, eS q k h hh t j * v (ix2 j ⟨64 * h + d.val, by omega⟩) := by
  pointwise [hAcc, hE_val]

theorem hL_val (q : FVec Ideal S256x768 .bf16) (k : FVec Ideal S512x768 .bf16) (h : ℕ) (hh : h < 12)
    (old : FVec Ideal S256x1 .f32) (t : Fin 256) :
    hL q k h hh old (ix2 t 0) = old (ix2 t 0) + ∑ j : Fin 512, eS q k h hh t j := by
  pointwise [hL, hE_val]

/-- One chunk's step of the accumulator, -/
def accS (q : FVec Ideal S256x768 .bf16) (k v : FVec Ideal S512x768 .bf16) (a : FVec Ideal S256x768 .f32) :
    FVec Ideal S256x768 .f32 := fun y =>
  a y + ∑ j : Fin 512, eS q k ((y 1).val / 64) (by have := (y 1).isLt; change _ < 768 at this; omega) (y 0) j * v (ix2 j (y 1))

/-- and of the normalizer. -/
def lS (q : FVec Ideal S256x768 .bf16) (k : FVec Ideal S512x768 .bf16) (l : FVec Ideal S256x128 .f32) :
    FVec Ideal S256x128 .f32 := fun y =>
  if h : (y 1).val < 12 then l y + ∑ j : Fin 512, eS q k (y 1).val h (y 0) j else l y

theorem hAcc_step (q : FVec Ideal S256x768 .bf16) (k v : FVec Ideal S512x768 .bf16) (a : FVec Ideal S256x768 .f32)
    (h : ℕ) (hh : h < 12) (old : FVec Ideal S256x64 .f32) (ho : ∀ x, old x = a ((rAcc h hh).emb x)) (x : S256x64.Idx) :
    hAcc q k v h hh old x = accS q k v a ((rAcc h hh).emb x) := by
  obtain ⟨t, d, rfl⟩ : ∃ (t : Fin 256) (d : Fin 64), x = ix2 t d := ⟨x 0, x 1, eq_ix2 x⟩
  rw [hAcc_val, ho]
  have e0 : (rAcc h hh).emb (ix2 t d) 0 = t := Fin.ext (by simp [Rect.emb_apply, ix2])
  have e1 : (rAcc h hh).emb (ix2 t d) 1 = (⟨64 * h + d.val, by omega⟩ : Fin 768) := Fin.ext (by simp [Rect.emb_apply, ix2])
  have e2 : (64 * h + d.val) / 64 = h := by omega
  unfold accS
  simp only [e0, e1, e2]

theorem hL_step (q : FVec Ideal S256x768 .bf16) (k : FVec Ideal S512x768 .bf16) (l : FVec Ideal S256x128 .f32)
    (h : ℕ) (hh : h < 12) (old : FVec Ideal S256x1 .f32) (ho : ∀ x, old x = l ((rL h hh).emb x)) (x : S256x1.Idx) :
    hL q k h hh old x = lS q k l ((rL h hh).emb x) := by
  obtain ⟨t, d, rfl⟩ : ∃ (t : Fin 256) (d : Fin 1), x = ix2 t d := ⟨x 0, x 1, eq_ix2 x⟩
  obtain rfl : d = 0 := Subsingleton.elim _ _
  rw [hL_val, ho]
  have e0 : (rL h hh).emb (ix2 t 0) 0 = t := Fin.ext (by simp [Rect.emb_apply, ix2])
  have e1 : (rL h hh).emb (ix2 t 0) 1 = (⟨h, by omega⟩ : Fin 128) := Fin.ext (by simp [Rect.emb_apply, ix2])
  unfold lS
  simp only [e0, e1, hh, dite_true]

section
variable {sp : Space}

theorem read_cons_off {s : Shape} {e : EltTy} (v : View sig .tc sp s e) (f : v.ty.Contents (Elt Ideal)) (r : Rect s) (w : r.shape.Idx → Elt Ideal e)
    (L : List (View.Piece (Elt Ideal) s e)) (y : s.Idx) (h : y ∉ r.set) :
    v.read (Elt Ideal) (v.writes (Elt Ideal) f (⟨r, w⟩ :: L)) y = v.read (Elt Ideal) (v.writes (Elt Ideal) f L) y := by
  rw [View.writes_cons, View.read_slice_write_of_not_mem r _ _ _ (by rwa [Rect.map_emb_univ])]

theorem not_mem_acc (n : ℕ) (hn : n < 12) (y : S256x768.Idx) (hm : y ∉ (rAcc n hn).set) :
    ¬ (64 * n ≤ (y 1).val ∧ (y 1).val < 64 * n + 64) := fun h => hm (Rect.mem_set_unit.mpr fun a => by
  have h0 : (y 0).val < 256 := (y 0).isLt
  fin_cases a
  · exact ⟨Nat.zero_le _, by simpa using h0⟩
  · exact h)

theorem not_mem_l (n : ℕ) (hn : n < 12) (y : S256x128.Idx) (hm : y ∉ (rL n hn).set) : (y 1).val ≠ n := fun h =>
  hm (Rect.mem_set_unit.mpr fun a => by
  have h0 : (y 0).val < 256 := (y 0).isLt
  fin_cases a
  · exact ⟨Nat.zero_le _, by simpa using h0⟩
  · exact ⟨h.ge, show (y 1).val < n + 1 by omega⟩)

theorem read_accB (v : View sig .tc sp S256x768 .f32) (f : v.ty.Contents (Elt Ideal)) (q : FVec Ideal S256x768 .bf16)
    (k w : FVec Ideal S512x768 .bf16) (a : FVec Ideal S256x768 .f32) (ld : (h : ℕ) → (hh : h < 12) → FVec Ideal S256x64 .f32)
    (ho : ∀ h hh x, ld h hh x = a ((rAcc h hh).emb x))
    (n : ℕ) (hn : n ≤ 12) (y : S256x768.Idx) :
    v.read (Elt Ideal) (v.writes (Elt Ideal) f (lstAccB q k w ld n hn)) y
      = if (y 1).val < 64 * n then accS q k w a y else v.read (Elt Ideal) f y := by
  induction n with
  | zero =>
    simp [lstAccB, View.writes_nil]
  | succ n ih =>
    unfold lstAccB
    by_cases hm : y ∈ (rAcc n hn).set
    · obtain ⟨x, rfl⟩ : ∃ x, (rAcc n hn).emb x = y := (rAcc n hn).exists_idx_of_mem hm
      have h1 := (x 1).isLt
      change _ < 64 at h1
      have e1 : ((rAcc n hn).emb x 1).val = 64 * n + (x 1).val := by simp [Rect.emb_apply]
      have hlt : ((rAcc n hn).emb x 1).val < 64 * (n + 1) := by rw [e1]; omega
      refine (View.read_writes_cons_emb _ _ _ _ _ x).trans (Eq.trans ?_ (if_pos hlt).symm)
      exact hAcc_step q k w a n hn _ (ho n hn) x
    · rw [read_cons_off v f (rAcc n hn) _ _ y hm, ih]
      have := not_mem_acc n hn y hm
      by_cases h2 : (y 1).val < 64 * n
      · rw [if_pos h2, if_pos (by omega)]
      · rw [if_neg h2, if_neg (by omega)]

theorem read_accA (v : View sig .tc .vmem S256x768 .f32) (f : v.ty.Contents (Elt Ideal)) (q : FVec Ideal S256x768 .bf16)
    (k w : FVec Ideal S512x768 .bf16) (a : FVec Ideal S256x768 .f32) (a16 : Memref sig .tc .vmem S256x768 .f32) (z : View.Piece (Elt Ideal) S256x768 .f32) (hz : ∀ y, ∃ x, z.1.emb x = y ∧ z.2 x = a y)
    (n : ℕ) (hn : n ≤ 12) (y : S256x768.Idx) :
    v.read (Elt Ideal) (v.writes (Elt Ideal) f (lstAccA a16 q k w z n hn)) y
      = if (y 1).val < 64 * n then accS q k w a y else a y := by
  induction n generalizing v f y with
  | zero =>
    obtain ⟨x, rfl, hx⟩ := hz y
    rw [if_neg (by omega), ← hx]
    exact View.read_writes_cons_emb (v := v) (f := f) z.1 z.2 [] x
  | succ n ih =>
    unfold lstAccA
    by_cases hm : y ∈ (rAcc n hn).set
    · obtain ⟨x, rfl⟩ : ∃ x, (rAcc n hn).emb x = y := (rAcc n hn).exists_idx_of_mem hm
      have h1 := (x 1).isLt
      change _ < 64 at h1
      have e1 : ((rAcc n hn).emb x 1).val = 64 * n + (x 1).val := by simp [Rect.emb_apply]
      have hlt : ((rAcc n hn).emb x 1).val < 64 * (n + 1) := by rw [e1]; omega
      refine (View.read_writes_cons_emb _ _ _ _ _ x).trans (Eq.trans ?_ (if_pos hlt).symm)
      exact hAcc_step q k w a n hn _ (fun x => by
        have := ih a16.view a16.view.junk (Nat.le_of_succ_le hn) ((rAcc n hn).emb x)
        have e1 : ((rAcc n hn).emb x 1).val = 64 * n + (x 1).val := by simp [Rect.emb_apply]
        rw [if_neg (by rw [e1]; omega)] at this
        exact this) x
    · rw [read_cons_off v f (rAcc n hn) _ _ y hm, ih]
      have := not_mem_acc n hn y hm
      by_cases h2 : (y 1).val < 64 * n
      · rw [if_pos h2, if_pos (by omega)]
      · rw [if_neg h2, if_neg (by omega)]

theorem read_lB (v : View sig .tc sp S256x128 .f32) (f : v.ty.Contents (Elt Ideal)) (q : FVec Ideal S256x768 .bf16)
    (k : FVec Ideal S512x768 .bf16) (a : FVec Ideal S256x128 .f32) (ld : (h : ℕ) → (hh : h < 12) → FVec Ideal S256x1 .f32)
    (ho : ∀ h hh x, ld h hh x = a ((rL h hh).emb x))
    (n : ℕ) (hn : n ≤ 12) (y : S256x128.Idx) :
    v.read (Elt Ideal) (v.writes (Elt Ideal) f (lstLB q k ld n hn)) y
      = if (y 1).val < n then lS q k a y else v.read (Elt Ideal) f y := by
  induction n with
  | zero =>
    simp [lstLB, View.writes_nil]
  | succ n ih =>
    unfold lstLB
    by_cases hm : y ∈ (rL n hn).set
    · obtain ⟨x, rfl⟩ : ∃ x, (rL n hn).emb x = y := (rL n hn).exists_idx_of_mem hm
      have h1 := (x 1).isLt
      change _ < 1 at h1
      have e1 : ((rL n hn).emb x 1).val = n + (x 1).val := by simp [Rect.emb_apply]
      have hlt : ((rL n hn).emb x 1).val < n + 1 := by rw [e1]; omega
      refine (View.read_writes_cons_emb _ _ _ _ _ x).trans (Eq.trans ?_ (if_pos hlt).symm)
      exact hL_step q k a n hn _ (ho n hn) x
    · rw [read_cons_off v f (rL n hn) _ _ y hm, ih]
      have := not_mem_l n hn y hm
      by_cases h2 : (y 1).val < n
      · rw [if_pos h2, if_pos (by omega)]
      · rw [if_neg h2, if_neg (by omega)]

theorem read_lA (v : View sig .tc .vmem S256x128 .f32) (f : v.ty.Contents (Elt Ideal)) (q : FVec Ideal S256x768 .bf16)
    (k : FVec Ideal S512x768 .bf16) (a : FVec Ideal S256x128 .f32) (a16 : Memref sig .tc .vmem S256x128 .f32) (z : View.Piece (Elt Ideal) S256x128 .f32) (hz : ∀ y, ∃ x, z.1.emb x = y ∧ z.2 x = a y)
    (n : ℕ) (hn : n ≤ 12) (y : S256x128.Idx) :
    v.read (Elt Ideal) (v.writes (Elt Ideal) f (lstLA a16 q k z n hn)) y
      = if (y 1).val < n then lS q k a y else a y := by
  induction n generalizing v f y with
  | zero =>
    obtain ⟨x, rfl, hx⟩ := hz y
    rw [if_neg (by omega), ← hx]
    exact View.read_writes_cons_emb (v := v) (f := f) z.1 z.2 [] x
  | succ n ih =>
    unfold lstLA
    by_cases hm : y ∈ (rL n hn).set
    · obtain ⟨x, rfl⟩ : ∃ x, (rL n hn).emb x = y := (rL n hn).exists_idx_of_mem hm
      have h1 := (x 1).isLt
      change _ < 1 at h1
      have e1 : ((rL n hn).emb x 1).val = n + (x 1).val := by simp [Rect.emb_apply]
      have hlt : ((rL n hn).emb x 1).val < n + 1 := by rw [e1]; omega
      refine (View.read_writes_cons_emb _ _ _ _ _ x).trans (Eq.trans ?_ (if_pos hlt).symm)
      exact hL_step q k a n hn _ (fun x => by
        have := ih a16.view a16.view.junk (Nat.le_of_succ_le hn) ((rL n hn).emb x)
        have e1 : ((rL n hn).emb x 1).val = n + (x 1).val := by simp [Rect.emb_apply]
        rw [if_neg (by rw [e1]; omega)] at this
        exact this) x
    · rw [read_cons_off v f (rL n hn) _ _ y hm, ih]
      have := not_mem_l n hn y hm
      by_cases h2 : (y 1).val < n
      · rw [if_pos h2, if_pos (by omega)]
      · rw [if_neg h2, if_neg (by omega)]

end

end Cert.Val
end
-- ==== Proof.Step.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.RunD
public import proofs.«01_k».proof.Proof.Head
public import Idealize.ShloMosaic.Lib.WholeRead
public import Idealize.ShloMosaic.Lib.Pipeline.ValueKit.Acc

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

open Cert.Val

/-! # What one point of the attention call leaves, in closed form -/

theorem read_whole {S : Shape} {e : EltTy} (v : View sig .tc .vmem S e) (f : v.ty.Contents (Elt Ideal)) {off : Fin S.rank → Nat}
    (inb : ∀ a, off a + S.size a ≤ S.size a) (w : S.Idx → Elt Ideal e) (h : ∀ a, off a = 0) :
    v.read (Elt Ideal) (v.writes (Elt Ideal) f [⟨Rect.unit off S.size inb, w⟩]) = w := by
  have e0 : off = fun _ => 0 := funext h
  subst e0
  funext y
  have hy : (Rect.whole S).emb y = y := Rect.emb_whole_apply S y
  have := View.read_writes_cons_emb v f (Rect.whole S) w [] y
  rw [hy] at this
  exact this

theorem emb_whole {S : Shape} {off : Fin S.rank → Nat} (inb : ∀ a, off a + S.size a ≤ S.size a) (h : ∀ a, off a = 0) (y : S.Idx) :
    (Rect.unit off S.size inb).emb y = y := by
  have e0 : off = fun _ => 0 := funext h
  subst e0
  exact Rect.emb_whole_apply S y

theorem readAt_rect {S : Shape} {e : EltTy} {m : Memref sig .tc .vmem S e} (hm : m.IsWhole) (X : S.Idx → Elt Ideal e) (r : Rect S) (x : r.shape.Idx) :
    View.readAt (Elt Ideal) m.view r.toLoadRect (hm.unread X) x = X (r.emb x) := congrFun (hm.read_unread X) (r.emb x)

theorem load_whole {S : Shape} {e : EltTy} {m : Memref sig .tc .vmem S e} (hm : m.IsWhole) (X : S.Idx → Elt Ideal e)
    {off : Fin S.rank → Nat} (inb : ∀ a, off a + S.size a ≤ S.size a) (h : ∀ a, off a = 0) :
    View.readAt (Elt Ideal) m.view (Rect.unit off S.size inb).toLoadRect (hm.unread X) = X := by
  rw [View.readAt_eq_ld, hm.read_unread]; exact View.ld_unit_lit inb X h

/-- The word of the first table at the block of the point. -/
def tw0 (c : Dev nD) (xt : TbBuf (F := Ideal) c tbM0) (i : grid2.Coords) : BitVec 32 :=
  View.readAt (Elt Ideal) tbM0.view (Rect.unit (s := S32) (k2_off1 i) S1.size (k2_off1_inb i)).toLoadRect xt (Shape.Idx.first numel1_S1.ge)
/-- The word of the second table at the block of the point. -/
def tw1 (c : Dev nD) (xt : TbBuf (F := Ideal) c tbM1) (i : grid2.Coords) : BitVec 32 :=
  View.readAt (Elt Ideal) tbM1.view (Rect.unit (s := S32) (k2_off1 i) S1.size (k2_off1_inb i)).toLoadRect xt (Shape.Idx.first numel1_S1.ge)

/-- The dispatch matrix of a block. -/
abbrev mtS (w0 w1 : BitVec 32) (cu ga : FVec Ideal S2048x8 .f32) : FVec Ideal S2048x256 .bf16 := k2_pay7 (F := Ideal) w0 w1 cu ga
/-- The scaled queries of a block. -/
abbrev qS (w0 w1 : BitVec 32) (cu ga : FVec Ideal S2048x8 .f32) (x : FVec Ideal S2048x768 .bf16) (qw : FVec Ideal S1x768x768 .bf16) (qb : FVec Ideal S1x1x768 .f32) :
    FVec Ideal S256x768 .bf16 := k2_pay19 (F := Ideal) (k2_pay8 (F := Ideal) w0 w1 cu ga x) qw qb
/-- A block of keys or of values, a matrix. -/
abbrev kS (x : FVec Ideal S1x512x768 .bf16) : FVec Ideal S512x768 .bf16 := k2_pay22 (F := Ideal) x
/-- What a closing block adds to the output, from the columns of the sums. -/
def conC (mt : FVec Ideal S2048x256 .bf16) (a : FVec Ideal S256x768 .f32) (l : (h : ℕ) → h < 12 → FVec Ideal S256x1 .f32)
    (ow : FVec Ideal S1x768x768 .bf16) (ob : FVec Ideal S1x1x768 .f32) (w : BitVec 32) (ga : FVec Ideal S2048x8 .f32) : FVec Ideal S2048x768 .f32 :=
  k2_pay18 (F := Ideal) mt a (k2_pay9 a (l 0 (by omega))) (k2_pay10 a (l 1 (by omega))) (k2_pay11 a (l 2 (by omega))) (k2_pay12 a (l 3 (by omega)))
    (k2_pay13 a (l 4 (by omega))) (k2_pay14 a (l 5 (by omega))) (k2_pay15 a (l 6 (by omega))) (k2_pay16 a (l 7 (by omega))) (k2_pay17 a (l 8 (by omega)))
    (l 9 (by omega)) (l 10 (by omega)) (l 11 (by omega)) ow ob w ga
/-- What a closing block adds to the output. -/
def conS (mt : FVec Ideal S2048x256 .bf16) (a : FVec Ideal S256x768 .f32) (l : FVec Ideal S256x128 .f32)
    (ow : FVec Ideal S1x768x768 .bf16) (ob : FVec Ideal S1x1x768 .f32) (w : BitVec 32) (ga : FVec Ideal S2048x8 .f32) : FVec Ideal S2048x768 .f32 :=
  conC mt a (fun h hh j => l ((rL h hh).emb j)) ow ob w ga

theorem accB_read {m7 : Memref sig .tc .vmem S256x768 .f32} (hm : m7.IsWhole) (f : m7.view.ty.Contents (Elt Ideal)) (q : FVec Ideal S256x768 .bf16) (k v : FVec Ideal S512x768 .bf16)
    (a : FVec Ideal S256x768 .f32) :
    m7.view.read (Elt Ideal) (m7.view.writes (Elt Ideal) f (lstAccB q k v (fun h hh => View.readAt (Elt Ideal) m7.view (rAcc h hh).toLoadRect (hm.unread a)) 12 le_rfl)) = accS q k v a := by
  funext y
  rw [read_accB m7.view f q k v a _ (fun h hh x => readAt_rect hm a (rAcc h hh) x) 12 le_rfl y]
  exact if_pos (y 1).isLt

theorem lB_read {m7 : Memref sig .tc .vmem S256x128 .f32} (hm : m7.IsWhole) (q : FVec Ideal S256x768 .bf16) (k : FVec Ideal S512x768 .bf16)
    (a : FVec Ideal S256x128 .f32) :
    m7.view.read (Elt Ideal) (m7.view.writes (Elt Ideal) (hm.unread a) (lstLB q k (fun h hh => View.readAt (Elt Ideal) m7.view (rL h hh).toLoadRect (hm.unread a)) 12 le_rfl)) = lS q k a := by
  funext y
  rw [read_lB m7.view (hm.unread a) q k a _ (fun h hh x => readAt_rect hm a (rL h hh) x) 12 le_rfl y, hm.read_unread]
  split
  · rfl
  · rename_i h; unfold lS; rw [dif_neg h]

theorem accA_read (m7 : Memref sig .tc .vmem S256x768 .f32) (f : m7.view.ty.Contents (Elt Ideal)) (q : FVec Ideal S256x768 .bf16) (k v : FVec Ideal S512x768 .bf16)
    (a : FVec Ideal S256x768 .f32) :
    m7.view.read (Elt Ideal) (m7.view.writes (Elt Ideal) f (lstAccA m7 q k v ⟨Rect.unit (s := S256x768) ![0, 0] S256x768.size inb_S256x768_S256x768_0_0, a⟩ 12 le_rfl)) = accS q k v a := by
  funext y
  rw [read_accA m7.view f q k v a m7 _ (fun y => ⟨y, emb_whole (inb_S256x768_S256x768_0_0) (by decide) y, rfl⟩) 12 le_rfl y]
  exact if_pos (y 1).isLt

theorem lA_read (m7 : Memref sig .tc .vmem S256x128 .f32) (f : m7.view.ty.Contents (Elt Ideal)) (q : FVec Ideal S256x768 .bf16) (k : FVec Ideal S512x768 .bf16)
    (a : FVec Ideal S256x128 .f32) :
    m7.view.read (Elt Ideal) (m7.view.writes (Elt Ideal) f (lstLA m7 q k ⟨Rect.unit (s := S256x128) ![0, 0] S256x128.size inb_S256x128_S256x128_0_0, a⟩ 12 le_rfl)) = lS q k a := by
  funext y
  rw [read_lA m7.view f q k a m7 _ (fun y => ⟨y, emb_whole (inb_S256x128_S256x128_0_0) (by decide) y, rfl⟩) 12 le_rfl y]
  split
  · rfl
  · rename_i h; unfold lS; rw [dif_neg h]

section
variable {F : FTy → Type} [FloatOps F]

theorem runA_acc (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : opens i) (hc1 : ¬closes i)
    (x0 : Vec F S2048x768 .bf16) (x1 : Vec F S2048x8 .f32) (x2 : Vec F S2048x8 .f32) (x3 : Vec F S1x512x768 .bf16) (x4 : Vec F S1x512x768 .bf16) (x5 : Vec F S1x768x768 .bf16) (x6 : Vec F S1x1x768 .f32) (x7 : Vec F S1x768x768 .bf16) (x8 : Vec F S1x1x768 .f32) (x9 : Vec F S2048x768 .f32) (xt0 : TbBuf (F := F) c tbM0) (xt1 : TbBuf (F := F) c tbM1) :
    (runA c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xt0 xt1).2.2.1 = lstAccA arg16 (arg15.view.readCov (runA c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xt0 xt1).2.1 (Rect.unit (s := S256x768) ![0, 0] S256x768.size inb_S256x768_S256x768_0_0).toLoadRect) (k2_pay22 (View.readAt (Elt F) arg7.view (Rect.unit (s := S1x512x768) ![0, 0, 0] S1x512x768.size inb_S1x512x768_S1x512x768_0_0_0).toLoadRect (harg7.unread x3))) (k2_pay22 (View.readAt (Elt F) arg8.view (Rect.unit (s := S1x512x768) ![0, 0, 0] S1x512x768.size inb_S1x512x768_S1x512x768_0_0_0).toLoadRect (harg8.unread x4))) ⟨Rect.unit (s := S256x768) ![0, 0] S256x768.size inb_S256x768_S256x768_0_0, k2_pay20⟩ 12 le_rfl := rfl

theorem runA_l (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : opens i) (hc1 : ¬closes i)
    (x0 : Vec F S2048x768 .bf16) (x1 : Vec F S2048x8 .f32) (x2 : Vec F S2048x8 .f32) (x3 : Vec F S1x512x768 .bf16) (x4 : Vec F S1x512x768 .bf16) (x5 : Vec F S1x768x768 .bf16) (x6 : Vec F S1x1x768 .f32) (x7 : Vec F S1x768x768 .bf16) (x8 : Vec F S1x1x768 .f32) (x9 : Vec F S2048x768 .f32) (xt0 : TbBuf (F := F) c tbM0) (xt1 : TbBuf (F := F) c tbM1) :
    (runA c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xt0 xt1).2.2.2.1 = lstLA arg17 (arg15.view.readCov (runA c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xt0 xt1).2.1 (Rect.unit (s := S256x768) ![0, 0] S256x768.size inb_S256x768_S256x768_0_0).toLoadRect) (k2_pay22 (View.readAt (Elt F) arg7.view (Rect.unit (s := S1x512x768) ![0, 0, 0] S1x512x768.size inb_S1x512x768_S1x512x768_0_0_0).toLoadRect (harg7.unread x3))) ⟨Rect.unit (s := S256x128) ![0, 0] S256x128.size inb_S256x128_S256x128_0_0, k2_pay21⟩ 12 le_rfl := rfl

end

set_option maxHeartbeats 400000 in
theorem valA_mt (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : opens i) (hc1 : ¬closes i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xt0 : TbBuf (F := Ideal) c tbM0) (xt1 : TbBuf (F := Ideal) c tbM1) (f : arg14.view.ty.Contents (Elt Ideal)) :
    arg14.view.read (Elt Ideal) (arg14.view.writes (Elt Ideal) f (runA (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xt0 xt1).1) = mtS (tw0 c xt0 i) (tw1 c xt1 i) x1 x2 := by
  rw [show (runA (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xt0 xt1).1 = [⟨Rect.unit (s := S2048x256) ![0, 0] S2048x256.size inb_S2048x256_S2048x256_0_0, k2_pay7 (tw0 c xt0 i) (tw1 c xt1 i) (View.readAt (Elt Ideal) arg5.view (Rect.unit (s := S2048x8) ![0, 0] S2048x8.size inb_S2048x8_S2048x8_0_0).toLoadRect (harg5.unread x1)) (View.readAt (Elt Ideal) arg6.view (Rect.unit (s := S2048x8) ![0, 0] S2048x8.size inb_S2048x8_S2048x8_0_0).toLoadRect (harg6.unread x2))⟩] from rfl]
  rw [load_whole harg5 x1 _ (by decide), load_whole harg6 x2 _ (by decide)]
  exact read_whole arg14.view f _ _ (by decide)

set_option maxHeartbeats 400000 in
theorem valA_qL (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : opens i) (hc1 : ¬closes i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xt0 : TbBuf (F := Ideal) c tbM0) (xt1 : TbBuf (F := Ideal) c tbM1) :
    (runA (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xt0 xt1).2.1 = [⟨Rect.unit (s := S256x768) ![0, 0] S256x768.size inb_S256x768_S256x768_0_0, qS (tw0 c xt0 i) (tw1 c xt1 i) x1 x2 x0 x5 x6⟩] := by
  rw [show (runA (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xt0 xt1).2.1 = [⟨Rect.unit (s := S256x768) ![0, 0] S256x768.size inb_S256x768_S256x768_0_0, qS (tw0 c xt0 i) (tw1 c xt1 i) (View.readAt (Elt Ideal) arg5.view (Rect.unit (s := S2048x8) ![0, 0] S2048x8.size inb_S2048x8_S2048x8_0_0).toLoadRect (harg5.unread x1)) (View.readAt (Elt Ideal) arg6.view (Rect.unit (s := S2048x8) ![0, 0] S2048x8.size inb_S2048x8_S2048x8_0_0).toLoadRect (harg6.unread x2)) (View.readAt (Elt Ideal) arg4.view (Rect.unit (s := S2048x768) ![0, 0] S2048x768.size inb_S2048x768_S2048x768_0_0).toLoadRect (harg4.unread x0)) (View.readAt (Elt Ideal) arg9.view (Rect.unit (s := S1x768x768) ![0, 0, 0] S1x768x768.size inb_S1x768x768_S1x768x768_0_0_0).toLoadRect (harg9.unread x5)) (View.readAt (Elt Ideal) arg10.view (Rect.unit (s := S1x1x768) ![0, 0, 0] S1x1x768.size inb_S1x1x768_S1x1x768_0_0_0).toLoadRect (harg10.unread x6))⟩] from rfl]
  rw [load_whole harg5 x1 _ (by decide), load_whole harg6 x2 _ (by decide), load_whole harg4 x0 _ (by decide), load_whole harg9 x5 _ (by decide), load_whole harg10 x6 _ (by decide)]

set_option maxHeartbeats 400000 in
theorem valA_q (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : opens i) (hc1 : ¬closes i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xt0 : TbBuf (F := Ideal) c tbM0) (xt1 : TbBuf (F := Ideal) c tbM1) (f : arg15.view.ty.Contents (Elt Ideal)) :
    arg15.view.read (Elt Ideal) (arg15.view.writes (Elt Ideal) f (runA (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xt0 xt1).2.1) = qS (tw0 c xt0 i) (tw1 c xt1 i) x1 x2 x0 x5 x6 := by
  rw [valA_qL]
  exact read_whole arg15.view f _ _ (by decide)

set_option maxHeartbeats 400000 in
theorem valA_qc (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : opens i) (hc1 : ¬closes i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xt0 : TbBuf (F := Ideal) c tbM0) (xt1 : TbBuf (F := Ideal) c tbM1) :
    (arg15.view.readCov (runA (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xt0 xt1).2.1 (Rect.unit (s := S256x768) ![0, 0] S256x768.size inb_S256x768_S256x768_0_0).toLoadRect) = qS (tw0 c xt0 i) (tw1 c xt1 i) x1 x2 x0 x5 x6 := by
  rw [valA_qL]
  exact View.readCov_unit_lit arg15.view _ _ (by decide)

set_option maxHeartbeats 400000 in
theorem valA_acc (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : opens i) (hc1 : ¬closes i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xt0 : TbBuf (F := Ideal) c tbM0) (xt1 : TbBuf (F := Ideal) c tbM1) (f : arg16.view.ty.Contents (Elt Ideal)) :
    arg16.view.read (Elt Ideal) (arg16.view.writes (Elt Ideal) f (runA (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xt0 xt1).2.2.1)
      = accS (qS (tw0 c xt0 i) (tw1 c xt1 i) x1 x2 x0 x5 x6) (kS x3) (kS x4) k2_pay20 := by
  rw [runA_acc (F := Ideal)]
  rw [valA_qc, load_whole harg7 x3 _ (by decide), load_whole harg8 x4 _ (by decide)]
  exact accA_read arg16 f _ _ _ _

set_option maxHeartbeats 400000 in
theorem valA_l (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : opens i) (hc1 : ¬closes i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xt0 : TbBuf (F := Ideal) c tbM0) (xt1 : TbBuf (F := Ideal) c tbM1) (f : arg17.view.ty.Contents (Elt Ideal)) :
    arg17.view.read (Elt Ideal) (arg17.view.writes (Elt Ideal) f (runA (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xt0 xt1).2.2.2.1)
      = lS (qS (tw0 c xt0 i) (tw1 c xt1 i) x1 x2 x0 x5 x6) (kS x3) k2_pay21 := by
  rw [runA_l (F := Ideal)]
  rw [valA_qc, load_whole harg7 x3 _ (by decide)]
  exact lA_read arg17 f _ _ _

set_option maxHeartbeats 400000 in
theorem valB_accL (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : ¬closes i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    (runB (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xt0 xt1).1 = lstAccB xs1 (kS x3) (kS x4)
      (fun h hh => View.readAt (Elt Ideal) arg16.view (rAcc h hh).toLoadRect (harg16.unread xs2)) 12 le_rfl := by
  rw [show (runB (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xt0 xt1).1 = lstAccB (View.readAt (Elt Ideal) arg15.view (Rect.unit (s := S256x768) ![0, 0] S256x768.size inb_S256x768_S256x768_0_0).toLoadRect (harg15.unread xs1)) (k2_pay22 (View.readAt (Elt Ideal) arg7.view (Rect.unit (s := S1x512x768) ![0, 0, 0] S1x512x768.size inb_S1x512x768_S1x512x768_0_0_0).toLoadRect (harg7.unread x3))) (k2_pay22 (View.readAt (Elt Ideal) arg8.view (Rect.unit (s := S1x512x768) ![0, 0, 0] S1x512x768.size inb_S1x512x768_S1x512x768_0_0_0).toLoadRect (harg8.unread x4)))
      (fun h hh => View.readAt (Elt Ideal) arg16.view (rAcc h hh).toLoadRect (harg16.unread xs2)) 12 le_rfl from rfl]
  rw [load_whole harg15 xs1 _ (by decide), load_whole harg7 x3 _ (by decide), load_whole harg8 x4 _ (by decide)]

set_option maxHeartbeats 400000 in
theorem valB_lL (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : ¬closes i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    (runB (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xt0 xt1).2.1 = lstLB xs1 (kS x3)
      (fun h hh => View.readAt (Elt Ideal) arg17.view (rL h hh).toLoadRect (harg17.unread xs3)) 12 le_rfl := by
  rw [show (runB (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xt0 xt1).2.1 = lstLB (View.readAt (Elt Ideal) arg15.view (Rect.unit (s := S256x768) ![0, 0] S256x768.size inb_S256x768_S256x768_0_0).toLoadRect (harg15.unread xs1)) (k2_pay22 (View.readAt (Elt Ideal) arg7.view (Rect.unit (s := S1x512x768) ![0, 0, 0] S1x512x768.size inb_S1x512x768_S1x512x768_0_0_0).toLoadRect (harg7.unread x3)))
      (fun h hh => View.readAt (Elt Ideal) arg17.view (rL h hh).toLoadRect (harg17.unread xs3)) 12 le_rfl from rfl]
  rw [load_whole harg15 xs1 _ (by decide), load_whole harg7 x3 _ (by decide)]

set_option maxHeartbeats 400000 in
theorem valB_acc (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : ¬closes i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) (f : arg16.view.ty.Contents (Elt Ideal)) :
    arg16.view.read (Elt Ideal) (arg16.view.writes (Elt Ideal) f (runB (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xt0 xt1).1) = accS xs1 (kS x3) (kS x4) xs2 := by
  rw [valB_accL]; exact accB_read harg16 f _ _ _ _

set_option maxHeartbeats 400000 in
theorem valB_l (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : ¬closes i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    arg17.view.read (Elt Ideal) (arg17.view.writes (Elt Ideal) (harg17.unread xs3) (runB (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xt0 xt1).2.1) = lS xs1 (kS x3) xs3 := by
  rw [valB_lL]; exact lB_read harg17 _ _ _

set_option maxHeartbeats 400000 in
theorem valC_accL (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : isFirst i) (hc3 : ¬isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).2.1 = lstAccB xs1 (kS x3) (kS x4)
      (fun h hh => View.readAt (Elt Ideal) arg16.view (rAcc h hh).toLoadRect (harg16.unread xs2)) 12 le_rfl := by
  rw [show (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).2.1 = lstAccB (View.readAt (Elt Ideal) arg15.view (Rect.unit (s := S256x768) ![0, 0] S256x768.size inb_S256x768_S256x768_0_0).toLoadRect (harg15.unread xs1)) (k2_pay22 (View.readAt (Elt Ideal) arg7.view (Rect.unit (s := S1x512x768) ![0, 0, 0] S1x512x768.size inb_S1x512x768_S1x512x768_0_0_0).toLoadRect (harg7.unread x3))) (k2_pay22 (View.readAt (Elt Ideal) arg8.view (Rect.unit (s := S1x512x768) ![0, 0, 0] S1x512x768.size inb_S1x512x768_S1x512x768_0_0_0).toLoadRect (harg8.unread x4)))
      (fun h hh => View.readAt (Elt Ideal) arg16.view (rAcc h hh).toLoadRect (harg16.unread xs2)) 12 le_rfl from rfl]
  rw [load_whole harg15 xs1 _ (by decide), load_whole harg7 x3 _ (by decide), load_whole harg8 x4 _ (by decide)]

set_option maxHeartbeats 400000 in
theorem valC_lL (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : isFirst i) (hc3 : ¬isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).2.2.1 = lstLB xs1 (kS x3)
      (fun h hh => View.readAt (Elt Ideal) arg17.view (rL h hh).toLoadRect (harg17.unread xs3)) 12 le_rfl := by
  rw [show (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).2.2.1 = lstLB (View.readAt (Elt Ideal) arg15.view (Rect.unit (s := S256x768) ![0, 0] S256x768.size inb_S256x768_S256x768_0_0).toLoadRect (harg15.unread xs1)) (k2_pay22 (View.readAt (Elt Ideal) arg7.view (Rect.unit (s := S1x512x768) ![0, 0, 0] S1x512x768.size inb_S1x512x768_S1x512x768_0_0_0).toLoadRect (harg7.unread x3)))
      (fun h hh => View.readAt (Elt Ideal) arg17.view (rL h hh).toLoadRect (harg17.unread xs3)) 12 le_rfl from rfl]
  rw [load_whole harg15 xs1 _ (by decide), load_whole harg7 x3 _ (by decide)]

set_option maxHeartbeats 400000 in
theorem valC_acc (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : isFirst i) (hc3 : ¬isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) (f : arg16.view.ty.Contents (Elt Ideal)) :
    arg16.view.read (Elt Ideal) (arg16.view.writes (Elt Ideal) f (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).2.1) = accS xs1 (kS x3) (kS x4) xs2 := by
  rw [valC_accL]; exact accB_read harg16 f _ _ _ _

set_option maxHeartbeats 400000 in
theorem valC_l (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : isFirst i) (hc3 : ¬isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    arg17.view.read (Elt Ideal) (arg17.view.writes (Elt Ideal) (harg17.unread xs3) (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).2.2.1) = lS xs1 (kS x3) xs3 := by
  rw [valC_lL]; exact lB_read harg17 _ _ _

set_option maxHeartbeats 400000 in
theorem valC_accC (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : isFirst i) (hc3 : ¬isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    arg16.view.readCov (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).2.1 (Rect.unit (s := S256x768) ![0, 0] S256x768.size inb_S256x768_S256x768_0_0).toLoadRect = accS xs1 (kS x3) (kS x4) xs2 := by
  rw [valC_accL, ← accB_read harg16 arg16.view.junk]
  exact View.ld_unit_lit _ _ (by decide)

set_option maxHeartbeats 400000 in
theorem valC_lC (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : isFirst i) (hc3 : ¬isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) (h : ℕ) (hh : h < 12) :
    arg17.view.readCov (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).2.2.1 (rL h hh).toLoadRect = fun j => lS xs1 (kS x3) xs3 ((rL h hh).emb j) := by
  rw [valC_lL]
  funext j
  show arg17.view.read (Elt Ideal) (arg17.view.writes (Elt Ideal) arg17.view.junk _) ((rL h hh).emb j) = _
  rw [read_lB arg17.view arg17.view.junk xs1 (kS x3) xs3 _ (fun h hh x => readAt_rect harg17 xs3 (rL h hh) x) 12 le_rfl]
  exact if_pos (by simp [rL, Rect.emb_apply]; omega)

set_option maxHeartbeats 400000 in
theorem valC_con (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : isFirst i) (hc3 : ¬isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    (conC (View.readAt (Elt Ideal) arg14.view (Rect.unit (s := S2048x256) ![0, 0] S2048x256.size inb_S2048x256_S2048x256_0_0).toLoadRect (harg14.unread xs0)) (arg16.view.readCov (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).2.1 (Rect.unit (s := S256x768) ![0, 0] S256x768.size inb_S256x768_S256x768_0_0).toLoadRect)
      (fun h hh => arg17.view.readCov (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).2.2.1 (rL h hh).toLoadRect) (View.readAt (Elt Ideal) arg11.view (Rect.unit (s := S1x768x768) ![0, 0, 0] S1x768x768.size inb_S1x768x768_S1x768x768_0_0_0).toLoadRect (harg11.unread x7)) (View.readAt (Elt Ideal) arg12.view (Rect.unit (s := S1x1x768) ![0, 0, 0] S1x1x768.size inb_S1x1x768_S1x1x768_0_0_0).toLoadRect (harg12.unread x8)) (tw0 c xt0 i) (View.readAt (Elt Ideal) arg6.view (Rect.unit (s := S2048x8) ![0, 0] S2048x8.size inb_S2048x8_S2048x8_0_0).toLoadRect (harg6.unread x2))) = (conS xs0 (accS xs1 (kS x3) (kS x4) xs2) (lS xs1 (kS x3) xs3) x7 x8 (tw0 c xt0 i) x2) := by
  rw [valC_accC, load_whole harg14 xs0 _ (by decide), load_whole harg11 x7 _ (by decide), load_whole harg12 x8 _ (by decide), load_whole harg6 x2 _ (by decide)]
  unfold conS
  congr 1
  funext h hh
  exact valC_lC c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1 h hh

set_option maxHeartbeats 400000 in
theorem valC_out (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : isFirst i) (hc3 : ¬isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) (f : arg13.view.ty.Contents (Elt Ideal)) :
    arg13.view.read (Elt Ideal) (arg13.view.writes (Elt Ideal) f (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).1) = (conS xs0 (accS xs1 (kS x3) (kS x4) xs2) (lS xs1 (kS x3) xs3) x7 x8 (tw0 c xt0 i) x2) := by
  rw [show (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).1 = [⟨Rect.unit (s := S2048x768) ![0, 0] S2048x768.size inb_S2048x768_S2048x768_0_0, (conC (View.readAt (Elt Ideal) arg14.view (Rect.unit (s := S2048x256) ![0, 0] S2048x256.size inb_S2048x256_S2048x256_0_0).toLoadRect (harg14.unread xs0)) (arg16.view.readCov (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).2.1 (Rect.unit (s := S256x768) ![0, 0] S256x768.size inb_S256x768_S256x768_0_0).toLoadRect)
      (fun h hh => arg17.view.readCov (runC (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 xs0 xs1 xs2 xs3 xt0 xt1).2.2.1 (rL h hh).toLoadRect) (View.readAt (Elt Ideal) arg11.view (Rect.unit (s := S1x768x768) ![0, 0, 0] S1x768x768.size inb_S1x768x768_S1x768x768_0_0_0).toLoadRect (harg11.unread x7)) (View.readAt (Elt Ideal) arg12.view (Rect.unit (s := S1x1x768) ![0, 0, 0] S1x1x768.size inb_S1x1x768_S1x1x768_0_0_0).toLoadRect (harg12.unread x8)) (tw0 c xt0 i) (View.readAt (Elt Ideal) arg6.view (Rect.unit (s := S2048x8) ![0, 0] S2048x8.size inb_S2048x8_S2048x8_0_0).toLoadRect (harg6.unread x2)))⟩] from rfl]
  rw [valC_con]
  exact read_whole arg13.view f _ _ (by decide)

set_option maxHeartbeats 400000 in
theorem valD_accL (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : ¬isFirst i) (hc3 : isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).2.1 = lstAccB xs1 (kS x3) (kS x4)
      (fun h hh => View.readAt (Elt Ideal) arg16.view (rAcc h hh).toLoadRect (harg16.unread xs2)) 12 le_rfl := by
  rw [show (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).2.1 = lstAccB (View.readAt (Elt Ideal) arg15.view (Rect.unit (s := S256x768) ![0, 0] S256x768.size inb_S256x768_S256x768_0_0).toLoadRect (harg15.unread xs1)) (k2_pay22 (View.readAt (Elt Ideal) arg7.view (Rect.unit (s := S1x512x768) ![0, 0, 0] S1x512x768.size inb_S1x512x768_S1x512x768_0_0_0).toLoadRect (harg7.unread x3))) (k2_pay22 (View.readAt (Elt Ideal) arg8.view (Rect.unit (s := S1x512x768) ![0, 0, 0] S1x512x768.size inb_S1x512x768_S1x512x768_0_0_0).toLoadRect (harg8.unread x4)))
      (fun h hh => View.readAt (Elt Ideal) arg16.view (rAcc h hh).toLoadRect (harg16.unread xs2)) 12 le_rfl from rfl]
  rw [load_whole harg15 xs1 _ (by decide), load_whole harg7 x3 _ (by decide), load_whole harg8 x4 _ (by decide)]

set_option maxHeartbeats 400000 in
theorem valD_lL (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : ¬isFirst i) (hc3 : isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).2.2.1 = lstLB xs1 (kS x3)
      (fun h hh => View.readAt (Elt Ideal) arg17.view (rL h hh).toLoadRect (harg17.unread xs3)) 12 le_rfl := by
  rw [show (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).2.2.1 = lstLB (View.readAt (Elt Ideal) arg15.view (Rect.unit (s := S256x768) ![0, 0] S256x768.size inb_S256x768_S256x768_0_0).toLoadRect (harg15.unread xs1)) (k2_pay22 (View.readAt (Elt Ideal) arg7.view (Rect.unit (s := S1x512x768) ![0, 0, 0] S1x512x768.size inb_S1x512x768_S1x512x768_0_0_0).toLoadRect (harg7.unread x3)))
      (fun h hh => View.readAt (Elt Ideal) arg17.view (rL h hh).toLoadRect (harg17.unread xs3)) 12 le_rfl from rfl]
  rw [load_whole harg15 xs1 _ (by decide), load_whole harg7 x3 _ (by decide)]

set_option maxHeartbeats 400000 in
theorem valD_acc (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : ¬isFirst i) (hc3 : isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) (f : arg16.view.ty.Contents (Elt Ideal)) :
    arg16.view.read (Elt Ideal) (arg16.view.writes (Elt Ideal) f (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).2.1) = accS xs1 (kS x3) (kS x4) xs2 := by
  rw [valD_accL]; exact accB_read harg16 f _ _ _ _

set_option maxHeartbeats 400000 in
theorem valD_l (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : ¬isFirst i) (hc3 : isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    arg17.view.read (Elt Ideal) (arg17.view.writes (Elt Ideal) (harg17.unread xs3) (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).2.2.1) = lS xs1 (kS x3) xs3 := by
  rw [valD_lL]; exact lB_read harg17 _ _ _

set_option maxHeartbeats 400000 in
theorem valD_accC (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : ¬isFirst i) (hc3 : isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    arg16.view.readCov (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).2.1 (Rect.unit (s := S256x768) ![0, 0] S256x768.size inb_S256x768_S256x768_0_0).toLoadRect = accS xs1 (kS x3) (kS x4) xs2 := by
  rw [valD_accL, ← accB_read harg16 arg16.view.junk]
  exact View.ld_unit_lit _ _ (by decide)

set_option maxHeartbeats 400000 in
theorem valD_lC (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : ¬isFirst i) (hc3 : isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) (h : ℕ) (hh : h < 12) :
    arg17.view.readCov (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).2.2.1 (rL h hh).toLoadRect = fun j => lS xs1 (kS x3) xs3 ((rL h hh).emb j) := by
  rw [valD_lL]
  funext j
  show arg17.view.read (Elt Ideal) (arg17.view.writes (Elt Ideal) arg17.view.junk _) ((rL h hh).emb j) = _
  rw [read_lB arg17.view arg17.view.junk xs1 (kS x3) xs3 _ (fun h hh x => readAt_rect harg17 xs3 (rL h hh) x) 12 le_rfl]
  exact if_pos (by simp [rL, Rect.emb_apply]; omega)

set_option maxHeartbeats 400000 in
theorem valD_con (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : ¬isFirst i) (hc3 : isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) :
    (conC (View.readAt (Elt Ideal) arg14.view (Rect.unit (s := S2048x256) ![0, 0] S2048x256.size inb_S2048x256_S2048x256_0_0).toLoadRect (harg14.unread xs0)) (arg16.view.readCov (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).2.1 (Rect.unit (s := S256x768) ![0, 0] S256x768.size inb_S256x768_S256x768_0_0).toLoadRect)
      (fun h hh => arg17.view.readCov (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).2.2.1 (rL h hh).toLoadRect) (View.readAt (Elt Ideal) arg11.view (Rect.unit (s := S1x768x768) ![0, 0, 0] S1x768x768.size inb_S1x768x768_S1x768x768_0_0_0).toLoadRect (harg11.unread x7)) (View.readAt (Elt Ideal) arg12.view (Rect.unit (s := S1x1x768) ![0, 0, 0] S1x1x768.size inb_S1x1x768_S1x1x768_0_0_0).toLoadRect (harg12.unread x8)) (tw0 c xt0 i) (View.readAt (Elt Ideal) arg6.view (Rect.unit (s := S2048x8) ![0, 0] S2048x8.size inb_S2048x8_S2048x8_0_0).toLoadRect (harg6.unread x2))) = (conS xs0 (accS xs1 (kS x3) (kS x4) xs2) (lS xs1 (kS x3) xs3) x7 x8 (tw0 c xt0 i) x2) := by
  rw [valD_accC, load_whole harg14 xs0 _ (by decide), load_whole harg11 x7 _ (by decide), load_whole harg12 x8 _ (by decide), load_whole harg6 x2 _ (by decide)]
  unfold conS
  congr 1
  funext h hh
  exact valD_lC c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1 h hh

set_option maxHeartbeats 400000 in
theorem valD_out (c : Dev nD) (i : grid2.Coords) (arg4 : Memref sig .tc .vmem S2048x768 .bf16) (harg4 : arg4.IsWhole) (arg5 : Memref sig .tc .vmem S2048x8 .f32) (harg5 : arg5.IsWhole) (arg6 : Memref sig .tc .vmem S2048x8 .f32) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S1x768x768 .bf16) (harg9 : arg9.IsWhole) (arg10 : Memref sig .tc .vmem S1x1x768 .f32) (harg10 : arg10.IsWhole) (arg11 : Memref sig .tc .vmem S1x768x768 .bf16) (harg11 : arg11.IsWhole) (arg12 : Memref sig .tc .vmem S1x1x768 .f32) (harg12 : arg12.IsWhole) (arg13 : Memref sig .tc .vmem S2048x768 .f32) (harg13 : arg13.IsWhole) (arg14 : Memref sig .tc .vmem S2048x256 .bf16) (harg14 : arg14.IsWhole) (arg15 : Memref sig .tc .vmem S256x768 .bf16) (harg15 : arg15.IsWhole) (arg16 : Memref sig .tc .vmem S256x768 .f32) (harg16 : arg16.IsWhole) (arg17 : Memref sig .tc .vmem S256x128 .f32) (harg17 : arg17.IsWhole) (hc0 : ¬opens i) (hc1 : closes i) (hc2 : ¬isFirst i) (hc3 : isLater i)
    (x0 : Vec Ideal S2048x768 .bf16) (x1 : Vec Ideal S2048x8 .f32) (x2 : Vec Ideal S2048x8 .f32) (x3 : Vec Ideal S1x512x768 .bf16) (x4 : Vec Ideal S1x512x768 .bf16) (x5 : Vec Ideal S1x768x768 .bf16) (x6 : Vec Ideal S1x1x768 .f32) (x7 : Vec Ideal S1x768x768 .bf16) (x8 : Vec Ideal S1x1x768 .f32) (x9 : Vec Ideal S2048x768 .f32) (xs0 : Vec Ideal S2048x256 .bf16) (xs1 : Vec Ideal S256x768 .bf16) (xs2 : Vec Ideal S256x768 .f32) (xs3 : Vec Ideal S256x128 .f32) (xt0 : TbBuf (F := Ideal) c tbM0) (xt1 : TbBuf (F := Ideal) c tbM1) (f : arg13.view.ty.Contents (Elt Ideal)) :
    arg13.view.read (Elt Ideal) (arg13.view.writes (Elt Ideal) f (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).1) = (k2_pay5 (F := Ideal) (conS xs0 (accS xs1 (kS x3) (kS x4) xs2) (lS xs1 (kS x3) xs3) x7 x8 (tw0 c xt0 i) x2) x9) := by
  rw [show (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).1 = [⟨Rect.unit (s := S2048x768) ![0, 0] S2048x768.size inb_S2048x768_S2048x768_0_0, (k2_pay5 (conC (View.readAt (Elt Ideal) arg14.view (Rect.unit (s := S2048x256) ![0, 0] S2048x256.size inb_S2048x256_S2048x256_0_0).toLoadRect (harg14.unread xs0)) (arg16.view.readCov (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).2.1 (Rect.unit (s := S256x768) ![0, 0] S256x768.size inb_S256x768_S256x768_0_0).toLoadRect)
      (fun h hh => arg17.view.readCov (runD (F := Ideal) c i arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 xs0 xs1 xs2 xs3 xt0 xt1).2.2.1 (rL h hh).toLoadRect) (View.readAt (Elt Ideal) arg11.view (Rect.unit (s := S1x768x768) ![0, 0, 0] S1x768x768.size inb_S1x768x768_S1x768x768_0_0_0).toLoadRect (harg11.unread x7)) (View.readAt (Elt Ideal) arg12.view (Rect.unit (s := S1x1x768) ![0, 0, 0] S1x1x768.size inb_S1x1x768_S1x1x768_0_0_0).toLoadRect (harg12.unread x8)) (tw0 c xt0 i) (View.readAt (Elt Ideal) arg6.view (Rect.unit (s := S2048x8) ![0, 0] S2048x8.size inb_S2048x8_S2048x8_0_0).toLoadRect (harg6.unread x2))) (View.readAt (Elt Ideal) arg13.view (Rect.unit (s := S2048x768) ![0, 0] S2048x768.size inb_S2048x768_S2048x768_0_0).toLoadRect (harg13.unread x9)))⟩] from rfl]
  rw [valD_con, load_whole harg13 x9 _ (by decide)]
  exact read_whole arg13.view f _ _ (by decide)

end Cert.KernelIdeal.Own
end
-- ==== Proof.Reg2.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.RunD
public import proofs.«01_k».proof.Proof.Step
public import proofs.«01_k».proof.Proof.Gen.KernelIdeal.Regions
public import Idealize.ShloMosaic.Lib.Pipeline.TableIdle
public import Idealize.ShloMosaic.Lib.WholeRead
public import Idealize.ShloMosaic.Lib.Pipeline.ValueKit.Acc

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

open Cert.Val

/-! # The attention call, from any contents of its arrays and tables -/

variable (a : (pcfg2 (F := Ideal)).Adm) (W : (c : Dev nD) → (b : Ref sig .tc) → Buf (Elt Ideal) ((c : Thread nD τ).loc b))

theorem opens_iff : ∀ t : Fin grid2.N, opens (grid2.coords t) ↔ t.val % 4 = 0 := fun t => by
  have ht : t.val < 96 := Nat.lt_of_lt_of_eq t.isLt N_2
  have e0 : (grid2.coords t 0).val = t.val / 4 % 24 := Pipeline.Grid.coords_val t 0 (by decide) rfl
  have e1 : (grid2.coords t 1).val = t.val / 1 % 4 := Pipeline.Grid.coords_val t 1 (by decide) rfl
  simp only [opens, k2_cond1, e0, e1]
  word_cmp

theorem closes_iff : ∀ t : Fin grid2.N, closes (grid2.coords t) ↔ t.val % 4 = 3 := fun t => by
  have ht : t.val < 96 := Nat.lt_of_lt_of_eq t.isLt N_2
  have e0 : (grid2.coords t 0).val = t.val / 4 % 24 := Pipeline.Grid.coords_val t 0 (by decide) rfl
  have e1 : (grid2.coords t 1).val = t.val / 1 % 4 := Pipeline.Grid.coords_val t 1 (by decide) rfl
  simp only [closes, k2_cond2, e0, e1]
  word_cmp

theorem isFirst_iff : ∀ t : Fin grid2.N, isFirst (grid2.coords t) ↔ t.val < 4 := fun t => by
  have ht : t.val < 96 := Nat.lt_of_lt_of_eq t.isLt N_2
  have e0 : (grid2.coords t 0).val = t.val / 4 % 24 := Pipeline.Grid.coords_val t 0 (by decide) rfl
  have e1 : (grid2.coords t 1).val = t.val / 1 % 4 := Pipeline.Grid.coords_val t 1 (by decide) rfl
  simp only [isFirst, k2_cond3, e0, e1]
  word_cmp

theorem isLater_iff : ∀ t : Fin grid2.N, isLater (grid2.coords t) ↔ 4 ≤ t.val := fun t => by
  have ht : t.val < 96 := Nat.lt_of_lt_of_eq t.isLt N_2
  have e0 : (grid2.coords t 0).val = t.val / 4 % 24 := Pipeline.Grid.coords_val t 0 (by decide) rfl
  have e1 : (grid2.coords t 1).val = t.val / 1 % 4 := Pipeline.Grid.coords_val t 1 (by decide) rfl
  simp only [isLater, k2_cond4, e0, e1]
  word_cmp

/-- The point at a position. -/
def pt (n : ℕ) : Fin (cfg2 a).N := ⟨n % 96, (Nat.mod_lt n (by decide)).trans_eq N_2.symm⟩

theorem pt_val (t : Fin (cfg2 a).N) : pt a t.val = t := by
  have : t.val < 96 := Nat.lt_of_lt_of_eq t.isLt N_2
  exact Fin.ext (Nat.mod_eq_of_lt this)

/-- A window's block at a point. -/
def iblk2 (c : Dev nD) (w : Fin (cfg2 a).W) (t : Fin (cfg2 a).N) : (((cfg2 a).win w).xblock ((cfg2 a).grid.coords t)).Idx → Elt Ideal ((cfg2 a).win w).elt :=
  (((cfg2 a).win w).blk t).view.read (Elt Ideal) (W c (Pipeline.arrRef spec2 w))

theorem before2_0_of {c : Dev nD} (dat : Dat τ (Elt Ideal) Unit ℕ (UR sig nD τ) ℕ (cfg2 a) c) (hA : dat.A 0 = W c (Pipeline.arrRef spec2 0))
    (hafter : ∀ t, dat.after 0 t = iblk2 a W c 0 t) (t : Fin (cfg2 a).N) (d) : dat.before 0 t d = iblk2 a W c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt Ideal) Unit ℕ (UR sig nD τ) ℕ (cfg2 a) c) (hA : dat.A 1 = W c (Pipeline.arrRef spec2 1))
    (hafter : ∀ t, dat.after 1 t = iblk2 a W c 1 t) (t : Fin (cfg2 a).N) (d) : dat.before 1 t d = iblk2 a W c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt Ideal) Unit ℕ (UR sig nD τ) ℕ (cfg2 a) c) (hA : dat.A 2 = W c (Pipeline.arrRef spec2 2))
    (hafter : ∀ t, dat.after 2 t = iblk2 a W c 2 t) (t : Fin (cfg2 a).N) (d) : dat.before 2 t d = iblk2 a W c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt Ideal) Unit ℕ (UR sig nD τ) ℕ (cfg2 a) c) (hA : dat.A 3 = W c (Pipeline.arrRef spec2 3))
    (hafter : ∀ t, dat.after 3 t = iblk2 a W c 3 t) (t : Fin (cfg2 a).N) (d) : dat.before 3 t d = iblk2 a W c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt Ideal) Unit ℕ (UR sig nD τ) ℕ (cfg2 a) c) (hA : dat.A 4 = W c (Pipeline.arrRef spec2 4))
    (hafter : ∀ t, dat.after 4 t = iblk2 a W c 4 t) (t : Fin (cfg2 a).N) (d) : dat.before 4 t d = iblk2 a W c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt Ideal) Unit ℕ (UR sig nD τ) ℕ (cfg2 a) c) (hA : dat.A 5 = W c (Pipeline.arrRef spec2 5))
    (hafter : ∀ t, dat.after 5 t = iblk2 a W c 5 t) (t : Fin (cfg2 a).N) (d) : dat.before 5 t d = iblk2 a W c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt Ideal) Unit ℕ (UR sig nD τ) ℕ (cfg2 a) c) (hA : dat.A 6 = W c (Pipeline.arrRef spec2 6))
    (hafter : ∀ t, dat.after 6 t = iblk2 a W c 6 t) (t : Fin (cfg2 a).N) (d) : dat.before 6 t d = iblk2 a W c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt Ideal) Unit ℕ (UR sig nD τ) ℕ (cfg2 a) c) (hA : dat.A 7 = W c (Pipeline.arrRef spec2 7))
    (hafter : ∀ t, dat.after 7 t = iblk2 a W c 7 t) (t : Fin (cfg2 a).N) (d) : dat.before 7 t d = iblk2 a W c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt Ideal) Unit ℕ (UR sig nD τ) ℕ (cfg2 a) c) (hA : dat.A 8 = W c (Pipeline.arrRef spec2 8))
    (hafter : ∀ t, dat.after 8 t = iblk2 a W c 8 t) (t : Fin (cfg2 a).N) (d) : dat.before 8 t d = iblk2 a W c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Window 0's block at a position. -/
def X0 (c : Dev nD) (n : ℕ) : FVec Ideal S2048x768 .bf16 := iblk2 a W c 0 (pt a n)
/-- Window 1's block at a position. -/
def X1 (c : Dev nD) (n : ℕ) : FVec Ideal S2048x8 .f32 := iblk2 a W c 1 (pt a n)
/-- Window 2's block at a position. -/
def X2 (c : Dev nD) (n : ℕ) : FVec Ideal S2048x8 .f32 := iblk2 a W c 2 (pt a n)
/-- Window 3's block at a position. -/
def X3 (c : Dev nD) (n : ℕ) : FVec Ideal S1x512x768 .bf16 := iblk2 a W c 3 (pt a n)
/-- Window 4's block at a position. -/
def X4 (c : Dev nD) (n : ℕ) : FVec Ideal S1x512x768 .bf16 := iblk2 a W c 4 (pt a n)
/-- Window 5's block at a position. -/
def X5 (c : Dev nD) (n : ℕ) : FVec Ideal S1x768x768 .bf16 := iblk2 a W c 5 (pt a n)
/-- Window 6's block at a position. -/
def X6 (c : Dev nD) (n : ℕ) : FVec Ideal S1x1x768 .f32 := iblk2 a W c 6 (pt a n)
/-- Window 7's block at a position. -/
def X7 (c : Dev nD) (n : ℕ) : FVec Ideal S1x768x768 .bf16 := iblk2 a W c 7 (pt a n)
/-- Window 8's block at a position. -/
def X8 (c : Dev nD) (n : ℕ) : FVec Ideal S1x1x768 .f32 := iblk2 a W c 8 (pt a n)

/-- The first table's word at a position. -/
def w0N (c : Dev nD) (n : ℕ) : BitVec 32 := tw0 c (a.1 0) (grid2.coords (pt a n))
/-- The second table's word at a position. -/
def w1N (c : Dev nD) (n : ℕ) : BitVec 32 := tw1 c (a.1 1) (grid2.coords (pt a n))

/-- The dispatch matrix made at a position. -/
def mtA (c : Dev nD) (n : ℕ) : FVec Ideal S2048x256 .bf16 := mtS (w0N a c n) (w1N a c n) (X1 a W c n) (X2 a W c n)
/-- The queries made at a position. -/
def qA (c : Dev nD) (n : ℕ) : FVec Ideal S256x768 .bf16 := qS (w0N a c n) (w1N a c n) (X1 a W c n) (X2 a W c n) (X0 a W c n) (X5 a W c n) (X6 a W c n)

/-- The dispatch matrix held after a position. -/
def mtN (c : Dev nD) : ℕ → FVec Ideal S2048x256 .bf16
  | 0 => mtA a W c 0
  | n + 1 => if (n + 1) % 4 = 0 then mtA a W c (n + 1) else mtN c n
/-- The queries held after a position. -/
def qN (c : Dev nD) : ℕ → FVec Ideal S256x768 .bf16
  | 0 => qA a W c 0
  | n + 1 => if (n + 1) % 4 = 0 then qA a W c (n + 1) else qN c n
/-- The weighted sums of the values held after a position. -/
def accN (c : Dev nD) : ℕ → FVec Ideal S256x768 .f32
  | 0 => accS (qA a W c 0) (kS (X3 a W c 0)) (kS (X4 a W c 0)) k2_pay20
  | n + 1 => if (n + 1) % 4 = 0 then accS (qA a W c (n + 1)) (kS (X3 a W c (n + 1))) (kS (X4 a W c (n + 1))) k2_pay20
      else accS (qN a W c n) (kS (X3 a W c (n + 1))) (kS (X4 a W c (n + 1))) (accN c n)
/-- The sums of the weights held after a position. -/
def lN (c : Dev nD) : ℕ → FVec Ideal S256x128 .f32
  | 0 => lS (qA a W c 0) (kS (X3 a W c 0)) k2_pay21
  | n + 1 => if (n + 1) % 4 = 0 then lS (qA a W c (n + 1)) (kS (X3 a W c (n + 1))) k2_pay21
      else lS (qN a W c n) (kS (X3 a W c (n + 1))) (lN c n)
/-- What a closing position adds. -/
def conN (c : Dev nD) (n : ℕ) : FVec Ideal S2048x768 .f32 :=
  conS (mtN a W c n) (accN a W c n) (lN a W c n) (X7 a W c n) (X8 a W c n) (w0N a c n) (X2 a W c n)
/-- The output held after a position. -/
def oN (c : Dev nD) : ℕ → FVec Ideal S2048x768 .f32
  | 0 => conN a W c 0
  | n + 1 => if (n + 1) % 4 = 3 then (if n + 1 < 4 then conN a W c (n + 1) else k2_pay5 (F := Ideal) (conN a W c (n + 1)) (oN c n)) else oN c n

abbrev sc0 : Memref sig .tc .vmem S2048x256 .bf16 := Memref.whole cc2_scratch0
abbrev sc1 : Memref sig .tc .vmem S256x768 .bf16 := Memref.whole cc2_scratch1
abbrev sc2 : Memref sig .tc .vmem S256x768 .f32 := Memref.whole cc2_scratch2
abbrev sc3 : Memref sig .tc .vmem S256x128 .f32 := Memref.whole cc2_scratch3

/-- The scoped buffers that are neither a staging buffer nor a scratch of this call. -/
abbrev rest2 (c : Dev nD) : sProp 𝕄 := Pipeline.scopedRestBut (Ix := Unit) (Name := ℕ) (U := UR sig nD τ) (Lvl := ℕ) (Val := Elt Ideal) spec2 c [cc2_scratch0, cc2_scratch1, cc2_scratch2, cc2_scratch3]

theorem scoped2_eq (c : Dev nD) : (Pipeline.scopedRest (Ix := Unit) (Name := ℕ) (U := UR sig nD τ) (Lvl := ℕ) (Val := Elt Ideal) spec2 c : sProp 𝕄)
    = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ rest2 c) := by
  rw [scopedRest2_split]; simp only [sc0, sc1, sc2, sc3, owns_whole]; try rfl

/-- The tables, whole. -/
abbrev tabs2 (c : Dev nD) : sProp 𝕄 := iprop(tbPt c tbM0 (a.1 0) ∗ tbPt c tbM1 (a.1 1))

/-- Between points: the scratch, the other scoped buffers, the register and the tables. -/
def Phi2 (c : Dev nD) : ℕ → sProp 𝕄
  | 0 => iprop(((((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ rest2 c) ∗ (∃ r, prngReg c r)) ∗ tabs2 a c)
  | n + 1 => iprop(((((owns (c : Thread nD τ) sc0 fullShare (mtN a W c n)) ∗ (owns (c : Thread nD τ) sc1 fullShare (qN a W c n)) ∗ (owns (c : Thread nD τ) sc2 fullShare (accN a W c n)) ∗ (owns (c : Thread nD τ) sc3 fullShare (lN a W c n))) ∗ rest2 c) ∗ (∃ r, prngReg c r)) ∗ tabs2 a c)

theorem Phi2_weak (c : Dev nD) (n : ℕ) : Phi2 a W c n ⊢ Phi2 a W c 0 := by
  cases n with
  | zero => exact BI.Entails.refl _
  | succ n =>
    unfold Phi2
    iintro ⟨⟨⟨⟨H0, H1, H2, H3⟩, Hr⟩, Hg⟩, Ht⟩
    isplitl [H0 H1 H2 H3 Hr Hg]
    · isplitl [H0 H1 H2 H3 Hr]
      · isplitl [H0 H1 H2 H3]
        · isplitl [H0]; · iexists _; iexact H0
          isplitl [H1]; · iexists _; iexact H1
          isplitl [H2]; · iexists _; iexact H2
          iexists _; iexact H3
        iexact Hr
      iexact Hg
    iexact Ht

/-- The call's proof data. -/
def dat2 (c : Dev nD) : Dat τ (Elt Ideal) Unit ℕ (UR sig nD τ) ℕ (cfg2 a) c where
  A w := W c (Pipeline.arrRef spec2 w)
  after w t := match w with
    | ⟨0, _⟩ => iblk2 a W c 0 t
    | ⟨1, _⟩ => iblk2 a W c 1 t
    | ⟨2, _⟩ => iblk2 a W c 2 t
    | ⟨3, _⟩ => iblk2 a W c 3 t
    | ⟨4, _⟩ => iblk2 a W c 4 t
    | ⟨5, _⟩ => iblk2 a W c 5 t
    | ⟨6, _⟩ => iblk2 a W c 6 t
    | ⟨7, _⟩ => iblk2 a W c 7 t
    | ⟨8, _⟩ => iblk2 a W c 8 t
    | ⟨9, _⟩ => oN a W c t.val
  Φ t := Phi2 a W c t.val
  q _ := fullShare
  owed _ := 0

theorem A_eq2 (c : Dev nD) (w : Fin (cfg2 a).W) : (dat2 a W c).A w = W c (Pipeline.arrRef spec2 w) := by
  dsimp only [dat2]

theorem after2_0 (c : Dev nD) (t : Fin (cfg2 a).N) : (dat2 a W c).after 0 t = iblk2 a W c 0 t := by dsimp only [dat2]; rfl
theorem after2_1 (c : Dev nD) (t : Fin (cfg2 a).N) : (dat2 a W c).after 1 t = iblk2 a W c 1 t := by dsimp only [dat2]; rfl
theorem after2_2 (c : Dev nD) (t : Fin (cfg2 a).N) : (dat2 a W c).after 2 t = iblk2 a W c 2 t := by dsimp only [dat2]; rfl
theorem after2_3 (c : Dev nD) (t : Fin (cfg2 a).N) : (dat2 a W c).after 3 t = iblk2 a W c 3 t := by dsimp only [dat2]; rfl
theorem after2_4 (c : Dev nD) (t : Fin (cfg2 a).N) : (dat2 a W c).after 4 t = iblk2 a W c 4 t := by dsimp only [dat2]; rfl
theorem after2_5 (c : Dev nD) (t : Fin (cfg2 a).N) : (dat2 a W c).after 5 t = iblk2 a W c 5 t := by dsimp only [dat2]; rfl
theorem after2_6 (c : Dev nD) (t : Fin (cfg2 a).N) : (dat2 a W c).after 6 t = iblk2 a W c 6 t := by dsimp only [dat2]; rfl
theorem after2_7 (c : Dev nD) (t : Fin (cfg2 a).N) : (dat2 a W c).after 7 t = iblk2 a W c 7 t := by dsimp only [dat2]; rfl
theorem after2_8 (c : Dev nD) (t : Fin (cfg2 a).N) : (dat2 a W c).after 8 t = iblk2 a W c 8 t := by dsimp only [dat2]; rfl
theorem after2_9 (c : Dev nD) (t : Fin (cfg2 a).N) : (dat2 a W c).after 9 t = oN a W c t.val := by dsimp only [dat2]; rfl

theorem before2_0 (c : Dev nD) (t : Fin (cfg2 a).N) (d) : (dat2 a W c).before 0 t d = iblk2 a W c 0 t :=
  before2_0_of a W (dat2 a W c) (A_eq2 a W c 0) (after2_0 a W c) t d
theorem before2_1 (c : Dev nD) (t : Fin (cfg2 a).N) (d) : (dat2 a W c).before 1 t d = iblk2 a W c 1 t :=
  before2_1_of a W (dat2 a W c) (A_eq2 a W c 1) (after2_1 a W c) t d
theorem before2_2 (c : Dev nD) (t : Fin (cfg2 a).N) (d) : (dat2 a W c).before 2 t d = iblk2 a W c 2 t :=
  before2_2_of a W (dat2 a W c) (A_eq2 a W c 2) (after2_2 a W c) t d
theorem before2_3 (c : Dev nD) (t : Fin (cfg2 a).N) (d) : (dat2 a W c).before 3 t d = iblk2 a W c 3 t :=
  before2_3_of a W (dat2 a W c) (A_eq2 a W c 3) (after2_3 a W c) t d
theorem before2_4 (c : Dev nD) (t : Fin (cfg2 a).N) (d) : (dat2 a W c).before 4 t d = iblk2 a W c 4 t :=
  before2_4_of a W (dat2 a W c) (A_eq2 a W c 4) (after2_4 a W c) t d
theorem before2_5 (c : Dev nD) (t : Fin (cfg2 a).N) (d) : (dat2 a W c).before 5 t d = iblk2 a W c 5 t :=
  before2_5_of a W (dat2 a W c) (A_eq2 a W c 5) (after2_5 a W c) t d
theorem before2_6 (c : Dev nD) (t : Fin (cfg2 a).N) (d) : (dat2 a W c).before 6 t d = iblk2 a W c 6 t :=
  before2_6_of a W (dat2 a W c) (A_eq2 a W c 6) (after2_6 a W c) t d
theorem before2_7 (c : Dev nD) (t : Fin (cfg2 a).N) (d) : (dat2 a W c).before 7 t d = iblk2 a W c 7 t :=
  before2_7_of a W (dat2 a W c) (A_eq2 a W c 7) (after2_7 a W c) t d
theorem before2_8 (c : Dev nD) (t : Fin (cfg2 a).N) (d) : (dat2 a W c).before 8 t d = iblk2 a W c 8 t :=
  before2_8_of a W (dat2 a W c) (A_eq2 a W c 8) (after2_8 a W c) t d

theorem idle2_9 (t : Fin (cfg2 a).N) : (cfg2 a).idle 9 ((cfg2 a).grid.coords t) = !(decide (t.val % 4 = 3)) := by
  show (!(k2_cond2 (grid2.coords t) == 1#1 && k2_cond3 (grid2.coords t) == 1#1) && !(k2_cond2 (grid2.coords t) == 1#1 && k2_cond4 (grid2.coords t) == 1#1)) = _
  have h2 : (k2_cond2 (grid2.coords t) == 1#1) = decide (t.val % 4 = 3) := by
    rw [Bool.eq_iff_iff]; simpa using closes_iff t
  have h3 : (k2_cond3 (grid2.coords t) == 1#1) = decide (t.val < 4) := by
    rw [Bool.eq_iff_iff]; simpa using isFirst_iff t
  have h4 : (k2_cond4 (grid2.coords t) == 1#1) = decide (4 ≤ t.val) := by
    rw [Bool.eq_iff_iff]; simpa using isLater_iff t
  rw [h2, h3, h4, Bool.eq_iff_iff]
  simp
  omega

theorem flush2_9 (t : Fin (cfg2 a).N) : ((cfg2 a).win 9).flush t = decide (t.val = 95) := by
  rw [Pipeline.Window.flush_eq_flushF]
  unfold Pipeline.Window.flushF
  have hi : ((cfg2 a).win 9).isOut = true := rfl
  have hn : ¬ ∃ h : t.val + 1 < (cfg2 a).grid.N, ∃ x, ((cfg2 a).win 9).index ⟨t.val + 1, h⟩ x ≠ ((cfg2 a).win 9).index t x := by
    rintro ⟨h, x, hx⟩; exact hx rfl
  have hN : (cfg2 a).grid.N = 96 := N_2
  rw [hi, decide_eq_false hn, Bool.eq_iff_iff]
  simp only [Bool.true_and, Bool.or_false, decide_eq_true_iff]
  constructor
  · intro h
    have : t.val + 1 = 96 := h.trans hN
    omega
  · intro h
    exact (congrArg (· + 1) h).trans hN.symm

theorem fresh2_9 (n : ℕ) (hn : n ≤ (cfg2 a).N) : (cfg2 a).fresh 9 n = decide (n < 4 ∨ n = 96) :=
  Pipeline.Cfg.fresh_tab (cfg2 a) 9 (fun n => decide (n < 4 ∨ n = 96)) (by decide) (fun t => by
    have ht : t.val < 96 := Nat.lt_of_lt_of_eq t.isLt N_2
    rw [idle2_9, flush2_9, Bool.eq_iff_iff]
    simp
    omega) n hn

theorem before2_9 (c : Dev nD) (t : Fin (cfg2 a).N) (ht : 4 ≤ t.val) (d) : (dat2 a W c).before 9 t d = oN a W c (t.val - 1) := by
  have h := (dat2 a W c).before_out_traj 9 rfl (fun _ _ => rfl) (fun s hs hi _ => by
    rw [after2_9, after2_9]
    rw [idle2_9] at hi
    obtain ⟨n, hn⟩ := Nat.exists_eq_succ_of_ne_zero hs
    have h3 : ¬ s.val % 4 = 3 := by simpa using hi
    show oN a W c s.val = oN a W c (s.val - 1)
    rw [hn] at h3 ⊢
    rw [Nat.succ_eq_add_one] at h3 ⊢
    rw [oN, if_neg h3, Nat.add_sub_cancel]) t.val t rfl d
  have ht' : t.val < 96 := Nat.lt_of_lt_of_eq t.isLt N_2
  rw [h, fresh2_9 a t.val (le_of_lt t.isLt), decide_eq_false (by omega), if_neg Bool.false_ne_true, after2_9]

theorem leaves2_0 (c : Dev nD) (t : Fin (cfg2 a).N) : (dat2 a W c).leavesExact 0 t = owns (c : Thread nD τ) (((cfg2 a).win 0).stage ((cfg2 a).slots t 0)) fullShare (iblk2 a W c 0 t) := by
  unfold Dat.leavesExact; rw [show (cfg2 a).idle 0 ((cfg2 a).grid.coords t) = false from rfl]; exact congrArg (fun d => owns (c : Thread nD τ) (((cfg2 a).win 0).stage ((cfg2 a).slots t 0)) fullShare d) (after2_0 a W c t)
theorem leaves2_1 (c : Dev nD) (t : Fin (cfg2 a).N) : (dat2 a W c).leavesExact 1 t = owns (c : Thread nD τ) (((cfg2 a).win 1).stage ((cfg2 a).slots t 1)) fullShare (iblk2 a W c 1 t) := by
  unfold Dat.leavesExact; rw [show (cfg2 a).idle 1 ((cfg2 a).grid.coords t) = false from rfl]; exact congrArg (fun d => owns (c : Thread nD τ) (((cfg2 a).win 1).stage ((cfg2 a).slots t 1)) fullShare d) (after2_1 a W c t)
theorem leaves2_2 (c : Dev nD) (t : Fin (cfg2 a).N) : (dat2 a W c).leavesExact 2 t = owns (c : Thread nD τ) (((cfg2 a).win 2).stage ((cfg2 a).slots t 2)) fullShare (iblk2 a W c 2 t) := by
  unfold Dat.leavesExact; rw [show (cfg2 a).idle 2 ((cfg2 a).grid.coords t) = false from rfl]; exact congrArg (fun d => owns (c : Thread nD τ) (((cfg2 a).win 2).stage ((cfg2 a).slots t 2)) fullShare d) (after2_2 a W c t)
theorem leaves2_3 (c : Dev nD) (t : Fin (cfg2 a).N) : (dat2 a W c).leavesExact 3 t = owns (c : Thread nD τ) (((cfg2 a).win 3).stage ((cfg2 a).slots t 3)) fullShare (iblk2 a W c 3 t) := by
  unfold Dat.leavesExact; rw [show (cfg2 a).idle 3 ((cfg2 a).grid.coords t) = false from rfl]; exact congrArg (fun d => owns (c : Thread nD τ) (((cfg2 a).win 3).stage ((cfg2 a).slots t 3)) fullShare d) (after2_3 a W c t)
theorem leaves2_4 (c : Dev nD) (t : Fin (cfg2 a).N) : (dat2 a W c).leavesExact 4 t = owns (c : Thread nD τ) (((cfg2 a).win 4).stage ((cfg2 a).slots t 4)) fullShare (iblk2 a W c 4 t) := by
  unfold Dat.leavesExact; rw [show (cfg2 a).idle 4 ((cfg2 a).grid.coords t) = false from rfl]; exact congrArg (fun d => owns (c : Thread nD τ) (((cfg2 a).win 4).stage ((cfg2 a).slots t 4)) fullShare d) (after2_4 a W c t)
theorem leaves2_5 (c : Dev nD) (t : Fin (cfg2 a).N) : (dat2 a W c).leavesExact 5 t = owns (c : Thread nD τ) (((cfg2 a).win 5).stage ((cfg2 a).slots t 5)) fullShare (iblk2 a W c 5 t) := by
  unfold Dat.leavesExact; rw [show (cfg2 a).idle 5 ((cfg2 a).grid.coords t) = false from rfl]; exact congrArg (fun d => owns (c : Thread nD τ) (((cfg2 a).win 5).stage ((cfg2 a).slots t 5)) fullShare d) (after2_5 a W c t)
theorem leaves2_6 (c : Dev nD) (t : Fin (cfg2 a).N) : (dat2 a W c).leavesExact 6 t = owns (c : Thread nD τ) (((cfg2 a).win 6).stage ((cfg2 a).slots t 6)) fullShare (iblk2 a W c 6 t) := by
  unfold Dat.leavesExact; rw [show (cfg2 a).idle 6 ((cfg2 a).grid.coords t) = false from rfl]; exact congrArg (fun d => owns (c : Thread nD τ) (((cfg2 a).win 6).stage ((cfg2 a).slots t 6)) fullShare d) (after2_6 a W c t)
theorem leaves2_7 (c : Dev nD) (t : Fin (cfg2 a).N) : (dat2 a W c).leavesExact 7 t = owns (c : Thread nD τ) (((cfg2 a).win 7).stage ((cfg2 a).slots t 7)) fullShare (iblk2 a W c 7 t) := by
  unfold Dat.leavesExact; rw [show (cfg2 a).idle 7 ((cfg2 a).grid.coords t) = false from rfl]; exact congrArg (fun d => owns (c : Thread nD τ) (((cfg2 a).win 7).stage ((cfg2 a).slots t 7)) fullShare d) (after2_7 a W c t)
theorem leaves2_8 (c : Dev nD) (t : Fin (cfg2 a).N) : (dat2 a W c).leavesExact 8 t = owns (c : Thread nD τ) (((cfg2 a).win 8).stage ((cfg2 a).slots t 8)) fullShare (iblk2 a W c 8 t) := by
  unfold Dat.leavesExact; rw [show (cfg2 a).idle 8 ((cfg2 a).grid.coords t) = false from rfl]; exact congrArg (fun d => owns (c : Thread nD τ) (((cfg2 a).win 8).stage ((cfg2 a).slots t 8)) fullShare d) (after2_8 a W c t)

theorem leaves2_9_idle (c : Dev nD) (t : Fin (cfg2 a).N) (h : ¬ t.val % 4 = 3) :
    (dat2 a W c).leavesExact 9 t = iprop(∃ d, owns (c : Thread nD τ) (((cfg2 a).win 9).stage ((cfg2 a).slots t 9)) fullShare ((dat2 a W c).before 9 t d)) :=
  Dat.leavesExact_idle _ 9 t (by rw [idle2_9, decide_eq_false h]; rfl) (by rw [flush2_9, decide_eq_false (by omega)])

theorem leaves2_9_live (c : Dev nD) (t : Fin (cfg2 a).N) (h : t.val % 4 = 3) :
    (dat2 a W c).leavesExact 9 t = owns (c : Thread nD τ) (((cfg2 a).win 9).stage ((cfg2 a).slots t 9)) fullShare (oN a W c t.val) := by
  unfold Dat.leavesExact; rw [idle2_9, decide_eq_true h]; exact congrArg (fun d => owns (c : Thread nD τ) (((cfg2 a).win 9).stage ((cfg2 a).slots t 9)) fullShare d) (after2_9 a W c t)

end Cert.KernelIdeal.Own
end
-- ==== Proof.Body2.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.RunD
public import proofs.«01_k».proof.Proof.Reg2
public import proofs.«01_k».proof.Proof.Gen.KernelIdeal.Regions
public import Idealize.ShloMosaic.Lib.Pipeline.TableIdle
public import Idealize.ShloMosaic.Lib.WholeRead
public import Idealize.ShloMosaic.Lib.Pipeline.ValueKit.Acc

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

open Cert.Val

/-! # The attention call's body, at every point -/

variable (a : (pcfg2 (F := Ideal)).Adm) (W : (c : Dev nD) → (b : Ref sig .tc) → Buf (Elt Ideal) ((c : Thread nD τ).loc b))

theorem X0_val (c : Dev nD) (t : Fin (cfg2 a).N) : X0 a W c t.val = iblk2 a W c 0 t := by unfold X0; rw [pt_val]
theorem X1_val (c : Dev nD) (t : Fin (cfg2 a).N) : X1 a W c t.val = iblk2 a W c 1 t := by unfold X1; rw [pt_val]
theorem X2_val (c : Dev nD) (t : Fin (cfg2 a).N) : X2 a W c t.val = iblk2 a W c 2 t := by unfold X2; rw [pt_val]
theorem X3_val (c : Dev nD) (t : Fin (cfg2 a).N) : X3 a W c t.val = iblk2 a W c 3 t := by unfold X3; rw [pt_val]
theorem X4_val (c : Dev nD) (t : Fin (cfg2 a).N) : X4 a W c t.val = iblk2 a W c 4 t := by unfold X4; rw [pt_val]
theorem X5_val (c : Dev nD) (t : Fin (cfg2 a).N) : X5 a W c t.val = iblk2 a W c 5 t := by unfold X5; rw [pt_val]
theorem X6_val (c : Dev nD) (t : Fin (cfg2 a).N) : X6 a W c t.val = iblk2 a W c 6 t := by unfold X6; rw [pt_val]
theorem X7_val (c : Dev nD) (t : Fin (cfg2 a).N) : X7 a W c t.val = iblk2 a W c 7 t := by unfold X7; rw [pt_val]
theorem X8_val (c : Dev nD) (t : Fin (cfg2 a).N) : X8 a W c t.val = iblk2 a W c 8 t := by unfold X8; rw [pt_val]
theorem w0N_val (c : Dev nD) (t : Fin (cfg2 a).N) : w0N a c t.val = tw0 c (a.1 0) (grid2.coords t) := by unfold w0N; rw [pt_val]
theorem w1N_val (c : Dev nD) (t : Fin (cfg2 a).N) : w1N a c t.val = tw1 c (a.1 1) (grid2.coords t) := by unfold w1N; rw [pt_val]

theorem mtA_val (c : Dev nD) (t : Fin (cfg2 a).N) : mtA a W c t.val = mtS (tw0 c (a.1 0) (grid2.coords t)) (tw1 c (a.1 1) (grid2.coords t)) (iblk2 a W c 1 t) (iblk2 a W c 2 t) := by
  unfold mtA; rw [w0N_val, w1N_val, X1_val, X2_val]
theorem qA_val (c : Dev nD) (t : Fin (cfg2 a).N) : qA a W c t.val = qS (tw0 c (a.1 0) (grid2.coords t)) (tw1 c (a.1 1) (grid2.coords t)) (iblk2 a W c 1 t) (iblk2 a W c 2 t) (iblk2 a W c 0 t) (iblk2 a W c 5 t) (iblk2 a W c 6 t) := by
  unfold qA; rw [w0N_val, w1N_val, X1_val, X2_val, X0_val, X5_val, X6_val]

theorem mtN_open (c : Dev nD) : ∀ n, n % 4 = 0 → mtN a W c n = mtA a W c n
  | 0, _ => rfl
  | n + 1, h => by rw [mtN, if_pos h]
theorem qN_open (c : Dev nD) : ∀ n, n % 4 = 0 → qN a W c n = qA a W c n
  | 0, _ => rfl
  | n + 1, h => by rw [qN, if_pos h]
theorem accN_open (c : Dev nD) : ∀ n, n % 4 = 0 → accN a W c n = accS (qA a W c n) (kS (X3 a W c n)) (kS (X4 a W c n)) k2_pay20
  | 0, _ => rfl
  | n + 1, h => by rw [accN, if_pos h]
theorem lN_open (c : Dev nD) : ∀ n, n % 4 = 0 → lN a W c n = lS (qA a W c n) (kS (X3 a W c n)) k2_pay21
  | 0, _ => rfl
  | n + 1, h => by rw [lN, if_pos h]

theorem mtN_next (c : Dev nD) (n : ℕ) (h : ¬ (n + 1) % 4 = 0) : mtN a W c (n + 1) = mtN a W c n := by rw [mtN, if_neg h]
theorem qN_next (c : Dev nD) (n : ℕ) (h : ¬ (n + 1) % 4 = 0) : qN a W c (n + 1) = qN a W c n := by rw [qN, if_neg h]
theorem accN_next (c : Dev nD) (t : Fin (cfg2 a).N) (n : ℕ) (hn : t.val = n + 1) (h : ¬ (n + 1) % 4 = 0) :
    accN a W c (n + 1) = accS (qN a W c n) (kS (iblk2 a W c 3 t)) (kS (iblk2 a W c 4 t)) (accN a W c n) := by
  rw [accN, if_neg h, ← X3_val, ← X4_val, hn]
theorem lN_next (c : Dev nD) (t : Fin (cfg2 a).N) (n : ℕ) (hn : t.val = n + 1) (h : ¬ (n + 1) % 4 = 0) :
    lN a W c (n + 1) = lS (qN a W c n) (kS (iblk2 a W c 3 t)) (lN a W c n) := by
  rw [lN, if_neg h, ← X3_val, hn]
theorem conN_next (c : Dev nD) (t : Fin (cfg2 a).N) (n : ℕ) (hn : t.val = n + 1) (h : ¬ (n + 1) % 4 = 0) :
    conN a W c (n + 1) = conS (mtN a W c n) (accS (qN a W c n) (kS (iblk2 a W c 3 t)) (kS (iblk2 a W c 4 t)) (accN a W c n)) (lS (qN a W c n) (kS (iblk2 a W c 3 t)) (lN a W c n)) (iblk2 a W c 7 t) (iblk2 a W c 8 t) (tw0 c (a.1 0) (grid2.coords t)) (iblk2 a W c 2 t) := by
  rw [conN, mtN_next a W c n h, accN_next a W c t n hn h, lN_next a W c t n hn h, ← X7_val, ← X8_val, ← X2_val, ← w0N_val, hn]

abbrev ms2_0 (t : Fin (cfg2 a).N) := spec2_0.stage ((cfg2 a).slots t 0)
abbrev ms2_1 (t : Fin (cfg2 a).N) := spec2_1.stage ((cfg2 a).slots t 1)
abbrev ms2_2 (t : Fin (cfg2 a).N) := spec2_2.stage ((cfg2 a).slots t 2)
abbrev ms2_3 (t : Fin (cfg2 a).N) := spec2_3.stage ((cfg2 a).slots t 3)
abbrev ms2_4 (t : Fin (cfg2 a).N) := spec2_4.stage ((cfg2 a).slots t 4)
abbrev ms2_5 (t : Fin (cfg2 a).N) := spec2_5.stage ((cfg2 a).slots t 5)
abbrev ms2_6 (t : Fin (cfg2 a).N) := spec2_6.stage ((cfg2 a).slots t 6)
abbrev ms2_7 (t : Fin (cfg2 a).N) := spec2_7.stage ((cfg2 a).slots t 7)
abbrev ms2_8 (t : Fin (cfg2 a).N) := spec2_8.stage ((cfg2 a).slots t 8)
abbrev ms2_9 (t : Fin (cfg2 a).N) := spec2_9.stage ((cfg2 a).slots t 9)

/-- The body as the call runs it at a point. -/
abbrev bodyAt2 (t : Fin (cfg2 a).N) : Prog (TpuEff nD τ sig (Elt Ideal) Λ₀ .tc) PUnit :=
  cc2__moe_attn_body (grid2.coords t) (Memref.whole main_v13) (Memref.isWhole_whole _) (Memref.whole main_v14) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (spec2_5.stage ((cfg2 a).slots t 5)) (hstage2_5 (((cfg2 a).slots t 5).cast nbuf2_5)) (spec2_6.stage ((cfg2 a).slots t 6)) (hstage2_6 (((cfg2 a).slots t 6).cast nbuf2_6)) (spec2_7.stage ((cfg2 a).slots t 7)) (hstage2_7 (((cfg2 a).slots t 7).cast nbuf2_7)) (spec2_8.stage ((cfg2 a).slots t 8)) (hstage2_8 (((cfg2 a).slots t 8).cast nbuf2_8)) (spec2_9.stage ((cfg2 a).slots t 9)) (hstage2_9 (((cfg2 a).slots t 9).cast nbuf2_9)) (Memref.whole cc2_scratch0) (Memref.isWhole_whole _) (Memref.whole cc2_scratch1) (Memref.isWhole_whole _) (Memref.whole cc2_scratch2) (Memref.isWhole_whole _) (Memref.whole cc2_scratch3) (Memref.isWhole_whole _)

/-- What the body is given at a point. -/
def bodyPre2 (c : Dev nD) (t : Fin (cfg2 a).N) : sProp 𝕄 :=
  iprop((dat2 a W c).Φ t.castSucc ∗ (dat2 a W c).owesAt () t.castSucc
    ∗ (∃ d, owns (c : Thread nD τ) (ms2_0 a t) fullShare ((dat2 a W c).before 0 t d))
    ∗ (∃ d, owns (c : Thread nD τ) (ms2_1 a t) fullShare ((dat2 a W c).before 1 t d))
    ∗ (∃ d, owns (c : Thread nD τ) (ms2_2 a t) fullShare ((dat2 a W c).before 2 t d))
    ∗ (∃ d, owns (c : Thread nD τ) (ms2_3 a t) fullShare ((dat2 a W c).before 3 t d))
    ∗ (∃ d, owns (c : Thread nD τ) (ms2_4 a t) fullShare ((dat2 a W c).before 4 t d))
    ∗ (∃ d, owns (c : Thread nD τ) (ms2_5 a t) fullShare ((dat2 a W c).before 5 t d))
    ∗ (∃ d, owns (c : Thread nD τ) (ms2_6 a t) fullShare ((dat2 a W c).before 6 t d))
    ∗ (∃ d, owns (c : Thread nD τ) (ms2_7 a t) fullShare ((dat2 a W c).before 7 t d))
    ∗ (∃ d, owns (c : Thread nD τ) (ms2_8 a t) fullShare ((dat2 a W c).before 8 t d))
    ∗ (∃ d, owns (c : Thread nD τ) (ms2_9 a t) fullShare ((dat2 a W c).before 9 t d)))

/-- What the body gives back. -/
def bodyPost2 (c : Dev nD) (t : Fin (cfg2 a).N) : sProp 𝕄 :=
  iprop((dat2 a W c).Φ t.succ ∗ (dat2 a W c).owesAt () t.succ
    ∗ (dat2 a W c).leavesExact 0 t
    ∗ (dat2 a W c).leavesExact 1 t
    ∗ (dat2 a W c).leavesExact 2 t
    ∗ (dat2 a W c).leavesExact 3 t
    ∗ (dat2 a W c).leavesExact 4 t
    ∗ (dat2 a W c).leavesExact 5 t
    ∗ (dat2 a W c).leavesExact 6 t
    ∗ (dat2 a W c).leavesExact 7 t
    ∗ (dat2 a W c).leavesExact 8 t
    ∗ (dat2 a W c).leavesExact 9 t)

theorem oN_first (c : Dev nD) (n : ℕ) (h : (n + 1) % 4 = 3) (h' : n + 1 < 4) : oN a W c (n + 1) = conN a W c (n + 1) := by rw [oN, if_pos h, if_pos h']
theorem oN_later (c : Dev nD) (n : ℕ) (h : (n + 1) % 4 = 3) (h' : ¬ n + 1 < 4) : oN a W c (n + 1) = k2_pay5 (F := Ideal) (conN a W c (n + 1)) (oN a W c n) := by rw [oN, if_pos h, if_neg h']

set_option maxHeartbeats 4000000 in
theorem sound2_A (c : Dev nD) (t : Fin (cfg2 a).N) (h0 : t.val % 4 = 0) (h1 : ¬ t.val % 4 = 3) :
    bodyPre2 a W c t ⊢ wp frame (wpE (defs₀ (F := Ideal)) Variants.none c none) Set.univ (bodyAt2 a t) (fun _ => bodyPost2 a W c t) := by
  have hN : t.val < 96 := Nat.lt_of_lt_of_eq t.isLt N_2
  unfold bodyPre2 bodyPost2 bodyAt2
  simp only [before2_0, before2_1, before2_2, before2_3, before2_4, before2_5, before2_6, before2_7, before2_8]
  rw [show (dat2 a W c).owesAt () t.succ = (dat2 a W c).owesAt () t.castSucc from rfl,
    show (dat2 a W c).Φ t.succ = Phi2 a W c (t.val + 1) from rfl, show (dat2 a W c).Φ t.castSucc = Phi2 a W c t.val from rfl,
    leaves2_0, leaves2_1, leaves2_2, leaves2_3, leaves2_4, leaves2_5, leaves2_6, leaves2_7, leaves2_8]
  rw [leaves2_9_idle a W c t h1]
  refine (BIClass.sep_mono (Phi2_weak a W c t.val) .rfl).trans ?_
  unfold Phi2 tabs2
  iintro ⟨⟨⟨⟨⟨HS0, HS1, HS2, HS3⟩, Hr⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA (F := Ideal) c (grid2.coords t) _ _ _ _ _ _ _ _ _ _ _ _ _ _ _ _ _ _ _ _ _ _ _ _ _ _ _ _ ((opens_iff t).mpr h0) (fun h => h1 ((closes_iff t).mp h)) (iblk2 a W c 0 t) (iblk2 a W c 1 t) (iblk2 a W c 2 t) (iblk2 a W c 3 t) (iblk2 a W c 4 t) (iblk2 a W c 5 t) (iblk2 a W c 6 t) (iblk2 a W c 7 t) (iblk2 a W c 8 t) ((dat2 a W c).before 9 t d9) (a.1 0) (a.1 1)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HT0]; · iexact HT0
  isplitl [HT1]; · iexact HT1
  iintro ⟨H0, H1, H2, H3, H4, H5, H6, H7, H8, H9, ⟨%e0, HS0⟩, ⟨%e1, HS1⟩, ⟨%e2, HS2⟩, ⟨%e3, HS3⟩, HT0, HT1⟩
  isplitl [HS0 HS1 HS2 HS3 Hr Hg HT0 HT1]
  · isplitl [HS0 HS1 HS2 HS3 Hr Hg]
    · isplitl [HS0 HS1 HS2 HS3 Hr]
      · isplitl [HS0 HS1 HS2 HS3]
        · isplitl [HS0]
          · unfold owns; iexists _; isplitr; swap; · iexact HS0
            ipureintro; exact (valA_mt _ _ _ _ _ _ _ _ _ _ _ _ _ _ _ _ _ _ _ _ _ _ _ _ _ _ _ _ _ _ _ _ _ _ _ _ _ _ _ _ _ _ _ _ e0).trans ((mtA_val a W c t).symm.trans (mtN_open a W c t.val h0).symm)
          isplitl [HS1]
          · unfold owns; iexists _; isplitr; swap; · iexact HS1
            ipureintro; exact (valA_q _ _ _ _ _ _ _ _ _ _ _ _ _ _ _ _ _ _ _ _ _ _ _ _ _ _ _ _ _ _ _ _ _ _ _ _ _ _ _ _ _ _ _ _ e1).trans ((qA_val a W c t).symm.trans (qN_open a W c t.val h0).symm)
          isplitl [HS2]
          · unfold owns; iexists _; isplitr; swap; · iexact HS2
            ipureintro; exact (valA_acc _ _ _ _ _ _ _ _ _ _ _ _ _ _ _ _ _ _ _ _ _ _ _ _ _ _ _ _ _ _ _ _ _ _ _ _ _ _ _ _ _ _ _ _ e2).trans (by rw [accN_open a W c t.val h0, qA_val, X3_val, X4_val])
          unfold owns; iexists _; isplitr; swap; · iexact HS3
          ipureintro; exact (valA_l _ _ _ _ _ _ _ _ _ _ _ _ _ _ _ _ _ _ _ _ _ _ _ _ _ _ _ _ _ _ _ _ _ _ _ _ _ _ _ _ _ _ _ _ e3).trans (by rw [lN_open a W c t.val h0, qA_val, X3_val])
        iexact Hr
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 4000000 in
theorem sound2_B (c : Dev nD) (t : Fin (cfg2 a).N) (h0 : ¬ t.val % 4 = 0) (h1 : ¬ t.val % 4 = 3) :
    bodyPre2 a W c t ⊢ wp frame (wpE (defs₀ (F := Ideal)) Variants.none c none) Set.univ (bodyAt2 a t) (fun _ => bodyPost2 a W c t) := by
  have hN : t.val < 96 := Nat.lt_of_lt_of_eq t.isLt N_2
  obtain ⟨n, hn⟩ := Nat.exists_eq_add_one_of_ne_zero (show t.val ≠ 0 by omega)
  have h0n : ¬ (n + 1) % 4 = 0 := by omega
  unfold bodyPre2 bodyPost2 bodyAt2
  simp only [before2_0, before2_1, before2_2, before2_3, before2_4, before2_5, before2_6, before2_7, before2_8]
  rw [show (dat2 a W c).owesAt () t.succ = (dat2 a W c).owesAt () t.castSucc from rfl,
    show (dat2 a W c).Φ t.succ = Phi2 a W c (t.val + 1) from rfl, show (dat2 a W c).Φ t.castSucc = Phi2 a W c t.val from rfl,
    leaves2_0, leaves2_1, leaves2_2, leaves2_3, leaves2_4, leaves2_5, leaves2_6, leaves2_7, leaves2_8]
  rw [leaves2_9_idle a W c t h1]
  simp only [hn]
  unfold Phi2 tabs2
  iintro ⟨⟨⟨⟨⟨HS0, HS1, HS2, HS3⟩, Hr⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB (F := Ideal) c (grid2.coords t) _ _ _ _ _ _ _ _ _ _ _ _ _ _ _ _ _ _ _ _ _ _ _ _ _ _ _ _ (fun h => h0 ((opens_iff t).mp h)) (fun h => h1 ((closes_iff t).mp h)) (iblk2 a W c 0 t) (iblk2 a W c 1 t) (iblk2 a W c 2 t) (iblk2 a W c 3 t) (iblk2 a W c 4 t) (iblk2 a W c 5 t) (iblk2 a W c 6 t) (iblk2 a W c 7 t) (iblk2 a W c 8 t) ((dat2 a W c).before 9 t d9) (mtN a W c n) (qN a W c n) (accN a W c n) (lN a W c n) (a.1 0) (a.1 1)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HT0]; · iexact HT0
  isplitl [HT1]; · iexact HT1
  iintro ⟨H0, H1, H2, H3, H4, H5, H6, H7, H8, H9, HS0, HS1, ⟨%e2, HS2⟩, HS3, HT0, HT1⟩
  isplitl [HS0 HS1 HS2 HS3 Hr Hg HT0 HT1]
  · isplitl [HS0 HS1 HS2 HS3 Hr Hg]
    · isplitl [HS0 HS1 HS2 HS3 Hr]
      · isplitl [HS0 HS1 HS2 HS3]
        · isplitl [HS0]
          · rw [mtN_next a W c n h0n]; iexact HS0
          isplitl [HS1]
          · rw [qN_next a W c n h0n]; iexact HS1
          isplitl [HS2]
          · unfold owns; iexists _; isplitr; swap; · iexact HS2
            ipureintro; exact (valB_acc _ _ _ _ _ _ _ _ _ _ _ _ _ _ _ _ _ _ _ _ _ _ _ _ _ _ _ _ _ _ _ _ _ _ _ _ _ _ _ _ _ _ _ _ _ _ _ _ e2).trans (accN_next a W c t n hn h0n).symm
          unfold owns; iexists _; isplitr; swap; · iexact HS3
          ipureintro; exact (valB_l _ _ _ _ _ _ _ _ _ _ _ _ _ _ _ _ _ _ _ _ _ _ _ _ _ _ _ _ _ _ _ _ _ _ _ _ _ _ _ _ _ _ _ _ _ _ _ _).trans (lN_next a W c t n hn h0n).symm
        iexact Hr
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 4000000 in
theorem sound2_C (c : Dev nD) (t : Fin (cfg2 a).N) (h0 : ¬ t.val % 4 = 0) (h1 : t.val % 4 = 3) (h2 : t.val < 4) :
    bodyPre2 a W c t ⊢ wp frame (wpE (defs₀ (F := Ideal)) Variants.none c none) Set.univ (bodyAt2 a t) (fun _ => bodyPost2 a W c t) := by
  have hN : t.val < 96 := Nat.lt_of_lt_of_eq t.isLt N_2
  obtain ⟨n, hn⟩ := Nat.exists_eq_add_one_of_ne_zero (show t.val ≠ 0 by omega)
  have h0n : ¬ (n + 1) % 4 = 0 := by omega
  unfold bodyPre2 bodyPost2 bodyAt2
  simp only [before2_0, before2_1, before2_2, before2_3, before2_4, before2_5, before2_6, before2_7, before2_8]
  rw [show (dat2 a W c).owesAt () t.succ = (dat2 a W c).owesAt () t.castSucc from rfl,
    show (dat2 a W c).Φ t.succ = Phi2 a W c (t.val + 1) from rfl, show (dat2 a W c).Φ t.castSucc = Phi2 a W c t.val from rfl,
    leaves2_0, leaves2_1, leaves2_2, leaves2_3, leaves2_4, leaves2_5, leaves2_6, leaves2_7, leaves2_8]
  rw [leaves2_9_live a W c t h1]
  simp only [hn]
  unfold Phi2 tabs2
  iintro ⟨⟨⟨⟨⟨HS0, HS1, HS2, HS3⟩, Hr⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runC (F := Ideal) c (grid2.coords t) _ _ _ _ _ _ _ _ _ _ _ _ _ _ _ _ _ _ _ _ _ _ _ _ _ _ _ _ (fun h => h0 ((opens_iff t).mp h)) ((closes_iff t).mpr h1) ((isFirst_iff t).mpr h2) (fun h => absurd ((isLater_iff t).mp h) (by omega)) (iblk2 a W c 0 t) (iblk2 a W c 1 t) (iblk2 a W c 2 t) (iblk2 a W c 3 t) (iblk2 a W c 4 t) (iblk2 a W c 5 t) (iblk2 a W c 6 t) (iblk2 a W c 7 t) (iblk2 a W c 8 t) (mtN a W c n) (qN a W c n) (accN a W c n) (lN a W c n) (a.1 0) (a.1 1)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HT0]; · iexact HT0
  isplitl [HT1]; · iexact HT1
  iintro ⟨H0, H1, H2, H3, H4, H5, H6, H7, H8, ⟨%e9, H9⟩, HS0, HS1, ⟨%e2, HS2⟩, HS3, HT0, HT1⟩
  isplitl [HS0 HS1 HS2 HS3 Hr Hg HT0 HT1]
  · isplitl [HS0 HS1 HS2 HS3 Hr Hg]
    · isplitl [HS0 HS1 HS2 HS3 Hr]
      · isplitl [HS0 HS1 HS2 HS3]
        · isplitl [HS0]
          · rw [mtN_next a W c n h0n]; iexact HS0
          isplitl [HS1]
          · rw [qN_next a W c n h0n]; iexact HS1
          isplitl [HS2]
          · unfold owns; iexists _; isplitr; swap; · iexact HS2
            ipureintro; exact (valC_acc _ _ _ _ _ _ _ _ _ _ _ _ _ _ _ _ _ _ _ _ _ _ _ _ _ _ _ _ _ _ _ _ _ _ _ _ _ _ _ _ _ _ _ _ _ _ _ _ _ e2).trans (accN_next a W c t n hn h0n).symm
          unfold owns; iexists _; isplitr; swap; · iexact HS3
          ipureintro; exact (valC_l _ _ _ _ _ _ _ _ _ _ _ _ _ _ _ _ _ _ _ _ _ _ _ _ _ _ _ _ _ _ _ _ _ _ _ _ _ _ _ _ _ _ _ _ _ _ _ _ _).trans (lN_next a W c t n hn h0n).symm
        iexact Hr
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr; swap; · iexact H9
  ipureintro; exact (valC_out _ _ _ _ _ _ _ _ _ _ _ _ _ _ _ _ _ _ _ _ _ _ _ _ _ _ _ _ _ _ _ _ _ _ _ _ _ _ _ _ _ _ _ _ _ _ _ _ _ e9).trans (by rw [oN_first a W c n (by omega) (by omega), conN_next a W c t n hn h0n])

set_option maxHeartbeats 4000000 in
theorem sound2_D (c : Dev nD) (t : Fin (cfg2 a).N) (h0 : ¬ t.val % 4 = 0) (h1 : t.val % 4 = 3) (h2 : ¬ t.val < 4) :
    bodyPre2 a W c t ⊢ wp frame (wpE (defs₀ (F := Ideal)) Variants.none c none) Set.univ (bodyAt2 a t) (fun _ => bodyPost2 a W c t) := by
  have hN : t.val < 96 := Nat.lt_of_lt_of_eq t.isLt N_2
  obtain ⟨n, hn⟩ := Nat.exists_eq_add_one_of_ne_zero (show t.val ≠ 0 by omega)
  have h0n : ¬ (n + 1) % 4 = 0 := by omega
  unfold bodyPre2 bodyPost2 bodyAt2
  simp only [before2_0, before2_1, before2_2, before2_3, before2_4, before2_5, before2_6, before2_7, before2_8]
  rw [show (dat2 a W c).owesAt () t.succ = (dat2 a W c).owesAt () t.castSucc from rfl,
    show (dat2 a W c).Φ t.succ = Phi2 a W c (t.val + 1) from rfl, show (dat2 a W c).Φ t.castSucc = Phi2 a W c t.val from rfl,
    leaves2_0, leaves2_1, leaves2_2, leaves2_3, leaves2_4, leaves2_5, leaves2_6, leaves2_7, leaves2_8]
  rw [leaves2_9_live a W c t h1]
  simp only [before2_9 a W c t (by omega), hn, Nat.add_sub_cancel]
  unfold Phi2 tabs2
  iintro ⟨⟨⟨⟨⟨HS0, HS1, HS2, HS3⟩, Hr⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runD (F := Ideal) c (grid2.coords t) _ _ _ _ _ _ _ _ _ _ _ _ _ _ _ _ _ _ _ _ _ _ _ _ _ _ _ _ (fun h => h0 ((opens_iff t).mp h)) ((closes_iff t).mpr h1) (fun h => absurd ((isFirst_iff t).mp h) h2) ((isLater_iff t).mpr (by omega)) (iblk2 a W c 0 t) (iblk2 a W c 1 t) (iblk2 a W c 2 t) (iblk2 a W c 3 t) (iblk2 a W c 4 t) (iblk2 a W c 5 t) (iblk2 a W c 6 t) (iblk2 a W c 7 t) (iblk2 a W c 8 t) (oN a W c n) (mtN a W c n) (qN a W c n) (accN a W c n) (lN a W c n) (a.1 0) (a.1 1)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HT0]; · iexact HT0
  isplitl [HT1]; · iexact HT1
  iintro ⟨H0, H1, H2, H3, H4, H5, H6, H7, H8, ⟨%e9, H9⟩, HS0, HS1, ⟨%e2, HS2⟩, HS3, HT0, HT1⟩
  isplitl [HS0 HS1 HS2 HS3 Hr Hg HT0 HT1]
  · isplitl [HS0 HS1 HS2 HS3 Hr Hg]
    · isplitl [HS0 HS1 HS2 HS3 Hr]
      · isplitl [HS0 HS1 HS2 HS3]
        · isplitl [HS0]
          · rw [mtN_next a W c n h0n]; iexact HS0
          isplitl [HS1]
          · rw [qN_next a W c n h0n]; iexact HS1
          isplitl [HS2]
          · unfold owns; iexists _; isplitr; swap; · iexact HS2
            ipureintro; exact (valD_acc _ _ _ _ _ _ _ _ _ _ _ _ _ _ _ _ _ _ _ _ _ _ _ _ _ _ _ _ _ _ _ _ _ _ _ _ _ _ _ _ _ _ _ _ _ _ _ _ _ _ e2).trans (accN_next a W c t n hn h0n).symm
          unfold owns; iexists _; isplitr; swap; · iexact HS3
          ipureintro; exact (valD_l _ _ _ _ _ _ _ _ _ _ _ _ _ _ _ _ _ _ _ _ _ _ _ _ _ _ _ _ _ _ _ _ _ _ _ _ _ _ _ _ _ _ _ _ _ _ _ _ _ _).trans (lN_next a W c t n hn h0n).symm
        iexact Hr
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr; swap; · iexact H9
  ipureintro; exact (valD_out _ _ _ _ _ _ _ _ _ _ _ _ _ _ _ _ _ _ _ _ _ _ _ _ _ _ _ _ _ _ _ _ _ _ _ _ _ _ _ _ _ _ _ _ _ _ _ _ _ _ e9).trans (by rw [oN_later a W c n (by omega) (by omega), conN_next a W c t n hn h0n])

theorem sound_body2 (c : Dev nD) (t : Fin (cfg2 a).N) :
    bodyPre2 a W c t ⊢ wp frame (wpE (defs₀ (F := Ideal)) Variants.none c none) Set.univ (bodyAt2 a t) (fun _ => bodyPost2 a W c t) := by
  by_cases h0 : t.val % 4 = 0
  · exact sound2_A a W c t h0 (by omega)
  by_cases h1 : t.val % 4 = 3
  · by_cases h2 : t.val < 4
    · exact sound2_C a W c t h0 h1 h2
    · exact sound2_D a W c t h0 h1 h2
  · exact sound2_B a W c t h0 h1

theorem defs₀_row2 (t : Fin (cfg2 a).N) :
    defs₀ (F := Ideal) .tc (cfg2 a).body ((cfg2 a).bodyArgs t ((cfg2 a).slots t)) = bodyAt2 a t := by
  unfold defs₀; rw [Defs.onTc_tc]

/-- The body obligation of the attention call. -/
theorem body_obligation2 (c : Dev nD) : BodyObligation (dat2 a W c) (defs₀ (F := Ideal)) Variants.none () Set.univ := fun t => by
  rw [bigSep_W2, bigSep_W2, defs₀_row2]
  exact triple_restated (sound_body2 a W c t) rfl .rfl fun _ => .rfl

end Cert.KernelIdeal.Own
end
-- ==== Proof.Reg0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! # The router call: its body run, from any contents of its arrays -/

def iblk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

theorem before0_0_of {c : Dev nD} (dat : Dat τ (Elt F) Unit ℕ (UR sig nD τ) ℕ cfg0 c) (hA : dat.A 0 = W c (Pipeline.arrRef spec0 0))
    (hafter : ∀ t, dat.after 0 t = iblk0 W c 0 t) (t : Fin cfg0.N) (d) : dat.before 0 t d = iblk0 W c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = W c (Pipeline.arrRef spec0 1))
    (hafter : ∀ t, dat.after 1 t = iblk0 W c 1 t) (t : Fin cfg0.N) (d) : dat.before 1 t d = iblk0 W c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = W c (Pipeline.arrRef spec0 2))
    (hafter : ∀ t, dat.after 2 t = iblk0 W c 2 t) (t : Fin cfg0.N) (d) : dat.before 2 t d = iblk0 W c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x768 := Rect.unit (s := S2048x768) ![0, 0] S2048x768.size inb_S2048x768_S2048x768_0_0
abbrev r0_1 : Rect S768x8 := Rect.unit (s := S768x8) ![0, 0] S768x8.size inb_S768x8_S768x8_0_0
abbrev r0_2 : Rect S1x8 := Rect.unit (s := S1x8) ![0, 0] S1x8.size inb_S1x8_S1x8_0_0
abbrev r0_3 : Rect S2048x8 := Rect.unit (s := S2048x8) ![0, 0] S2048x8.size inb_S2048x8_S2048x8_0_0
abbrev r0_4 : Rect S1x32 := Rect.unit (s := S1x32) ![0, 0] S1x32.size inb_S1x32_S1x32_0_0

/-- The chosen experts of each token, counted along the tokens: the running counts. -/
def cnt0 (x0 : Vec F S2048x768 .f32) (x1 : Vec F S768x8 .f32) (x2 : Vec F S1x8 .f32) : FVec F S2048x8 .f32 :=
  k0_pay12 (F := F) (k0_pay4 (View.ld x0 r0_0) (View.ld x1 r0_1) (View.ld x2 r0_2)) (k0_pay7 (View.ld x0 r0_0) (View.ld x1 r0_1) (View.ld x2 r0_2))

def out0_3 (x0 : Vec F S2048x768 .f32) (x1 : Vec F S768x8 .f32) (x2 : Vec F S1x8 .f32) : Vec F S2048x8 .f32 :=
  View.canon [⟨r0_3, k0_pay11 (k0_pay4 (View.ld x0 r0_0) (View.ld x1 r0_1) (View.ld x2 r0_2)) (k0_pay7 (View.ld x0 r0_0) (View.ld x1 r0_1) (View.ld x2 r0_2)) (k0_pay9 (View.ld x0 r0_0) (View.ld x1 r0_1) (View.ld x2 r0_2)) (Scalar.ofBits .f32 0x00000000#32) (k0_pay10 (View.ld x0 r0_0) (View.ld x1 r0_1) (View.ld x2 r0_2))⟩]

theorem cover0_3 (p0 : Vec F S2048x8 .f32) (y : S2048x8.Idx) :
    ∃ pc ∈ ([⟨r0_3, p0⟩] : List (View.Piece (Elt F) S2048x8 .f32)), y ∈ pc.1.set :=
  View.cover_of_tiled [⟨r0_3, p0⟩] S2048x8.size (by rfl) y

def out0_4 (x0 : Vec F S2048x768 .f32) (x1 : Vec F S768x8 .f32) (x2 : Vec F S1x8 .f32) : Vec F S2048x8 .f32 :=
  View.canon [⟨r0_3, k0_pay13 (cnt0 x0 x1 x2)⟩]

theorem cover0_4 (p0 : Vec F S2048x8 .f32) (y : S2048x8.Idx) :
    ∃ pc ∈ ([⟨r0_3, p0⟩] : List (View.Piece (Elt F) S2048x8 .f32)), y ∈ pc.1.set :=
  View.cover_of_tiled [⟨r0_3, p0⟩] S2048x8.size (by rfl) y

def out0_5 (x0 : Vec F S2048x768 .f32) (x1 : Vec F S768x8 .f32) (x2 : Vec F S1x8 .f32) : Vec F S1x32 .i32 :=
  View.canon [⟨r0_4, k0_pay17 (cnt0 x0 x1 x2)⟩]

theorem cover0_5 (p0 : Vec F S1x32 .i32) (y : S1x32.Idx) :
    ∃ pc ∈ ([⟨r0_4, p0⟩] : List (View.Piece (Elt F) S1x32 .i32)), y ∈ pc.1.set :=
  View.cover_of_tiled [⟨r0_4, p0⟩] S1x32.size (by rfl) y

def out0_6 (x0 : Vec F S2048x768 .f32) (x1 : Vec F S768x8 .f32) (x2 : Vec F S1x8 .f32) : Vec F S1x32 .i32 :=
  View.canon [⟨r0_4, k0_pay1 (k0_pay16 (cnt0 x0 x1 x2))⟩]

theorem cover0_6 (p0 : Vec F S1x32 .i32) (y : S1x32.Idx) :
    ∃ pc ∈ ([⟨r0_4, p0⟩] : List (View.Piece (Elt F) S1x32 .i32)), y ∈ pc.1.set :=
  View.cover_of_tiled [⟨r0_4, p0⟩] S1x32.size (by rfl) y

set_option maxHeartbeats 1000000 in
theorem sound_kernel0 (c : Dev nD) (E : Set ℕ) (i : grid0.Coords) (arg1 : Memref sig .tc .vmem S2048x768 .f32) (harg1 : arg1.IsWhole) (arg2 : Memref sig .tc .vmem S768x8 .f32) (harg2 : arg2.IsWhole) (arg3 : Memref sig .tc .vmem S1x8 .f32) (harg3 : arg3.IsWhole) (arg4 : Memref sig .tc .vmem S2048x8 .f32) (harg4 : arg4.IsWhole) (arg5 : Memref sig .tc .vmem S2048x8 .f32) (harg5 : arg5.IsWhole) (arg6 : Memref sig .tc .vmem S1x32 .i32) (harg6 : arg6.IsWhole) (arg7 : Memref sig .tc .vmem S1x32 .i32) (harg7 : arg7.IsWhole)
    (x0 : Vec F S2048x768 .f32) (x1 : Vec F S768x8 .f32) (x2 : Vec F S1x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E (cc0__router_body i arg1 harg1 arg2 harg2 arg3 harg3 arg4 harg4 arg5 harg5 arg6 harg6 arg7 harg7) K := by
  simp only [cc0__router_body_eq_skeleton]; unfold cc0__router_body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _)).trans ?_
  rfl

def dat0 (c : Dev nD) : Dat τ (Elt F) Unit ℕ (UR sig nD τ) ℕ cfg0 c where
  A w := W c (Pipeline.arrRef spec0 w)
  after w t := match w with
    | ⟨0, _⟩ => iblk0 W c 0 t
    | ⟨1, _⟩ => iblk0 W c 1 t
    | ⟨2, _⟩ => iblk0 W c 2 t
    | ⟨3, _⟩ => out0_3 (iblk0 W c 0 t) (iblk0 W c 1 t) (iblk0 W c 2 t)
    | ⟨4, _⟩ => out0_4 (iblk0 W c 0 t) (iblk0 W c 1 t) (iblk0 W c 2 t)
    | ⟨5, _⟩ => out0_5 (iblk0 W c 0 t) (iblk0 W c 1 t) (iblk0 W c 2 t)
    | ⟨6, _⟩ => out0_6 (iblk0 W c 0 t) (iblk0 W c 1 t) (iblk0 W c 2 t)
  Φ _ := Pipeline.ΦA spec0 c
  q _ := fullShare
  owed _ := 0

theorem A_eq0 (c : Dev nD) (w : Fin cfg0.W) : (dat0 W c).A w = W c (Pipeline.arrRef spec0 w) := by
  dsimp only [dat0]

theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = out0_3 (iblk0 W c 0 t) (iblk0 W c 1 t) (iblk0 W c 2 t) := by dsimp only [dat0]
theorem after0_4 (c : Dev nD) (t : Fin cfg0.N) : (dat0 W c).after 4 t = out0_4 (iblk0 W c 0 t) (iblk0 W c 1 t) (iblk0 W c 2 t) := by dsimp only [dat0]
theorem after0_5 (c : Dev nD) (t : Fin cfg0.N) : (dat0 W c).after 5 t = out0_5 (iblk0 W c 0 t) (iblk0 W c 1 t) (iblk0 W c 2 t) := by dsimp only [dat0]
theorem after0_6 (c : Dev nD) (t : Fin cfg0.N) : (dat0 W c).after 6 t = out0_6 (iblk0 W c 0 t) (iblk0 W c 1 t) (iblk0 W c 2 t) := by dsimp only [dat0]

theorem before0_0 (c : Dev nD) (t : Fin cfg0.N) (d) : (dat0 W c).before 0 t d = iblk0 W c 0 t :=
  before0_0_of W (dat0 W c) (A_eq0 W c 0) (after0_0 W c) t d
theorem before0_1 (c : Dev nD) (t : Fin cfg0.N) (d) : (dat0 W c).before 1 t d = iblk0 W c 1 t :=
  before0_1_of W (dat0 W c) (A_eq0 W c 1) (after0_1 W c) t d
theorem before0_2 (c : Dev nD) (t : Fin cfg0.N) (d) : (dat0 W c).before 2 t d = iblk0 W c 2 t :=
  before0_2_of W (dat0 W c) (A_eq0 W c 2) (after0_2 W c) t d

def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d))
    ∗ (∃ d, owns (c : Thread nD τ) (st0_6 t) fullShare ((dat0 W c).before 6 t d)))

def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t)
    ∗ owns (c : Thread nD τ) (st0_6 t) fullShare ((dat0 W c).after 6 t))

theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2]
  rw [show (dat0 W c).Φ t.succ = (dat0 W c).Φ t.castSucc from rfl,
    show (dat0 W c).owesAt () t.succ = (dat0 W c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 W c 0 t) (iblk0 W c 1 t) (iblk0 W c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end Cert.KernelIdeal.Own

end
-- ==== Proof.Reg1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! # The call of the keys and values: its body run, from any contents of its arrays -/

def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

theorem before1_0_of {c : Dev nD} (dat : Dat τ (Elt F) Unit ℕ (UR sig nD τ) ℕ cfg1 c) (hA : dat.A 0 = W c (Pipeline.arrRef spec1 0))
    (hafter : ∀ t, dat.after 0 t = iblk1 W c 0 t) (t : Fin cfg1.N) (d) : dat.before 0 t d = iblk1 W c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = W c (Pipeline.arrRef spec1 1))
    (hafter : ∀ t, dat.after 1 t = iblk1 W c 1 t) (t : Fin cfg1.N) (d) : dat.before 1 t d = iblk1 W c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = W c (Pipeline.arrRef spec1 2))
    (hafter : ∀ t, dat.after 2 t = iblk1 W c 2 t) (t : Fin cfg1.N) (d) : dat.before 2 t d = iblk1 W c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = W c (Pipeline.arrRef spec1 3))
    (hafter : ∀ t, dat.after 3 t = iblk1 W c 3 t) (t : Fin cfg1.N) (d) : dat.before 3 t d = iblk1 W c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = W c (Pipeline.arrRef spec1 4))
    (hafter : ∀ t, dat.after 4 t = iblk1 W c 4 t) (t : Fin cfg1.N) (d) : dat.before 4 t d = iblk1 W c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S512x768 := Rect.unit (s := S512x768) ![0, 0] S512x768.size inb_S512x768_S512x768_0_0
abbrev r1_1 : Rect S1x768x768 := Rect.unit (s := S1x768x768) ![0, 0, 0] S1x768x768.size inb_S1x768x768_S1x768x768_0_0_0
abbrev r1_2 : Rect S1x1x768 := Rect.unit (s := S1x1x768) ![0, 0, 0] S1x1x768.size inb_S1x1x768_S1x1x768_0_0_0
abbrev r1_3 : Rect S1x512x768 := Rect.unit (s := S1x512x768) ![0, 0, 0] S1x512x768.size inb_S1x512x768_S1x512x768_0_0_0

def out1_5 (x0 : Vec F S512x768 .bf16) (x1 : Vec F S1x768x768 .bf16) (x2 : Vec F S1x1x768 .f32) (x3 : Vec F S1x768x768 .bf16) (x4 : Vec F S1x1x768 .f32) : Vec F S1x512x768 .bf16 :=
  View.canon [⟨r1_3, k1_pay2 (View.ld x0 r1_0) (View.ld x1 r1_1) (View.ld x2 r1_2)⟩]

theorem cover1_5 (p0 : Vec F S1x512x768 .bf16) (y : S1x512x768.Idx) :
    ∃ pc ∈ ([⟨r1_3, p0⟩] : List (View.Piece (Elt F) S1x512x768 .bf16)), y ∈ pc.1.set :=
  View.cover_of_tiled [⟨r1_3, p0⟩] S1x512x768.size (by rfl) y

def out1_6 (x0 : Vec F S512x768 .bf16) (x1 : Vec F S1x768x768 .bf16) (x2 : Vec F S1x1x768 .f32) (x3 : Vec F S1x768x768 .bf16) (x4 : Vec F S1x1x768 .f32) : Vec F S1x512x768 .bf16 :=
  View.canon [⟨r1_3, k1_pay3 (View.ld x0 r1_0) (View.ld x3 r1_1) (View.ld x4 r1_2)⟩]

theorem cover1_6 (p0 : Vec F S1x512x768 .bf16) (y : S1x512x768.Idx) :
    ∃ pc ∈ ([⟨r1_3, p0⟩] : List (View.Piece (Elt F) S1x512x768 .bf16)), y ∈ pc.1.set :=
  View.cover_of_tiled [⟨r1_3, p0⟩] S1x512x768.size (by rfl) y

set_option maxHeartbeats 1000000 in
theorem sound_kernel1 (c : Dev nD) (E : Set ℕ) (i : grid1.Coords) (arg2 : Memref sig .tc .vmem S512x768 .bf16) (harg2 : arg2.IsWhole) (arg3 : Memref sig .tc .vmem S1x768x768 .bf16) (harg3 : arg3.IsWhole) (arg4 : Memref sig .tc .vmem S1x1x768 .f32) (harg4 : arg4.IsWhole) (arg5 : Memref sig .tc .vmem S1x768x768 .bf16) (harg5 : arg5.IsWhole) (arg6 : Memref sig .tc .vmem S1x1x768 .f32) (harg6 : arg6.IsWhole) (arg7 : Memref sig .tc .vmem S1x512x768 .bf16) (harg7 : arg7.IsWhole) (arg8 : Memref sig .tc .vmem S1x512x768 .bf16) (harg8 : arg8.IsWhole)
    (x0 : Vec F S512x768 .bf16) (x1 : Vec F S1x768x768 .bf16) (x2 : Vec F S1x1x768 .f32) (x3 : Vec F S1x768x768 .bf16) (x4 : Vec F S1x1x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4) ∗ owns (c : Thread nD τ) arg8 fullShare (out1_6 x0 x1 x2 x3 x4)) -∗ K ⟨⟩))
      ⊢ wp frame (wpE (defs₀ (F := F)) Variants.none c none) E (cc1__kv_body i arg2 harg2 arg3 harg3 arg4 harg4 arg5 harg5 arg6 harg6 arg7 harg7 arg8 harg8) K := by
  simp only [cc1__kv_body_eq_skeleton]; unfold cc1__kv_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

def dat1 (c : Dev nD) : Dat τ (Elt F) Unit ℕ (UR sig nD τ) ℕ cfg1 c where
  A w := W c (Pipeline.arrRef spec1 w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => out1_5 (iblk1 W c 0 t) (iblk1 W c 1 t) (iblk1 W c 2 t) (iblk1 W c 3 t) (iblk1 W c 4 t)
    | ⟨6, _⟩ => out1_6 (iblk1 W c 0 t) (iblk1 W c 1 t) (iblk1 W c 2 t) (iblk1 W c 3 t) (iblk1 W c 4 t)
  Φ _ := Pipeline.ΦA spec1 c
  q _ := fullShare
  owed _ := 0

theorem A_eq1 (c : Dev nD) (w : Fin cfg1.W) : (dat1 W c).A w = W c (Pipeline.arrRef spec1 w) := by
  dsimp only [dat1]

theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = out1_5 (iblk1 W c 0 t) (iblk1 W c 1 t) (iblk1 W c 2 t) (iblk1 W c 3 t) (iblk1 W c 4 t) := by dsimp only [dat1]
theorem after1_6 (c : Dev nD) (t : Fin cfg1.N) : (dat1 W c).after 6 t = out1_6 (iblk1 W c 0 t) (iblk1 W c 1 t) (iblk1 W c 2 t) (iblk1 W c 3 t) (iblk1 W c 4 t) := by dsimp only [dat1]

theorem before1_0 (c : Dev nD) (t : Fin cfg1.N) (d) : (dat1 W c).before 0 t d = iblk1 W c 0 t :=
  before1_0_of W (dat1 W c) (A_eq1 W c 0) (after1_0 W c) t d
theorem before1_1 (c : Dev nD) (t : Fin cfg1.N) (d) : (dat1 W c).before 1 t d = iblk1 W c 1 t :=
  before1_1_of W (dat1 W c) (A_eq1 W c 1) (after1_1 W c) t d
theorem before1_2 (c : Dev nD) (t : Fin cfg1.N) (d) : (dat1 W c).before 2 t d = iblk1 W c 2 t :=
  before1_2_of W (dat1 W c) (A_eq1 W c 2) (after1_2 W c) t d
theorem before1_3 (c : Dev nD) (t : Fin cfg1.N) (d) : (dat1 W c).before 3 t d = iblk1 W c 3 t :=
  before1_3_of W (dat1 W c) (A_eq1 W c 3) (after1_3 W c) t d
theorem before1_4 (c : Dev nD) (t : Fin cfg1.N) (d) : (dat1 W c).before 4 t d = iblk1 W c 4 t :=
  before1_4_of W (dat1 W c) (A_eq1 W c 4) (after1_4 W c) t d

def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d)))

def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t)
    ∗ owns (c : Thread nD τ) (st1_5 t) fullShare ((dat1 W c).after 5 t)
    ∗ owns (c : Thread nD τ) (st1_6 t) fullShare ((dat1 W c).after 6 t))

theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4]
  rw [show (dat1 W c).Φ t.succ = (dat1 W c).Φ t.castSucc from rfl,
    show (dat1 W c).owesAt () t.succ = (dat1 W c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 W c 0 t) (iblk1 W c 1 t) (iblk1 W c 2 t) (iblk1 W c 3 t) (iblk1 W c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

end Cert.KernelIdeal.Own

end
-- ==== Proof.Router.lean ====
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.Val

open Idealize.ShloMosaic Idealize.ShloMosaic.TcCoe
open Cert.KernelIdeal hiding ix2
open Cert.KernelIdeal.Gen

/-! # The words of the router's tables -/

theorem sitofp_bit (p : Prop) [Decidable p] :
    (FloatOps.sitofp (F := Ideal) .f32 (BitVec.setWidth 32 (BitVec.ofBool (decide p))) : EReal) = if p then 1 else 0 := by
  show (((BitVec.setWidth 32 (BitVec.ofBool (decide p))).toInt : ℝ) : EReal) = _
  by_cases h : p <;> simp [h]

theorem toInt_nat (n : ℕ) (h : n < 2 ^ 31) : (BitVec.ofNat 32 n).toInt = n := by
  have h' : n < 2147483648 := h
  rw [BitVec.toInt_eq_toNat_of_lt (by rw [BitVec.toNat_ofNat, Nat.mod_eq_of_lt (by omega)]; omega), BitVec.toNat_ofNat, Nat.mod_eq_of_lt (by omega)]

theorem sitofp_nat (n : ℕ) (h : n < 2 ^ 31) :
    (FloatOps.sitofp (F := Ideal) .f32 (BitVec.ofNat 32 n) : EReal) = ((n : ℝ) : EReal) := by
  show (((BitVec.ofNat 32 n).toInt : ℝ) : EReal) = _
  rw [toInt_nat n h]
  simp

theorem fptosi_nat (n : ℕ) (h : n < 2 ^ 31) :
    FloatOps.fptosi (F := Ideal) (φ := .f32) 32 ((n : ℝ) : EReal) = BitVec.ofNat 32 n := by
  show Idealize.ShloMosaic.Ideal.fptosi 32 _ = _
  have h' : n < 2147483648 := h
  unfold Idealize.ShloMosaic.Ideal.fptosi
  rw [Idealize.ShloMosaic.Ideal.toIntClamped_coe, if_pos (by positivity), Int.floor_natCast]
  rw [min_eq_right (by norm_num; omega), max_eq_right (by norm_num)]
  exact BitVec.ofInt_natCast 32 n

theorem sum_bits {n : ℕ} (p : Fin n → Prop) [DecidablePred p] :
    (∑ x, (if p x then (1 : EReal) else 0)) = (((Finset.univ.filter p).card : ℝ) : EReal) := by
  rw [Finset.sum_ite]
  simp

/-- The first block of expert `e`, as the router counts it. -/
def stE (v : FVec Ideal S2048x8 .f32) (e : Fin 8) : EReal := k0_pay14 (F := Ideal) v (ix2 e 0)

theorem stE_eq (v : FVec Ideal S2048x8 .f32) (e : Fin 8) : stE v e = ∑ x : Fin 8, (if x < e then 1 else 0) *
    Idealize.ShloMosaic.Ideal.liftRound Int.floor (Idealize.ShloMosaic.Ideal.div (k0_pay13 v (ix2 2047 x) + Idealize.ShloMosaic.Ideal.ofBits FTy.f32 1132396544#32)
      (Idealize.ShloMosaic.Ideal.ofBits FTy.f32 1132462080#32)) := by
  unfold stE
  pointwise [Gen.k0_pay14]
  refine Finset.sum_congr rfl fun x _ => ?_
  congr 1
  rw [← sitofp_bit (x < e)]
  congr 2
  unfold IntOp.cmpi
  simp only [BitVec.slt, toInt_nat x.val (by omega), toInt_nat e.val (by omega)]
  congr 1
  simp

theorem stE_zero (v : FVec Ideal S2048x8 .f32) : stE v 0 = 0 := by
  rw [stE_eq]
  exact Finset.sum_eq_zero fun x _ => by rw [if_neg (by simp), zero_mul]

/-- The experts whose first block is at most `b`. -/
def eobS (v : FVec Ideal S2048x8 .f32) (b : Fin 32) : Finset (Fin 8) := Finset.univ.filter fun e => stE v e ≤ ((b.val : ℝ) : EReal)

theorem eobS_pos (v : FVec Ideal S2048x8 .f32) (b : Fin 32) : 0 < (eobS v b).card := by
  refine Finset.card_pos.mpr ⟨0, ?_⟩
  unfold eobS
  rw [Finset.mem_filter, stE_zero]
  exact ⟨Finset.mem_univ _, by exact_mod_cast Nat.zero_le b.val⟩

theorem eob_word (v : FVec Ideal S2048x8 .f32) (b : Fin 32) : k0_pay17 (F := Ideal) v (ix2 0 b) = BitVec.ofNat 32 ((eobS v b).card - 1) := by
  pointwise [Gen.k0_pay17, Gen.k0_pay15]
  have hc := eobS_pos v b
  have h8 : (eobS v b).card ≤ 8 := (Finset.card_le_univ _).trans_eq (by simp)
  rw [sitofp_nat b.val (by omega)]
  simp only [sitofp_bit]
  rw [sum_bits, ← fptosi_nat _ (by omega)]
  congr 1
  show (((eobS v b).card : ℝ) : EReal) - 1 = _
  rw [Nat.cast_sub (by omega), EReal.coe_sub]
  simp

theorem eob_lt (v : FVec Ideal S2048x8 .f32) (b : Fin 32) : (k0_pay17 (F := Ideal) v (ix2 0 b)).toNat < 8 := by
  have hc := eobS_pos v b
  have h8 : (eobS v b).card ≤ 8 := (Finset.card_le_univ _).trans_eq (by simp)
  rw [eob_word, BitVec.toNat_ofNat, Nat.mod_eq_of_lt (by omega)]
  omega

end Cert.Val
end
-- ==== Proof.Arr0.lean ====
module

public import proofs.«01_k».proof.Proof.Reg0
public import proofs.«01_k».proof.Proof.Reg1
public import proofs.«01_k».proof.Proof.Router
public import Idealize.ShloMosaic.Lib.Pipeline.ValueKit.Geometry
public import Idealize.ShloMosaic.Lib.Pipeline.ValueKit.Acc

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL
open Idealize.ShloMosaic.Pipeline (Dat Cfg Window)

variable (W : (c : Dev nD) → (b : Ref sig .tc) → Buf (Elt Ideal) ((c : Thread nD τ).loc b))

/-! # The arrays the router leaves -/

/-- The router's masks, counts and gates over its whole inputs. -/
def M1 (x : Vec Ideal S2048x768 .f32) (w : Vec Ideal S768x8 .f32) (b : Vec Ideal S1x8 .f32) : IVec S2048x8 1 := k0_pay4 (F := Ideal) x w b
def M2 (x : Vec Ideal S2048x768 .f32) (w : Vec Ideal S768x8 .f32) (b : Vec Ideal S1x8 .f32) : IVec S2048x8 1 := k0_pay7 (F := Ideal) x w b
def cntW (x : Vec Ideal S2048x768 .f32) (w : Vec Ideal S768x8 .f32) (b : Vec Ideal S1x8 .f32) : FVec Ideal S2048x8 .f32 := k0_pay12 (F := Ideal) (M1 x w b) (M2 x w b)
def gaW (x : Vec Ideal S2048x768 .f32) (w : Vec Ideal S768x8 .f32) (b : Vec Ideal S1x8 .f32) : FVec Ideal S2048x8 .f32 :=
  k0_pay11 (F := Ideal) (M1 x w b) (M2 x w b) (k0_pay9 (F := Ideal) x w b) (Scalar.ofBits .f32 0x00000000#32) (k0_pay10 (F := Ideal) x w b)

theorem e0_0 : ∀ t : Fin cfg0.N, win0_0.index t = ![0, 0] := (by decide +kernel : ∀ t : Fin grid0.N, _)
theorem whole0_0 (c : Dev nD) (t : Fin cfg0.N) : iblk0 W c 0 t = W c main_v0 := by
  funext y; unfold iblk0; blk_simp [e0_0]; congr 1; blk_ext [e0_0]
theorem e0_1 : ∀ t : Fin cfg0.N, win0_1.index t = ![0, 0] := (by decide +kernel : ∀ t : Fin grid0.N, _)
theorem whole0_1 (c : Dev nD) (t : Fin cfg0.N) : iblk0 W c 1 t = W c main_arg1 := by
  funext y; unfold iblk0; blk_simp [e0_1]; congr 1; blk_ext [e0_1]
theorem e0_2 : ∀ t : Fin cfg0.N, win0_2.index t = ![0, 0] := (by decide +kernel : ∀ t : Fin grid0.N, _)
theorem whole0_2 (c : Dev nD) (t : Fin cfg0.N) : iblk0 W c 2 t = W c main_v6 := by
  funext y; unfold iblk0; blk_simp [e0_2]; congr 1; blk_ext [e0_2]

/-- The only point of the router's call. -/
def p0 : Fin cfg0.N := ⟨0, by decide⟩

theorem arr0_3 (c : Dev nD) : (dat0 W c).arrAt 3 cfg0.N = gaW (W c main_v0) (W c main_arg1) (W c main_v6) := by
  refine (dat0 W c).arrAt_eq_of_after_last 3 p0 (by decide +kernel) _ fun j => ?_
  blk_simp
  rw [after0_3, whole0_0, whole0_1, whole0_2]
  unfold out0_3
  frame_out
  rfl

theorem arr0_4 (c : Dev nD) : (dat0 W c).arrAt 4 cfg0.N = k0_pay13 (F := Ideal) (cntW (W c main_v0) (W c main_arg1) (W c main_v6)) := by
  refine (dat0 W c).arrAt_eq_of_after_last 4 p0 (by decide +kernel) _ fun j => ?_
  blk_simp
  rw [after0_4, whole0_0, whole0_1, whole0_2]
  unfold out0_4 cnt0
  frame_out
  rfl

theorem arr0_5 (c : Dev nD) : (dat0 W c).arrAt 5 cfg0.N = k0_pay17 (F := Ideal) (cntW (W c main_v0) (W c main_arg1) (W c main_v6)) := by
  refine (dat0 W c).arrAt_eq_of_after_last 5 p0 (by decide +kernel) _ fun j => ?_
  blk_simp
  rw [after0_5, whole0_0, whole0_1, whole0_2]
  unfold out0_5 cnt0
  frame_out
  rfl

theorem arr0_6 (c : Dev nD) : (dat0 W c).arrAt 6 cfg0.N = k0_pay1 (F := Ideal) (k0_pay16 (F := Ideal) (cntW (W c main_v0) (W c main_arg1) (W c main_v6))) := by
  refine (dat0 W c).arrAt_eq_of_after_last 6 p0 (by decide +kernel) _ fun j => ?_
  blk_simp
  rw [after0_6, whole0_0, whole0_1, whole0_2]
  unfold out0_6 cnt0
  frame_out
  rfl

end Cert.KernelIdeal.Own
end
-- ==== Proof.Top.lean ====
module

public import proofs.«01_k».proof.Proof.Body2
public import proofs.«01_k».proof.Proof.Arr0
public import Idealize.ShloMosaic.Lib.Pipeline.RegionArraysS
public import Idealize.ShloMosaic.Lib.Pipeline.RegionArraysTS
public import Idealize.ShloMosaic.Lib.Pipeline.FrameTail

@[expose] public section

set_option maxRecDepth 16384

noncomputable section

namespace Cert.Val

open Idealize.ShloMosaic Idealize.ShloMosaic.TcCoe
open Cert.KernelIdeal hiding ix2
open Cert.KernelIdeal.Gen

theorem eob_all (v : Vec Idealize.ShloMosaic.Ideal S2048x8 .f32) (y : S1x32.Idx) :
    (k0_pay17 (F := Idealize.ShloMosaic.Ideal) v y).toNat < 8 := by
  rw [show y = ix2 (0 : Fin 1) (y 1) from by
    funext a; fin_cases a
    · exact Subsingleton.elim (α := Fin 1) _ _
    · rfl]
  exact eob_lt v (y 1)

end Cert.Val

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg HostSeg Seg)

local notation "𝕄" => MT nD τ sig Unit (Elt Ideal) ℕ (UR sig nD τ) ℕ

variable (m : (ℓ : Loc nD τ sig) → Buf (Elt Ideal) ℓ)

/-! # The buffers between the calls -/

def U1 (c : Dev nD) : Valuation τ sig (Elt Ideal) := StableHlo.after hostOps0 (V0 m c)
def U2 (c : Dev nD) : Valuation τ sig (Elt Ideal) := Pipeline.afterRegion (dat0 (fun c b => U1 m c b) c) (U1 m c)
def U3 (c : Dev nD) : Valuation τ sig (Elt Ideal) := Pipeline.afterRegion (dat1 (fun c b => U2 m c b) c) (U2 m c)
def U4 (c : Dev nD) : Valuation τ sig (Elt Ideal) := StableHlo.after hostOps2 (U3 m c)

/-- The two tables as the attention call finds them. -/
def tbl : pre2.Contents (Elt Ideal) := fun j => U4 m 0 (pre2.ref j)

theorem after2_v13 (V : Valuation τ sig (Elt Ideal)) :
    StableHlo.after hostOps2 V (Proc.devRef .tc main_v13) = shapeCast S32 (V (Proc.devRef .tc main_v11_2)) shapeCasts_S1x32_S32 := by
  unfold hostOps2
  after_results
  rfl

theorem after2_v14 (V : Valuation τ sig (Elt Ideal)) :
    StableHlo.after hostOps2 V (Proc.devRef .tc main_v14) = shapeCast S32 (V (Proc.devRef .tc main_v11_3)) shapeCasts_S1x32_S32 := by
  unfold hostOps2
  after_results
  rfl

theorem U3_eob (c : Dev nD) : U3 m c (Proc.devRef .tc main_v11_2) =
    k0_pay17 (F := Ideal) (cntW (U1 m c main_v0) (U1 m c main_arg1) (U1 m c main_v6)) := by
  unfold U3
  rw [Pipeline.afterRegion_keeps _ _ winFacts1.arr_inj (fun w => rfl) main_v11_2 (by decide)]
  unfold U2
  exact (Pipeline.afterRegion_arr (dat0 (fun c b => U1 m c b) c) (U1 m c) winFacts0.arr_inj (5 : Fin 7)).trans (arr0_5 _ c)

theorem tbl_lt (i : S32.Idx) : ((tbl m 0 : S32.Idx → BitVec 32) i).toNat < 8 := by
  have h : (tbl m 0 : S32.Idx → BitVec 32) = shapeCast S32 (U3 m 0 (Proc.devRef .tc main_v11_2)) shapeCasts_S1x32_S32 := after2_v13 (U3 m 0)
  rw [h, U3_eob]
  exact Cert.Val.eob_all _ _

/-- A block of the keys or of the values, at an expert of the table and a chunk, is inside its array. -/
theorem inb_chunk (e : Nat) (h : e < 8) (q : Nat) (hq : q < 4) :
    ∀ a : Fin 3, (![e, q, 0] a + 1) * S1x512x768.size a ≤ S8x2048x768.size a
  | 0 => by show (e + 1) * 1 ≤ 8; omega
  | 1 => by show (q + 1) * 512 ≤ 2048; omega
  | 2 => by show (0 + 1) * _ ≤ _; decide

theorem inb_weight (e : Nat) (h : e < 8) : ∀ a : Fin 3, (![e, 0, 0] a + 1) * S1x768x768.size a ≤ S8x768x768.size a
  | 0 => by show (e + 1) * 1 ≤ 8; omega
  | 1 => by show (0 + 1) * _ ≤ _; decide
  | 2 => by show (0 + 1) * _ ≤ _; decide

theorem inb_bias (e : Nat) (h : e < 8) : ∀ a : Fin 3, (![e, 0, 0] a + 1) * S1x1x768.size a ≤ S8x1x768.size a
  | 0 => by show (e + 1) * 1 ≤ 8; omega
  | 1 => by show (0 + 1) * _ ≤ _; decide
  | 2 => by show (0 + 1) * _ ≤ _; decide

theorem coord_word (i : grid2.Coords) : (BitVec.ofNat 32 (i 1).val).toNat < 4 := by
  have h : (i 1).val < 4 := (i 1).isLt
  rw [BitVec.toNat_ofNat]
  omega

theorem ok : ok2 (tbl m) :=
  ⟨fun i => ⟨inb_chunk _ (tbl_lt m _) _ (coord_word i), .inr (Affine.block_words_dvd (of_decide_eq_true rfl) (by decide))⟩,
   fun i => ⟨inb_chunk _ (tbl_lt m _) _ (coord_word i), .inr (Affine.block_words_dvd (of_decide_eq_true rfl) (by decide))⟩,
   fun i => ⟨inb_weight _ (tbl_lt m _), .inr (Affine.block_words_dvd (of_decide_eq_true rfl) (by decide))⟩,
   fun i => ⟨inb_bias _ (tbl_lt m _), .inl rfl⟩,
   fun i => ⟨inb_weight _ (tbl_lt m _), .inr (Affine.block_words_dvd (of_decide_eq_true rfl) (by decide))⟩,
   fun i => ⟨inb_bias _ (tbl_lt m _), .inl rfl⟩⟩

/-- The tables the attention call runs with, known to be good. -/
def adm : (pcfg2 (F := Ideal)).Adm := ⟨tbl m, ok m⟩

def U5 (c : Dev nD) : Valuation τ sig (Elt Ideal) := Pipeline.afterRegion (dat2 (adm m) (fun c b => U4 m c b) c) (U4 m c)
def U6 (c : Dev nD) : Valuation τ sig (Elt Ideal) := StableHlo.after hostOps3 (U5 m c)

def adms : (p : Fin 3) → (pcfgs (F := Ideal) p).Adm
  | ⟨0, _⟩ => cfg0.toPCfg_adm
  | ⟨1, _⟩ => cfg1.toPCfg_adm
  | ⟨2, _⟩ => adm m

def pdats : (p : Fin 3) → (c : Dev nD) → Dat τ (Elt Ideal) Unit ℕ (UR sig nD τ) ℕ (Pipeline.pin (pcfgs (F := Ideal)) (adms m) p) c
  | ⟨0, _⟩ => fun c => dat0 (fun c b => U1 m c b) c
  | ⟨1, _⟩ => fun c => dat1 (fun c b => U2 m c b) c
  | ⟨2, _⟩ => fun c => dat2 (adm m) (fun c b => U4 m c b) c

def lvlIx (g : GSem nD τ sig) : Finset Unit := if g.1.2 = .tc then {()} else ∅
def lvl (_ : GSem nD τ sig) (_ : Unit) : ℕ := 0

theorem cut (p : Fin 3) : Pipeline.LevelCut (pcfgs (F := Ideal)) (adms m) () lvlIx lvl p (fun _ => 0) (fun _ => 0) where
  hι c w s := by simp [lvlIx]
  hιb c w s := le_rfl
  hD c g i h := absurd h (lt_irrefl _)

/-- What rides beside the buffers: the core owes nothing, and has its random-number state. -/
def rest (c : Dev nD) : sProp 𝕄 :=
  iprop((∃ Wd, owes (c : Thread nD τ) (0 : CellTallies nD τ sig Unit) Wd) ∗ (∃ r, prngReg c r) ∗ emp)

theorem tables_eq (c : Dev nD) : Pipeline.tablesAt (Ix := Unit) (Name := ℕ) (U := UR sig nD τ) (Lvl := ℕ) (pcfgs (F := Ideal)) (adms m) 2 c = tabs2 (adm m) c := by
  unfold Pipeline.tablesAt Pipeline.prefHeld
  rw [show (Finset.univ : Finset (Fin 2)) = insert 0 {1} from by decide, bigSep_insert (by decide), bigSep_singleton]
  rfl

/-- A call's region over the buffers outside the calls' own, entered at `W` and left at what the region leaves. -/
theorem region_held {pcs : Fin 3 → Pipeline.PCfg sig Λ₀ (Elt Ideal)} (a : (p : Fin 3) → (pcs p).Adm)
    (pd : (p : Fin 3) → (c : Dev nD) → Dat τ (Elt Ideal) Unit ℕ (UR sig nD τ) ℕ (Pipeline.pin pcs a p) c)
    (p : Fin 3) (kit : Pipeline.PLaunchFacts (nD := nD) (τ := τ) pcs p)
    (hS : Pipeline.arrRefs (τ := τ) (pcs p).spec ⊆ Pipeline.ucRefs τ sig) (hK : (pcs p).pre.K = 0)
    (hbody : ∀ c, Pipeline.BodyObligationLoose (pd p c) defs₀ Variants.none () Set.univ)
    (howed : ∀ c t, (pd p c).owed t = 0) (hrec : ∀ c, (pd p c).recorded 0 = Set.univ)
    (hshare : ∀ c w, (pd p c).share w = fullShare)
    (hin : ∀ c, iprop(Pipeline.scopedRest (Pipeline.pin pcs a p).spec c ∗ (∃ r, prngReg c r)) ⊢ (pd p c).Φ 0)
    (hout : ∀ c, (pd p c).Φ (Fin.last (Pipeline.pin pcs a p).N) ⊢
      iprop(Pipeline.scopedRest (Pipeline.pin pcs a p).spec c ∗ (∃ r, prngReg c r)))
    (hcut : Pipeline.LevelCut pcs a () lvlIx lvl p (fun _ => 0) (fun _ => 0))
    (W : Dev nD → Valuation τ sig (Elt Ideal))
    (hW : ∀ c w, (pd p c).arrAt w 0 = W c (Proc.devRef .tc (Pipeline.arrRef (Pipeline.pin pcs a p).spec w))) :
    ∃ S : RegionSeg pcs a pd () defs₀ Variants.none lvlIx lvl p,
      (∀ c : Dev nD, iprop(StableHlo.held (c : Thread nD τ) (Pipeline.ucRefs τ sig) (W c) ∗ rest c) ⊢ S.pre c) ∧
      (∀ c : Dev nD, S.post c ⊢ iprop(StableHlo.held (c : Thread nD τ) (Pipeline.ucRefs τ sig) (Pipeline.afterRegion (pd p c) (W c)) ∗ rest c)) := by
  refine ⟨RegionSeg.ofHeldIn pcs a pd () defs₀ Variants.none lvlIx lvl p (fun _ => 0) (Pipeline.ucRefs τ sig)
      (fun c => iprop(∃ r, prngReg c r)) (fun c => iprop(∃ r, prngReg c r)) kit hK hbody howed hrec hshare hin hout (fun _ => 0) hcut
      (fun _ => iprop(emp)) W hW, fun c => ?_, fun c => ?_⟩
  · unfold rest
    exact RegionSeg.ofHeldIn_pre (pcs := pcs) (a := a) (pdats := pd) (ι := ()) (defs₀ := defs₀) (𝒱₀ := Variants.none) (L := lvlIx) (lv := lvl) (p := p) (D := fun _ => 0) (X := fun c => iprop(∃ r, prngReg c r)) (Y := fun c => iprop(∃ r, prngReg c r)) (R := fun _ => iprop(emp)) (W := W) hS c
  · unfold rest
    exact RegionSeg.ofHeldIn_post (pcs := pcs) (a := a) (pdats := pd) (ι := ()) (defs₀ := defs₀) (𝒱₀ := Variants.none) (L := lvlIx) (lv := lvl) (p := p) (D := fun _ => 0) (X := fun c => iprop(∃ r, prngReg c r)) (Y := fun c => iprop(∃ r, prngReg c r)) (R := fun _ => iprop(emp)) (W := W) hS c

/-- A call's region, with its tables, over the buffers outside the calls' own, entered at `W` and left at what the region leaves. -/
theorem region_heldT {pcs : Fin 3 → Pipeline.PCfg sig Λ₀ (Elt Ideal)} (a : (p : Fin 3) → (pcs p).Adm)
    (pd : (p : Fin 3) → (c : Dev nD) → Dat τ (Elt Ideal) Unit ℕ (UR sig nD τ) ℕ (Pipeline.pin pcs a p) c)
    (p : Fin 3) (kit : Pipeline.PLaunchFacts (nD := nD) (τ := τ) pcs p)
    (hS : Pipeline.arrRefs (τ := τ) (pcs p).spec ⊆ Pipeline.ucRefs τ sig)
    (hS' : Pipeline.tblRefs (τ := τ) (pcs p).pre ⊆ Pipeline.ucRefs τ sig)
    (hbody : ∀ c, Pipeline.BodyObligationLoose (pd p c) defs₀ Variants.none () Set.univ)
    (howed : ∀ c t, (pd p c).owed t = 0) (hrec : ∀ c, (pd p c).recorded 0 = Set.univ)
    (hshare : ∀ c w, (pd p c).share w = fullShare)
    (hin : ∀ c, iprop(iprop(Pipeline.scopedRest (Pipeline.pin pcs a p).spec c ∗ (∃ r, prngReg c r)) ∗ Pipeline.tablesAt pcs a p c) ⊢ (pd p c).Φ 0)
    (hout : ∀ c, (pd p c).Φ (Fin.last (Pipeline.pin pcs a p).N) ⊢
      iprop(iprop(Pipeline.scopedRest (Pipeline.pin pcs a p).spec c ∗ (∃ r, prngReg c r)) ∗ Pipeline.tablesAt pcs a p c))
    (hcut : Pipeline.LevelCut pcs a () lvlIx lvl p (fun _ => 0) (fun _ => 0))
    (W : Dev nD → Valuation τ sig (Elt Ideal))
    (hW : ∀ c w, (pd p c).arrAt w 0 = W c (Proc.devRef .tc (Pipeline.arrRef (Pipeline.pin pcs a p).spec w)))
    (hT : ∀ c k, (a p).1 k = W c (Proc.devRef .tc ((pcs p).pre.ref k))) :
    ∃ S : RegionSeg pcs a pd () defs₀ Variants.none lvlIx lvl p,
      (∀ c : Dev nD, iprop(StableHlo.held (c : Thread nD τ) (Pipeline.ucRefs τ sig) (W c) ∗ rest c) ⊢ S.pre c) ∧
      (∀ c : Dev nD, S.post c ⊢ iprop(StableHlo.held (c : Thread nD τ) (Pipeline.ucRefs τ sig) (Pipeline.afterRegion (pd p c) (W c)) ∗ rest c)) := by
  refine ⟨RegionSeg.ofHeldInT pcs a pd () defs₀ Variants.none lvlIx lvl p (fun _ => 0) (Pipeline.ucRefs τ sig)
      (fun c => iprop(∃ r, prngReg c r)) (fun c => iprop(∃ r, prngReg c r)) kit hbody howed hrec hshare hin hout (fun _ => 0) hcut
      (fun _ => iprop(emp)) W hW hT, fun c => ?_, fun c => ?_⟩
  · unfold rest
    exact RegionSeg.ofHeldInT_pre (pcs := pcs) (a := a) (pdats := pd) (ι := ()) (defs₀ := defs₀) (𝒱₀ := Variants.none) (L := lvlIx) (lv := lvl) (p := p) (D := fun _ => 0) (X := fun c => iprop(∃ r, prngReg c r)) (Y := fun c => iprop(∃ r, prngReg c r)) (R := fun _ => iprop(emp)) (W := W) hS hS' c
  · unfold rest
    exact RegionSeg.ofHeldInT_post (pcs := pcs) (a := a) (pdats := pd) (ι := ()) (defs₀ := defs₀) (𝒱₀ := Variants.none) (L := lvlIx) (lv := lvl) (p := p) (D := fun _ => 0) (X := fun c => iprop(∃ r, prngReg c r)) (Y := fun c => iprop(∃ r, prngReg c r)) (R := fun _ => iprop(emp)) (W := W) hS hS' c

theorem enter2 (c : Dev nD) : iprop(iprop(Pipeline.scopedRest spec2 c ∗ (∃ r, prngReg c r)) ∗
      Pipeline.tablesAt (Ix := Unit) (Name := ℕ) (U := UR sig nD τ) (Lvl := ℕ) (pcfgs (F := Ideal)) (adms m) 2 c) ⊢
    (Phi2 (adm m) (fun c b => U4 m c b) c 0 : sProp 𝕄) := by
  rw [tables_eq, scoped2_eq]
  exact .rfl

theorem leave2 (c : Dev nD) (n : ℕ) : (Phi2 (adm m) (fun c b => U4 m c b) c n : sProp 𝕄) ⊢
    iprop(iprop(Pipeline.scopedRest spec2 c ∗ (∃ r, prngReg c r)) ∗
      Pipeline.tablesAt (Ix := Unit) (Name := ℕ) (U := UR sig nD τ) (Lvl := ℕ) (pcfgs (F := Ideal)) (adms m) 2 c) := by
  rw [tables_eq, scoped2_eq]
  exact Phi2_weak _ _ c n

theorem tbl_eq (c : Dev nD) (k : Fin pre2.K) : tbl m k = U4 m c (Proc.devRef .tc (pre2.ref k)) := by
  obtain rfl : c = 0 := Subsingleton.elim _ _
  rfl

theorem sub0 : Pipeline.arrRefs (τ := τ) spec0 ⊆ Pipeline.ucRefs τ sig := Pipeline.arrRefs_sub_ucRefs _ (by decide)
theorem sub1 : Pipeline.arrRefs (τ := τ) spec1 ⊆ Pipeline.ucRefs τ sig := Pipeline.arrRefs_sub_ucRefs _ (by decide)
theorem sub2 : Pipeline.arrRefs (τ := τ) spec2 ⊆ Pipeline.ucRefs τ sig := Pipeline.arrRefs_sub_ucRefs _ (by decide)
theorem sub2' : Pipeline.tblRefs (τ := τ) pre2 ⊆ Pipeline.ucRefs τ sig := Pipeline.tblRefs_sub_ucRefs _ (by decide)

def hseg (ops : List (HloOp τ sig (Elt Ideal))) (h : ops.Forall fun op => op.bufs ⊆ StableHlo.tcRefs τ sig)
    (h' : ops.Forall fun op => op.fresh = ∅) (V : Dev nD → Valuation τ sig (Elt Ideal)) :
    HostSeg (Ix := Unit) (Name := ℕ) (U := UR sig nD τ) (Lvl := ℕ) (pcfgs (F := Ideal)) defs₀ Variants.none lvlIx lvl :=
  HostSeg.ofOps _ _ _ _ _ (Pipeline.ucRefs τ sig) ops
    (fun op h₁ => Pipeline.sub_ucRefs op ((List.forall_iff_forall_mem.mp h) op h₁))
    (fun op h₁ => (List.forall_iff_forall_mem.mp h') op h₁) V rest

theorem launch_one (g : Dev nD → PrngReg) (c : Dev nD) :
    (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (g c) ∗ emp) : sProp 𝕄)
        ⊢ (iprop(StableHlo.held (c : Thread nD τ) (Pipeline.ucRefs τ sig) (V0 m c) ∗ rest c) : sProp 𝕄) := by
  have h : (unscopedBufs c (fun b => m ((c.tc : Thread nD τ).loc b)) : sProp 𝕄) ⊢ StableHlo.held (c : Thread nD τ) (Pipeline.ucRefs τ sig) (V0 m c) := by
    rw [← Pipeline.unscopedBufs_held (Ix := Unit) (Name := ℕ) (U := UR sig nD τ) (Lvl := ℕ) c (V0 m c)]
  unfold rest
  iintro ⟨Hb, -, HO, -, Hg, -⟩
  isplitl [Hb]; · iapply h; iexact Hb
  isplitl [HO]; · iexists _; iexact HO
  isplitl [Hg]; · iexists _; iexact Hg
  iempintro

theorem launch_split (g : Dev nD → PrngReg) :
    (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (g c) ∗ emp))
        ⊢ (bigSep Finset.univ (fun c : Dev nD => iprop(StableHlo.held (c : Thread nD τ) (Pipeline.ucRefs τ sig) (V0 m c) ∗ rest c)) : sProp 𝕄) :=
  bigSep_mono fun c _ => launch_one m g c

section General

variable (a : (p : Fin 3) → (pcfgs (F := Ideal) p).Adm)
  (pd : (p : Fin 3) → (c : Dev nD) → Dat τ (Elt Ideal) Unit ℕ (UR sig nD τ) ℕ (Pipeline.pin (pcfgs (F := Ideal)) a p) c)
  (S0 : RegionSeg (pcfgs (F := Ideal)) a pd () defs₀ Variants.none lvlIx lvl 0)
  (S1 : RegionSeg (pcfgs (F := Ideal)) a pd () defs₀ Variants.none lvlIx lvl 1)
  (S2 : RegionSeg (pcfgs (F := Ideal)) a pd () defs₀ Variants.none lvlIx lvl 2)
  (A1 A2 A3 : Dev nD → Valuation τ sig (Elt Ideal))

abbrev segs (c : Dev nD) : List (Seg (pcfgs (F := Ideal)) a pd () defs₀ Variants.none lvlIx lvl) :=
  [.host (hseg hostOps0 hostOps0_sub hostOps0_fresh (V0 m)), .region S0, .region S1, .host (hseg hostOps2 hostOps2_sub hostOps2_fresh A2),
    .region S2, .host (hseg hostOps3 hostOps3_sub hostOps3_fresh A3)]

set_option backward.isDefEq.respectTransparency.types false in
/-- Every run of the program ends with each buffer outside the calls' own as `U6` has it, and every counter at zero. -/
theorem run_of (g : Dev nD → PrngReg)
    (h0 : ∀ c : Dev nD, iprop(StableHlo.held (c : Thread nD τ) (Pipeline.ucRefs τ sig) (StableHlo.after hostOps0 (V0 m c)) ∗ rest c) ⊢ S0.pre c)
    (h0' : ∀ c : Dev nD, S0.post c ⊢ iprop(StableHlo.held (c : Thread nD τ) (Pipeline.ucRefs τ sig) (A1 c) ∗ rest c))
    (h1 : ∀ c : Dev nD, iprop(StableHlo.held (c : Thread nD τ) (Pipeline.ucRefs τ sig) (A1 c) ∗ rest c) ⊢ S1.pre c)
    (h1' : ∀ c : Dev nD, S1.post c ⊢ iprop(StableHlo.held (c : Thread nD τ) (Pipeline.ucRefs τ sig) (A2 c) ∗ rest c))
    (h2 : ∀ c : Dev nD, iprop(StableHlo.held (c : Thread nD τ) (Pipeline.ucRefs τ sig) (StableHlo.after hostOps2 (A2 c)) ∗ rest c) ⊢ S2.pre c)
    (h2' : ∀ c : Dev nD, S2.post c ⊢ iprop(StableHlo.held (c : Thread nD τ) (Pipeline.ucRefs τ sig) (A3 c) ∗ rest c)) :
    θ_run defs (onTc (τ := τ) (main (F := Ideal))) ⟨m, fun _ => 0, g⟩ (fun r => (∀ c : Dev nD,
      ∀ b ∈ Pipeline.ucRefs τ sig, r.2.mem ((c : Thread nD τ).1, b) = StableHlo.after hostOps3 (A3 c) b) ∧ r.2.sem = fun _ => 0) := by
  refine Pipeline.θ_run_regions_kit_dev_sems (pcfgs (F := Ideal)) a pd () (cellOf_inj a) emb₁ defs₀ Variants.none lvlIx lvl m g main
    (segs m a pd S0 S1 S2 A2 A3)
    (fun c Q => by
      rewrite [main_chain c, Seg.run_eq_chain,
        show (segs m a pd S0 S1 S2 A2 A3 c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g' h => by unfold lvlIx; exact if_neg h) (fun _ => iprop(emp))
    (initOf (Pipeline.cells (Pipeline.pin (pcfgs (F := Ideal)) a) (cellOf_inj a))
      (Pipeline.launchToks (Pipeline.pin (pcfgs (F := Ideal)) a) (cellOf_inj a))) ?_
    (T₀ := fun c => iprop(StableHlo.held (c : Thread nD τ) (Pipeline.ucRefs τ sig) (V0 m c) ∗ rest c))
    (Tₙ := fun c => StableHlo.held (c : Thread nD τ) (Pipeline.ucRefs τ sig) (StableHlo.after hostOps3 (A3 c)))
    (hch := fun c => ⟨.rfl, h0 c, (h0' c).trans (h1 c), h1' c, h2 c, h2' c, BIClass.sep_mono .rfl ?_⟩)
    (hinit := ?_) (QY := fun c s => ∀ b ∈ Pipeline.ucRefs τ sig, s.mem ((c : Thread nD τ).1, b) = StableHlo.after hostOps3 (A3 c) b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells (Pipeline.pin (pcfgs (F := Ideal)) a) (cellOf_inj a))
        (Pipeline.launchToks (Pipeline.pin (pcfgs (F := Ideal)) a) (cellOf_inj a)))) from .rfl)
      iexact Hu
    · iapply (show (BI.emp : sProp 𝕄) ⊢ bigSep Finset.univ (fun _ : Dev nD => (BI.emp : sProp 𝕄)) from by rw [BI.bigSep_emp_const])
      iempintro
  · unfold rest
    iintro ⟨H, -⟩
    iexact H
  · have hsplit := launch_split m g
    iintro ⟨H, -⟩
    ihave H' := hsplit $$ H
    imodintro
    iexact H'
  · unfold StableHlo.held
    iintro ⟨Hh, HSI⟩
    ihave Hr := (pointsTo_read_all (Pipeline.ucRefs τ sig) (fun b => ((c : Thread nD τ).1, b)) (StableHlo.after hostOps3 (A3 c)) s') $$ [Hh HSI]
    · isplitl [Hh] <;> iassumption
    icases Hr with ⟨%h, HSI⟩
    imodintro
    isplitr
    · ipureintro; exact fun b hb => h b hb
    · iexact HSI

end General

/-- Every run of the program ends with each buffer outside the calls' own as `U6` has it, and every counter at zero. -/
theorem run (g : Dev nD → PrngReg) :
    θ_run defs (onTc (τ := τ) (main (F := Ideal))) ⟨m, fun _ => 0, g⟩ (fun r => (∀ c : Dev nD,
      ∀ b ∈ Pipeline.ucRefs τ sig, r.2.mem ((c : Thread nD τ).1, b) = U6 m c b) ∧ r.2.sem = fun _ => 0) := by
  obtain ⟨S0, h0, h0'⟩ := region_held (adms m) (pdats m) 0 launch0 sub0 rfl (fun c => (body_obligation0 (fun c b => U1 m c b) c).loose)
    (fun _ _ => rfl) (fun _ => rfl) (fun c => (dat0 (fun c b => U1 m c b) c).share_full fun _ => rfl) (fun _ => .rfl) (fun _ => .rfl) (cut m 0)
    (U1 m) (fun _ _ => rfl)
  obtain ⟨S1, h1, h1'⟩ := region_held (adms m) (pdats m) 1 launch1 sub1 rfl (fun c => (body_obligation1 (fun c b => U2 m c b) c).loose)
    (fun _ _ => rfl) (fun _ => rfl) (fun c => (dat1 (fun c b => U2 m c b) c).share_full fun _ => rfl) (fun _ => .rfl) (fun _ => .rfl) (cut m 1)
    (U2 m) (fun _ _ => rfl)
  obtain ⟨S2, h2, h2'⟩ := region_heldT (adms m) (pdats m) 2 launch2 sub2 sub2' (fun c => (body_obligation2 (adm m) (fun c b => U4 m c b) c).loose)
    (fun _ _ => rfl) (fun _ => rfl) (fun c => (dat2 (adm m) (fun c b => U4 m c b) c).share_full fun _ => rfl) (fun c => enter2 m c)
    (fun c => leave2 m c (Fin.last (cfg2 (adm m)).N).val) (cut m 2) (U4 m) (fun _ _ => rfl) (fun c k => tbl_eq m c k)
  exact run_of m (adms m) (pdats m) S0 S1 S2 (U2 m) (U3 m) (U5 m) g h0 h0' h1 h1' h2 h2'

/-! # What the run leaves alone -/

theorem keep2 (c : Dev nD) (r : Ref sig .tc) (h : ∀ w, Pipeline.arrRef spec0 w = r → (win0 w).isOut = false) : U2 m c r = U1 m c r :=
  Pipeline.afterRegion_keeps (dat0 (fun c b => U1 m c b) c) (U1 m c) winFacts0.arr_inj (fun _ => rfl) r h

theorem keep3 (c : Dev nD) (r : Ref sig .tc) (h : ∀ w, Pipeline.arrRef spec1 w = r → (win1 w).isOut = false) : U3 m c r = U2 m c r :=
  Pipeline.afterRegion_keeps (dat1 (fun c b => U2 m c b) c) (U2 m c) winFacts1.arr_inj (fun _ => rfl) r h

theorem keep5 (c : Dev nD) (r : Ref sig .tc) (h : ∀ w, Pipeline.arrRef spec2 w = r → (win2 (adm m) w).isOut = false) : U5 m c r = U4 m c r :=
  Pipeline.afterRegion_keeps (dat2 (adm m) (fun c b => U4 m c b) c) (U4 m c) winFacts2.arr_inj (fun _ => rfl) r h

/-- A buffer nothing writes ends as it began. -/
theorem U6_keep (c : Dev nD) (r : Ref sig .tc) (h1 : r ∉ hostOps0_W) (h2 : r ∉ hostOps2_W) (h3 : r ∉ hostOps3_W)
    (k0 : ∀ w, Pipeline.arrRef spec0 w = r → (win0 w).isOut = false) (k1 : ∀ w, Pipeline.arrRef spec1 w = r → (win1 w).isOut = false)
    (k2 : ∀ w, Pipeline.arrRef spec2 w = r → (win2 (adm m) w).isOut = false) : U6 m c r = m ((c : Thread nD τ).loc r) :=
  (StableHlo.after_of_writes_sub hostOps3 _ hostOps3_writes h3).trans <| (keep5 m c r k2).trans <|
    (StableHlo.after_of_writes_sub hostOps2 _ hostOps2_writes h2).trans <| (keep3 m c r k1).trans <| (keep2 m c r k0).trans <|
    (StableHlo.after_of_writes_sub hostOps0 _ hostOps0_writes h1).trans rfl

abbrev argList : List (Ref sig .tc) := [main_arg0, main_arg1, main_arg2, main_arg3, main_arg4, main_arg5, main_arg6, main_arg7, main_arg8, main_arg9, main_arg10]

theorem args_facts : ∀ r ∈ argList, r.isScoped = false ∧ r ∉ hostOps0_W ∧ r ∉ hostOps2_W ∧ r ∉ hostOps3_W ∧
    (∀ w, Pipeline.arrRef spec0 w = r → (spec0 w).isOut = false) ∧ (∀ w, Pipeline.arrRef spec1 w = r → (spec1 w).isOut = false) ∧
    (∀ w, Pipeline.arrRef spec2 w = r → (spec2 w).isOut = false) := by decide

theorem U6_arg (c : Dev nD) (r : Ref sig .tc) (hr : r ∈ argList) : U6 m c r = m ((c : Thread nD τ).loc r) :=
  have h := args_facts r hr
  U6_keep m c r h.2.1 h.2.2.1 h.2.2.2.1 h.2.2.2.2.1 h.2.2.2.2.2.1 h.2.2.2.2.2.2

/-- Every run ends with the arguments as they were, the result as `U6` has it, and every counter at zero. -/
theorem run_args (g : Dev nD → PrngReg) :
    θ_run defs (onTc (τ := τ) (main (F := Ideal))) ⟨m, fun _ => 0, g⟩ (fun r => (∀ c : Dev nD,
      r.2.mem ((c.tc : Thread nD τ).loc main_v16) = U6 m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) := by
  have hm (r : Ref sig .tc) (h : r.isScoped = false) : Proc.devRef .tc r ∈ Pipeline.ucRefs τ sig :=
    Finset.mem_filter.mpr ⟨StableHlo.devRef_mem_tcRefs r, fun h' => Bool.false_ne_true (h.symm.trans h')⟩
  refine (θ_run defs (onTc (τ := τ) (main (F := Ideal))) ⟨m, fun _ => 0, g⟩).mono (fun r h => ⟨fun c => ⟨h.1 c _ (hm main_v16 (by decide)),
    (h.1 c _ (hm main_arg0 (by decide))).trans (U6_arg m c main_arg0 (by decide)),
    (h.1 c _ (hm main_arg1 (by decide))).trans (U6_arg m c main_arg1 (by decide)),
    (h.1 c _ (hm main_arg2 (by decide))).trans (U6_arg m c main_arg2 (by decide)),
    (h.1 c _ (hm main_arg3 (by decide))).trans (U6_arg m c main_arg3 (by decide)),
    (h.1 c _ (hm main_arg4 (by decide))).trans (U6_arg m c main_arg4 (by decide)),
    (h.1 c _ (hm main_arg5 (by decide))).trans (U6_arg m c main_arg5 (by decide)),
    (h.1 c _ (hm main_arg6 (by decide))).trans (U6_arg m c main_arg6 (by decide)),
    (h.1 c _ (hm main_arg7 (by decide))).trans (U6_arg m c main_arg7 (by decide)),
    (h.1 c _ (hm main_arg8 (by decide))).trans (U6_arg m c main_arg8 (by decide)),
    (h.1 c _ (hm main_arg9 (by decide))).trans (U6_arg m c main_arg9 (by decide)),
    (h.1 c _ (hm main_arg10 (by decide))).trans (U6_arg m c main_arg10 (by decide))⟩, h.2⟩) (run m g)

end Cert.KernelIdeal.Own
end
-- ==== Proof.Ref.lean ====
module

public import proofs.«01_k».proof.Defs
public import proofs.«01_k».proof.Proof.Gen.ReferenceIdeal
public import Idealize.ShloMosaic.Lib.StableHlo.Run
public import Idealize.ShloMosaic.Lib.StableHlo.RunHlo
public import Idealize.ShloMosaic.Lib.Quiescent

@[expose] public section

set_option maxRecDepth 16384
set_option maxHeartbeats 4000000

noncomputable section

namespace Cert.ReferenceIdeal.Own

open Cert.ReferenceIdeal Cert.ReferenceIdeal.Gen
open Idealize.ShloMosaic Idealize.ShloMosaic.TcCoe Idealize.ShloMosaic.StableHlo Idealize.SL.Sem

variable {F : FTy → Type} [FloatOps F]

/-! # The reference's run: a straight line of operations -/

/-- The router's part. -/
abbrev opsA : List (HloOp τ sig (Elt F)) :=
  [ binary main_arg0 main_arg1 main_v0 ((fun l r => Host.dotGeneral dot_S1x2048x768_S768x8_S1x2048x8_2_0_01_1_n_n none l r) : (⟨S1x2048x768, .f32⟩ : BufTy).Contents (Elt F) → (⟨S768x8, .f32⟩ : BufTy).Contents (Elt F) → (⟨S1x2048x8, .f32⟩ : BufTy).Contents (Elt F)),
    unary main_arg2 main_v1 (broadcastInDim S1x1x8 ![2] bcast_S8_S1x1x8_2 : (⟨S8, .f32⟩ : BufTy).Contents (Elt F) → (⟨S1x1x8, .f32⟩ : BufTy).Contents (Elt F)),
    unary main_v1 main_v2 (broadcastInDim S1x2048x8 ![0, 1, 2] bcast_S1x1x8_S1x2048x8_0_1_2 : (⟨S1x1x8, .f32⟩ : BufTy).Contents (Elt F) → (⟨S1x2048x8, .f32⟩ : BufTy).Contents (Elt F)),
    binary main_v0 main_v2 main_v3 (addf : (⟨S1x2048x8, .f32⟩ : BufTy).Contents (Elt F) → (⟨S1x2048x8, .f32⟩ : BufTy).Contents (Elt F) → (⟨S1x2048x8, .f32⟩ : BufTy).Contents (Elt F)),
    unary main_v3 main_values ((fun x => (Host.topK S1x2048x2 2 (FloatOps.cmpfTotal .gt) x sliceFits_S1x2048x8_S1x2048x2).1) : (⟨S1x2048x8, .f32⟩ : BufTy).Contents (Elt F) → (⟨S1x2048x2, .f32⟩ : BufTy).Contents (Elt F)),
    unary main_v3 main_indices ((fun x => (Host.topK S1x2048x2 2 (FloatOps.cmpfTotal .gt) x sliceFits_S1x2048x8_S1x2048x2).2) : (⟨S1x2048x8, .f32⟩ : BufTy).Contents (Elt F) → (⟨S1x2048x2, .i32⟩ : BufTy).Contents (Elt F)),
    nullary main_cst (constant S_ .f32 0xFF800000#32),
    binary main_values main_cst main_v4 ((fun x v => Host.reduce FloatOps.maximumf x v reducesTo_S1x2048x2_S1x2048_d2 h_S_) : (⟨S1x2048x2, .f32⟩ : BufTy).Contents (Elt F) → (⟨S_, .f32⟩ : BufTy).Contents (Elt F) → (⟨S1x2048, .f32⟩ : BufTy).Contents (Elt F)),
    nullary main_cst_0 (constant S_ .f32 0xFF800000#32),
    unary main_cst_0 main_v5 (broadcastInDim S1x2048 ![] bcast_S_S1x2048 : (⟨S_, .f32⟩ : BufTy).Contents (Elt F) → (⟨S1x2048, .f32⟩ : BufTy).Contents (Elt F)),
    binary main_v5 main_v4 main_v6 (maximumf : (⟨S1x2048, .f32⟩ : BufTy).Contents (Elt F) → (⟨S1x2048, .f32⟩ : BufTy).Contents (Elt F) → (⟨S1x2048, .f32⟩ : BufTy).Contents (Elt F)),
    unary main_v6 main_v7 (broadcastInDim S1x2048x1 ![0, 1] bcast_S1x2048_S1x2048x1_0_1 : (⟨S1x2048, .f32⟩ : BufTy).Contents (Elt F) → (⟨S1x2048x1, .f32⟩ : BufTy).Contents (Elt F)),
    unary main_v7 main_v8 (broadcastInDim S1x2048x2 ![0, 1, 2] bcast_S1x2048x1_S1x2048x2_0_1_2 : (⟨S1x2048x1, .f32⟩ : BufTy).Contents (Elt F) → (⟨S1x2048x2, .f32⟩ : BufTy).Contents (Elt F)),
    binary main_values main_v8 main_v9 (subf : (⟨S1x2048x2, .f32⟩ : BufTy).Contents (Elt F) → (⟨S1x2048x2, .f32⟩ : BufTy).Contents (Elt F) → (⟨S1x2048x2, .f32⟩ : BufTy).Contents (Elt F)),
    unary main_v9 main_v10 (Host.exp : (⟨S1x2048x2, .f32⟩ : BufTy).Contents (Elt F) → (⟨S1x2048x2, .f32⟩ : BufTy).Contents (Elt F)),
    nullary main_cst_1 (constant S_ .f32 0x00000000#32),
    binary main_v10 main_cst_1 main_v11 ((fun x v => Host.reduceAdd x v reducesTo_S1x2048x2_S1x2048_d2 h_S_) : (⟨S1x2048x2, .f32⟩ : BufTy).Contents (Elt F) → (⟨S_, .f32⟩ : BufTy).Contents (Elt F) → (⟨S1x2048, .f32⟩ : BufTy).Contents (Elt F)),
    unary main_v11 main_v12 (broadcastInDim S1x2048x1 ![0, 1] bcast_S1x2048_S1x2048x1_0_1 : (⟨S1x2048, .f32⟩ : BufTy).Contents (Elt F) → (⟨S1x2048x1, .f32⟩ : BufTy).Contents (Elt F)),
    unary main_v12 main_v13 (broadcastInDim S1x2048x2 ![0, 1, 2] bcast_S1x2048x1_S1x2048x2_0_1_2 : (⟨S1x2048x1, .f32⟩ : BufTy).Contents (Elt F) → (⟨S1x2048x2, .f32⟩ : BufTy).Contents (Elt F)),
    binary main_v10 main_v13 main_v14 (Host.divf : (⟨S1x2048x2, .f32⟩ : BufTy).Contents (Elt F) → (⟨S1x2048x2, .f32⟩ : BufTy).Contents (Elt F) → (⟨S1x2048x2, .f32⟩ : BufTy).Contents (Elt F)),
    TRef.unary (StableHlo.TRef.of main_indices : StableHlo.TRef sig ⟨S1x2048x2, .i32⟩) main_call0.v0 (broadcastInDim S1x2048x2x1 ![0, 1, 2] bcast_S1x2048x2_S1x2048x2x1_0_1_2),
    TRef.nullary main_call0.v1 (iotaInDim S1x1x1x8 32 3),
    TRef.unary main_call0.v0 main_call0.v2 (broadcastInDim S1x2048x2x8 ![0, 1, 2, 3] bcast_S1x2048x2x1_S1x2048x2x8_0_1_2_3),
    TRef.unary main_call0.v1 main_call0.v3 (broadcastInDim S1x2048x2x8 ![0, 1, 2, 3] bcast_S1x1x1x8_S1x2048x2x8_0_1_2_3),
    TRef.binary main_call0.v2 main_call0.v3 main_call0.v4 (cmpi .eq),
    TRef.unary main_call0.v4 main_call0.v5 (uitofp .f32),
    unary main_v14 main_v16 (broadcastInDim S1x2048x2x1 ![0, 1, 2] bcast_S1x2048x2_S1x2048x2x1_0_1_2 : (⟨S1x2048x2, .f32⟩ : BufTy).Contents (Elt F) → (⟨S1x2048x2x1, .f32⟩ : BufTy).Contents (Elt F)),
    unary main_v16 main_v17 (broadcastInDim S1x2048x2x8 ![0, 1, 2, 3] bcast_S1x2048x2x1_S1x2048x2x8_0_1_2_3 : (⟨S1x2048x2x1, .f32⟩ : BufTy).Contents (Elt F) → (⟨S1x2048x2x8, .f32⟩ : BufTy).Contents (Elt F)),
    binary main_v15 main_v17 main_v18 (mulf : (⟨S1x2048x2x8, .f32⟩ : BufTy).Contents (Elt F) → (⟨S1x2048x2x8, .f32⟩ : BufTy).Contents (Elt F) → (⟨S1x2048x2x8, .f32⟩ : BufTy).Contents (Elt F)),
    nullary main_cst_2 (constant S_ .f32 0x00000000#32),
    binary main_v18 main_cst_2 main_v19 ((fun x v => Host.reduceAdd x v reducesTo_S1x2048x2x8_S1x2048x8_d2 h_S_) : (⟨S1x2048x2x8, .f32⟩ : BufTy).Contents (Elt F) → (⟨S_, .f32⟩ : BufTy).Contents (Elt F) → (⟨S1x2048x8, .f32⟩ : BufTy).Contents (Elt F)) ]

/-- The experts' attention. -/
abbrev opsB : List (HloOp τ sig (Elt F)) :=
  [ binary main_arg3 main_arg0 main_v20 ((fun l r => Host.dotGeneral dot_S8x768x768_S1x2048x768_S8x768x1x2048_1_2_02_01_n_n none l r) : (⟨S8x768x768, .f32⟩ : BufTy).Contents (Elt F) → (⟨S1x2048x768, .f32⟩ : BufTy).Contents (Elt F) → (⟨S8x768x1x2048, .f32⟩ : BufTy).Contents (Elt F)),
    unary main_v20 main_v21 ((transpose S8x1x2048x768 [0, 2, 3, 1] · transposes_S8x768x1x2048_S8x1x2048x768_0_2_3_1) : (⟨S8x768x1x2048, .f32⟩ : BufTy).Contents (Elt F) → (⟨S8x1x2048x768, .f32⟩ : BufTy).Contents (Elt F)),
    unary main_arg4 main_v22 (broadcastInDim S8x1x1x768 ![0, 3] bcast_S8x768_S8x1x1x768_0_3 : (⟨S8x768, .f32⟩ : BufTy).Contents (Elt F) → (⟨S8x1x1x768, .f32⟩ : BufTy).Contents (Elt F)),
    unary main_v22 main_v23 (broadcastInDim S8x1x2048x768 ![0, 1, 2, 3] bcast_S8x1x1x768_S8x1x2048x768_0_1_2_3 : (⟨S8x1x1x768, .f32⟩ : BufTy).Contents (Elt F) → (⟨S8x1x2048x768, .f32⟩ : BufTy).Contents (Elt F)),
    binary main_v21 main_v23 main_v24 (addf : (⟨S8x1x2048x768, .f32⟩ : BufTy).Contents (Elt F) → (⟨S8x1x2048x768, .f32⟩ : BufTy).Contents (Elt F) → (⟨S8x1x2048x768, .f32⟩ : BufTy).Contents (Elt F)),
    reshape main_v24 main_v25 (rfl : (.f32 : EltTy) = .f32) shapeCasts_S8x1x2048x768_S8x1x2048x12x64,
    binary main_arg5 main_arg0 main_v26 ((fun l r => Host.dotGeneral dot_S8x768x768_S1x2048x768_S8x768x1x2048_1_2_02_01_n_n none l r) : (⟨S8x768x768, .f32⟩ : BufTy).Contents (Elt F) → (⟨S1x2048x768, .f32⟩ : BufTy).Contents (Elt F) → (⟨S8x768x1x2048, .f32⟩ : BufTy).Contents (Elt F)),
    unary main_v26 main_v27 ((transpose S8x1x2048x768 [0, 2, 3, 1] · transposes_S8x768x1x2048_S8x1x2048x768_0_2_3_1) : (⟨S8x768x1x2048, .f32⟩ : BufTy).Contents (Elt F) → (⟨S8x1x2048x768, .f32⟩ : BufTy).Contents (Elt F)),
    unary main_arg6 main_v28 (broadcastInDim S8x1x1x768 ![0, 3] bcast_S8x768_S8x1x1x768_0_3 : (⟨S8x768, .f32⟩ : BufTy).Contents (Elt F) → (⟨S8x1x1x768, .f32⟩ : BufTy).Contents (Elt F)),
    unary main_v28 main_v29 (broadcastInDim S8x1x2048x768 ![0, 1, 2, 3] bcast_S8x1x1x768_S8x1x2048x768_0_1_2_3 : (⟨S8x1x1x768, .f32⟩ : BufTy).Contents (Elt F) → (⟨S8x1x2048x768, .f32⟩ : BufTy).Contents (Elt F)),
    binary main_v27 main_v29 main_v30 (addf : (⟨S8x1x2048x768, .f32⟩ : BufTy).Contents (Elt F) → (⟨S8x1x2048x768, .f32⟩ : BufTy).Contents (Elt F) → (⟨S8x1x2048x768, .f32⟩ : BufTy).Contents (Elt F)),
    reshape main_v30 main_v31 (rfl : (.f32 : EltTy) = .f32) shapeCasts_S8x1x2048x768_S8x1x2048x12x64,
    binary main_arg7 main_arg0 main_v32 ((fun l r => Host.dotGeneral dot_S8x768x768_S1x2048x768_S8x768x1x2048_1_2_02_01_n_n none l r) : (⟨S8x768x768, .f32⟩ : BufTy).Contents (Elt F) → (⟨S1x2048x768, .f32⟩ : BufTy).Contents (Elt F) → (⟨S8x768x1x2048, .f32⟩ : BufTy).Contents (Elt F)),
    unary main_v32 main_v33 ((transpose S8x1x2048x768 [0, 2, 3, 1] · transposes_S8x768x1x2048_S8x1x2048x768_0_2_3_1) : (⟨S8x768x1x2048, .f32⟩ : BufTy).Contents (Elt F) → (⟨S8x1x2048x768, .f32⟩ : BufTy).Contents (Elt F)),
    unary main_arg8 main_v34 (broadcastInDim S8x1x1x768 ![0, 3] bcast_S8x768_S8x1x1x768_0_3 : (⟨S8x768, .f32⟩ : BufTy).Contents (Elt F) → (⟨S8x1x1x768, .f32⟩ : BufTy).Contents (Elt F)),
    unary main_v34 main_v35 (broadcastInDim S8x1x2048x768 ![0, 1, 2, 3] bcast_S8x1x1x768_S8x1x2048x768_0_1_2_3 : (⟨S8x1x1x768, .f32⟩ : BufTy).Contents (Elt F) → (⟨S8x1x2048x768, .f32⟩ : BufTy).Contents (Elt F)),
    binary main_v33 main_v35 main_v36 (addf : (⟨S8x1x2048x768, .f32⟩ : BufTy).Contents (Elt F) → (⟨S8x1x2048x768, .f32⟩ : BufTy).Contents (Elt F) → (⟨S8x1x2048x768, .f32⟩ : BufTy).Contents (Elt F)),
    reshape main_v36 main_v37 (rfl : (.f32 : EltTy) = .f32) shapeCasts_S8x1x2048x768_S8x1x2048x12x64,
    binary main_v25 main_v31 main_v38 ((fun l r => Host.dotGeneral dot_S8x1x2048x12x64_S8x1x2048x12x64_S8x1x12x2048x2048_4_4_2_2_013_013 none l r) : (⟨S8x1x2048x12x64, .f32⟩ : BufTy).Contents (Elt F) → (⟨S8x1x2048x12x64, .f32⟩ : BufTy).Contents (Elt F) → (⟨S8x1x12x2048x2048, .f32⟩ : BufTy).Contents (Elt F)),
    nullary main_cst_3 (constant S_ .f32 0x3E000000#32),
    unary main_cst_3 main_v39 (broadcastInDim S8x1x12x2048x2048 ![] bcast_S_S8x1x12x2048x2048 : (⟨S_, .f32⟩ : BufTy).Contents (Elt F) → (⟨S8x1x12x2048x2048, .f32⟩ : BufTy).Contents (Elt F)),
    binary main_v38 main_v39 main_v40 (mulf : (⟨S8x1x12x2048x2048, .f32⟩ : BufTy).Contents (Elt F) → (⟨S8x1x12x2048x2048, .f32⟩ : BufTy).Contents (Elt F) → (⟨S8x1x12x2048x2048, .f32⟩ : BufTy).Contents (Elt F)),
    nullary main_cst_4 (constant S_ .f32 0xFF800000#32),
    binary main_v40 main_cst_4 main_v41 ((fun x v => Host.reduce FloatOps.maximumf x v reducesTo_S8x1x12x2048x2048_S8x1x12x2048_d4 h_S_) : (⟨S8x1x12x2048x2048, .f32⟩ : BufTy).Contents (Elt F) → (⟨S_, .f32⟩ : BufTy).Contents (Elt F) → (⟨S8x1x12x2048, .f32⟩ : BufTy).Contents (Elt F)),
    nullary main_cst_5 (constant S_ .f32 0xFF800000#32),
    unary main_cst_5 main_v42 (broadcastInDim S8x1x12x2048 ![] bcast_S_S8x1x12x2048 : (⟨S_, .f32⟩ : BufTy).Contents (Elt F) → (⟨S8x1x12x2048, .f32⟩ : BufTy).Contents (Elt F)),
    binary main_v42 main_v41 main_v43 (maximumf : (⟨S8x1x12x2048, .f32⟩ : BufTy).Contents (Elt F) → (⟨S8x1x12x2048, .f32⟩ : BufTy).Contents (Elt F) → (⟨S8x1x12x2048, .f32⟩ : BufTy).Contents (Elt F)),
    unary main_v43 main_v44 (broadcastInDim S8x1x12x2048x1 ![0, 1, 2, 3] bcast_S8x1x12x2048_S8x1x12x2048x1_0_1_2_3 : (⟨S8x1x12x2048, .f32⟩ : BufTy).Contents (Elt F) → (⟨S8x1x12x2048x1, .f32⟩ : BufTy).Contents (Elt F)),
    unary main_v44 main_v45 (broadcastInDim S8x1x12x2048x2048 ![0, 1, 2, 3, 4] bcast_S8x1x12x2048x1_S8x1x12x2048x2048_0_1_2_3_4 : (⟨S8x1x12x2048x1, .f32⟩ : BufTy).Contents (Elt F) → (⟨S8x1x12x2048x2048, .f32⟩ : BufTy).Contents (Elt F)),
    binary main_v40 main_v45 main_v46 (subf : (⟨S8x1x12x2048x2048, .f32⟩ : BufTy).Contents (Elt F) → (⟨S8x1x12x2048x2048, .f32⟩ : BufTy).Contents (Elt F) → (⟨S8x1x12x2048x2048, .f32⟩ : BufTy).Contents (Elt F)),
    unary main_v46 main_v47 (Host.exp : (⟨S8x1x12x2048x2048, .f32⟩ : BufTy).Contents (Elt F) → (⟨S8x1x12x2048x2048, .f32⟩ : BufTy).Contents (Elt F)),
    nullary main_cst_6 (constant S_ .f32 0x00000000#32),
    binary main_v47 main_cst_6 main_v48 ((fun x v => Host.reduceAdd x v reducesTo_S8x1x12x2048x2048_S8x1x12x2048_d4 h_S_) : (⟨S8x1x12x2048x2048, .f32⟩ : BufTy).Contents (Elt F) → (⟨S_, .f32⟩ : BufTy).Contents (Elt F) → (⟨S8x1x12x2048, .f32⟩ : BufTy).Contents (Elt F)),
    unary main_v48 main_v49 (broadcastInDim S8x1x12x2048x1 ![0, 1, 2, 3] bcast_S8x1x12x2048_S8x1x12x2048x1_0_1_2_3 : (⟨S8x1x12x2048, .f32⟩ : BufTy).Contents (Elt F) → (⟨S8x1x12x2048x1, .f32⟩ : BufTy).Contents (Elt F)),
    unary main_v49 main_v50 (broadcastInDim S8x1x12x2048x2048 ![0, 1, 2, 3, 4] bcast_S8x1x12x2048x1_S8x1x12x2048x2048_0_1_2_3_4 : (⟨S8x1x12x2048x1, .f32⟩ : BufTy).Contents (Elt F) → (⟨S8x1x12x2048x2048, .f32⟩ : BufTy).Contents (Elt F)),
    binary main_v47 main_v50 main_v51 (Host.divf : (⟨S8x1x12x2048x2048, .f32⟩ : BufTy).Contents (Elt F) → (⟨S8x1x12x2048x2048, .f32⟩ : BufTy).Contents (Elt F) → (⟨S8x1x12x2048x2048, .f32⟩ : BufTy).Contents (Elt F)),
    binary main_v37 main_v51 main_v52 ((fun l r => Host.dotGeneral dot_S8x1x2048x12x64_S8x1x12x2048x2048_S8x1x12x64x2048_2_4_4_3_013_012 none l r) : (⟨S8x1x2048x12x64, .f32⟩ : BufTy).Contents (Elt F) → (⟨S8x1x12x2048x2048, .f32⟩ : BufTy).Contents (Elt F) → (⟨S8x1x12x64x2048, .f32⟩ : BufTy).Contents (Elt F)),
    unary main_v52 main_v53 ((transpose S8x1x2048x12x64 [0, 1, 4, 2, 3] · transposes_S8x1x12x64x2048_S8x1x2048x12x64_0_1_4_2_3) : (⟨S8x1x12x64x2048, .f32⟩ : BufTy).Contents (Elt F) → (⟨S8x1x2048x12x64, .f32⟩ : BufTy).Contents (Elt F)),
    reshape main_v53 main_v54 (rfl : (.f32 : EltTy) = .f32) shapeCasts_S8x1x2048x12x64_S8x1x2048x768 ]

/-- The output projections and the weighted sum. -/
abbrev opsC : List (HloOp τ sig (Elt F)) :=
  [ binary main_v54 main_arg9 main_v55 ((fun l r => Host.dotGeneral dot_S8x1x2048x768_S8x768x768_S8x1x2048x768_3_1_12_2_0_0 none l r) : (⟨S8x1x2048x768, .f32⟩ : BufTy).Contents (Elt F) → (⟨S8x768x768, .f32⟩ : BufTy).Contents (Elt F) → (⟨S8x1x2048x768, .f32⟩ : BufTy).Contents (Elt F)),
    unary main_arg10 main_v56 (broadcastInDim S8x1x1x768 ![0, 3] bcast_S8x768_S8x1x1x768_0_3 : (⟨S8x768, .f32⟩ : BufTy).Contents (Elt F) → (⟨S8x1x1x768, .f32⟩ : BufTy).Contents (Elt F)),
    unary main_v56 main_v57 (broadcastInDim S8x1x2048x768 ![0, 1, 2, 3] bcast_S8x1x1x768_S8x1x2048x768_0_1_2_3 : (⟨S8x1x1x768, .f32⟩ : BufTy).Contents (Elt F) → (⟨S8x1x2048x768, .f32⟩ : BufTy).Contents (Elt F)),
    binary main_v55 main_v57 main_v58 (addf : (⟨S8x1x2048x768, .f32⟩ : BufTy).Contents (Elt F) → (⟨S8x1x2048x768, .f32⟩ : BufTy).Contents (Elt F) → (⟨S8x1x2048x768, .f32⟩ : BufTy).Contents (Elt F)),
    unary main_v19 main_v59 ((transpose S8x1x2048 [2, 0, 1] · transposes_S1x2048x8_S8x1x2048_2_0_1) : (⟨S1x2048x8, .f32⟩ : BufTy).Contents (Elt F) → (⟨S8x1x2048, .f32⟩ : BufTy).Contents (Elt F)),
    unary main_v59 main_v60 (broadcastInDim S8x1x2048x1 ![0, 1, 2] bcast_S8x1x2048_S8x1x2048x1_0_1_2 : (⟨S8x1x2048, .f32⟩ : BufTy).Contents (Elt F) → (⟨S8x1x2048x1, .f32⟩ : BufTy).Contents (Elt F)),
    unary main_v60 main_v61 (broadcastInDim S8x1x2048x768 ![0, 1, 2, 3] bcast_S8x1x2048x1_S8x1x2048x768_0_1_2_3 : (⟨S8x1x2048x1, .f32⟩ : BufTy).Contents (Elt F) → (⟨S8x1x2048x768, .f32⟩ : BufTy).Contents (Elt F)),
    binary main_v58 main_v61 main_v62 (mulf : (⟨S8x1x2048x768, .f32⟩ : BufTy).Contents (Elt F) → (⟨S8x1x2048x768, .f32⟩ : BufTy).Contents (Elt F) → (⟨S8x1x2048x768, .f32⟩ : BufTy).Contents (Elt F)),
    nullary main_cst_7 (constant S_ .f32 0x00000000#32),
    binary main_v62 main_cst_7 main_v63 ((fun x v => Host.reduceAdd x v reducesTo_S8x1x2048x768_S1x2048x768_d0 h_S_) : (⟨S8x1x2048x768, .f32⟩ : BufTy).Contents (Elt F) → (⟨S_, .f32⟩ : BufTy).Contents (Elt F) → (⟨S1x2048x768, .f32⟩ : BufTy).Contents (Elt F)) ]

abbrev ops : List (HloOp τ sig (Elt F)) := opsA ++ (opsB ++ opsC)

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., unary_bufs_sub .., unary_bufs_sub .., binary_bufs_sub .., unary_bufs_sub .., unary_bufs_sub .., unary_bufs_sub .., binary_bufs_sub .., nullary_bufs_sub .., binary_bufs_sub ..⟩
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB_sub : (opsB : List (HloOp τ sig (Elt F))).Forall fun op => op.bufs ⊆ tcRefs τ sig :=
  ⟨binary_bufs_sub .., unary_bufs_sub .., unary_bufs_sub .., unary_bufs_sub .., binary_bufs_sub .., reshape_bufs_sub .., binary_bufs_sub .., unary_bufs_sub .., unary_bufs_sub .., unary_bufs_sub .., binary_bufs_sub .., reshape_bufs_sub .., binary_bufs_sub .., unary_bufs_sub .., unary_bufs_sub .., unary_bufs_sub .., binary_bufs_sub .., reshape_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub ..⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC_sub : (opsC : List (HloOp τ sig (Elt F))).Forall fun op => op.bufs ⊆ tcRefs τ sig :=
  ⟨binary_bufs_sub .., unary_bufs_sub .., unary_bufs_sub .., binary_bufs_sub .., unary_bufs_sub .., unary_bufs_sub .., unary_bufs_sub .., binary_bufs_sub .., nullary_bufs_sub .., binary_bufs_sub ..⟩
theorem opsC_fresh : (opsC : List (HloOp τ sig (Elt F))).Forall fun op => op.fresh = ∅ :=
  ⟨rfl, rfl, rfl, rfl, rfl, rfl, rfl, rfl, rfl, rfl⟩

theorem ops_sub : (ops : List (HloOp τ sig (Elt F))).Forall fun op => op.bufs ⊆ tcRefs τ sig :=
  List.forall_append.mpr ⟨opsA_sub, List.forall_append.mpr ⟨opsB_sub, opsC_sub⟩⟩
theorem ops_fresh : (ops : List (HloOp τ sig (Elt F))).Forall fun op => op.fresh = ∅ :=
  List.forall_append.mpr ⟨opsA_fresh, List.forall_append.mpr ⟨opsB_fresh, opsC_fresh⟩⟩

abbrev opsA_W : List (Ref sig .tc) := [main_v0, main_v1, main_v2, main_v3, main_values, main_indices, main_cst, main_v4, main_cst_0, main_v5, main_v6, main_v7, main_v8, main_v9, main_v10, main_cst_1, main_v11, main_v12, main_v13, main_v14, main_call0_v0, main_call0_v1, main_call0_v2, main_call0_v3, main_call0_v4, main_v15, main_v16, main_v17, main_v18, main_cst_2, main_v19]
theorem opsA_writes : (opsA : List (HloOp τ sig (Elt F))).Forall fun op => op.writes ⊆ (opsA_W.map (Proc.devRef (τ := τ) .tc)).toFinset :=
  StableHlo.forall_writes_sub_of_map rfl

abbrev opsB_W : List (Ref sig .tc) := [main_v20, main_v21, main_v22, main_v23, main_v24, main_v25, main_v26, main_v27, main_v28, main_v29, main_v30, main_v31, main_v32, main_v33, main_v34, main_v35, main_v36, main_v37, main_v38, main_cst_3, main_v39, main_v40, main_cst_4, main_v41, main_cst_5, main_v42, main_v43, main_v44, main_v45, main_v46, main_v47, main_cst_6, main_v48, main_v49, main_v50, main_v51, main_v52, main_v53, main_v54]
theorem opsB_writes : (opsB : List (HloOp τ sig (Elt F))).Forall fun op => op.writes ⊆ (opsB_W.map (Proc.devRef (τ := τ) .tc)).toFinset :=
  StableHlo.forall_writes_sub_of_map rfl

abbrev opsC_W : List (Ref sig .tc) := [main_v55, main_v56, main_v57, main_v58, main_v59, main_v60, main_v61, main_v62, main_cst_7, main_v63]
theorem opsC_writes : (opsC : List (HloOp τ sig (Elt F))).Forall fun op => op.writes ⊆ (opsC_W.map (Proc.devRef (τ := τ) .tc)).toFinset :=
  StableHlo.forall_writes_sub_of_map rfl

variable (m : (ℓ : Loc nD τ sig) → Buf (Elt F) ℓ)

/-! # The buffers between the parts -/

def B1 (c : Dev nD) : Valuation τ sig (Elt F) := after opsA (launchContents m c)
def B2 (c : Dev nD) : Valuation τ sig (Elt F) := after opsB (B1 m c)
def B3 (c : Dev nD) : Valuation τ sig (Elt F) := after opsC (B2 m c)

theorem after_both (xs ys : List (HloOp τ sig (Elt F))) (V : Valuation τ sig (Elt F)) : after (xs ++ ys) V = after ys (after xs V) := by
  induction xs generalizing V with
  | nil => rfl
  | cons x xs ih => rw [List.cons_append, after_cons, after_cons]; exact ih _

theorem after_eq (c : Dev nD) : after ops (launchContents m c) = B3 m c := by
  show after (opsA ++ (opsB ++ opsC)) _ = _
  rw [after_both, after_both]
  rfl

theorem B3_keep (c : Dev nD) (r : Ref sig .tc) (h : r ∉ opsA_W ∧ r ∉ opsB_W ∧ r ∉ opsC_W) :
    B3 m c r = m ((c : Thread nD τ).loc r) :=
  (after_of_writes_sub opsC _ opsC_writes h.2.2).trans <| (after_of_writes_sub opsB _ opsB_writes h.2.1).trans <|
    (after_of_writes_sub opsA _ opsA_writes h.1).trans rfl

theorem run_args (g : Dev nD → PrngReg) :
    θ_run defs (onTc (τ := τ) (main (F := F))) ⟨m, fun _ => 0, g⟩ (fun r => (∀ c : Dev nD,
      r.2.mem ((c.tc : Thread nD τ).loc main_v63) = B3 m c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  have hk (c : Dev nD) (r : Ref sig .tc) : after ops (launchContents m c) r = B3 m c r := congrFun (after_eq m c) _
  refine θ_run_mono (run_seq scopedRefs_eq scopedSems_eq defs main (fun _ => ops) main_eq (fun _ => ops_sub) m g
    (fun _ op h => List.forall_iff_forall_mem.mp ops_fresh op h)) fun r h => ⟨fun c => ⟨(h c main_v63).trans (hk c _),
      (h c main_arg0).trans ((hk c _).trans (B3_keep m c _ (by decide))),
      (h c main_arg1).trans ((hk c _).trans (B3_keep m c _ (by decide))),
      (h c main_arg2).trans ((hk c _).trans (B3_keep m c _ (by decide))),
      (h c main_arg3).trans ((hk c _).trans (B3_keep m c _ (by decide))),
      (h c main_arg4).trans ((hk c _).trans (B3_keep m c _ (by decide))),
      (h c main_arg5).trans ((hk c _).trans (B3_keep m c _ (by decide))),
      (h c main_arg6).trans ((hk c _).trans (B3_keep m c _ (by decide))),
      (h c main_arg7).trans ((hk c _).trans (B3_keep m c _ (by decide))),
      (h c main_arg8).trans ((hk c _).trans (B3_keep m c _ (by decide))),
      (h c main_arg9).trans ((hk c _).trans (B3_keep m c _ (by decide))),
      (h c main_arg10).trans ((hk c _).trans (B3_keep m c _ (by decide)))⟩,
    sem_eq_zero_of_no_sems rfl _⟩

end Cert.ReferenceIdeal.Own
end
-- ==== Proof.Arr1.lean ====
module

public import proofs.«01_k».proof.Proof.Reg1
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

namespace Cert.Val

open Idealize.ShloMosaic Idealize.ShloMosaic.TcCoe
open Cert.KernelIdeal hiding ix2
open Cert.KernelIdeal.Gen

/-- One row of a product with an expert's weights, plus that expert's bias. -/
def proj (x : S2048x768.Idx → EReal) (w : S8x768x768.Idx → EReal) (b : S8x1x768.Idx → EReal) : S8x2048x768.Idx → EReal :=
  fun y => (∑ d : Fin 768, x (ix2 (y 1) d) * w (ix3 (y 0) d (y 2))) + b (ix3 (y 0) 0 (y 2))

theorem pay2_val (x : Vec Ideal S512x768 .bf16) (w : Vec Ideal S1x768x768 .bf16) (b : Vec Ideal S1x1x768 .f32) (s : Fin 512) (f : Fin 768) :
    k1_pay2 (F := Ideal) x w b (ix3 0 s f) = (∑ d : Fin 768, x (ix2 s d) * w (ix3 0 d f)) + b (ix3 0 0 f) := by
  pointwise [Gen.k1_pay2, Gen.k1_pay1]

theorem pay3_val (x : Vec Ideal S512x768 .bf16) (w : Vec Ideal S1x768x768 .bf16) (b : Vec Ideal S1x1x768 .f32) (s : Fin 512) (f : Fin 768) :
    k1_pay3 (F := Ideal) x w b (ix3 0 s f) = (∑ d : Fin 768, x (ix2 s d) * w (ix3 0 d f)) + b (ix3 0 0 f) := by
  pointwise [Gen.k1_pay3, Gen.k1_pay1]

end Cert.Val

namespace Cert.KernelIdeal.Own

open Cert.KernelIdeal Cert.KernelIdeal.Gen
open Idealize.ShloMosaic Idealize.ShloMosaic.TcCoe Idealize.ShloMosaic.Tactic
open Idealize.SL
open Idealize.ShloMosaic.Pipeline (Dat Cfg Window)

variable (W : (c : Dev nD) → (b : Ref sig .tc) → Buf (Elt Ideal) ((c : Thread nD τ).loc b))

/-! # The keys and the values of every expert -/

theorem e1_0 : ∀ t : Fin cfg1.N, win1_0.index t = ![t.val % 4, 0] := (by decide +kernel : ∀ t : Fin grid1.N, _)
theorem e1_1 : ∀ t : Fin cfg1.N, win1_1.index t = ![t.val / 4, 0, 0] := (by decide +kernel : ∀ t : Fin grid1.N, _)
theorem e1_2 : ∀ t : Fin cfg1.N, win1_2.index t = ![t.val / 4, 0, 0] := (by decide +kernel : ∀ t : Fin grid1.N, _)
theorem e1_3 : ∀ t : Fin cfg1.N, win1_3.index t = ![t.val / 4, 0, 0] := (by decide +kernel : ∀ t : Fin grid1.N, _)
theorem e1_4 : ∀ t : Fin cfg1.N, win1_4.index t = ![t.val / 4, 0, 0] := (by decide +kernel : ∀ t : Fin grid1.N, _)
theorem e1_5 : ∀ t : Fin cfg1.N, win1_5.index t = ![t.val / 4, t.val % 4, 0] := (by decide +kernel : ∀ t : Fin grid1.N, _)
theorem e1_6 : ∀ t : Fin cfg1.N, win1_6.index t = ![t.val / 4, t.val % 4, 0] := (by decide +kernel : ∀ t : Fin grid1.N, _)

/-- The expert and the row block of a point. -/
def ex1 (t : Fin cfg1.N) : Fin 8 := ⟨t.val / 4, by have := t.isLt; have : cfg1.N = 32 := by decide +kernel
                                                   omega⟩
def rw1 (t : Fin cfg1.N) (s : Fin 512) : Fin 2048 := ⟨t.val % 4 * 512 + s.val, by omega⟩

theorem blk1_0 (c : Dev nD) (t : Fin cfg1.N) (s : Fin 512) (d : Fin 768) : iblk1 W c 0 t (Idealize.ShloMosaic.ix2 s d) = W c main_v1 (Idealize.ShloMosaic.ix2 (rw1 t s) d) := by
  unfold iblk1 rw1; blk_simp [e1_0]; congr 1; blk_ext [e1_0]
theorem blk1_1 (c : Dev nD) (t : Fin cfg1.N) (d f : Fin 768) : iblk1 W c 1 t (Idealize.ShloMosaic.ix3 0 d f) = W c main_v3 (Idealize.ShloMosaic.ix3 (ex1 t) d f) := by
  unfold iblk1 ex1; blk_simp [e1_1]; congr 1; blk_ext [e1_1]
theorem blk1_3 (c : Dev nD) (t : Fin cfg1.N) (d f : Fin 768) : iblk1 W c 3 t (Idealize.ShloMosaic.ix3 0 d f) = W c main_v4 (Idealize.ShloMosaic.ix3 (ex1 t) d f) := by
  unfold iblk1 ex1; blk_simp [e1_3]; congr 1; blk_ext [e1_3]
theorem blk1_2 (c : Dev nD) (t : Fin cfg1.N) (f : Fin 768) : iblk1 W c 2 t (Idealize.ShloMosaic.ix3 0 0 f) = W c main_v8 (Idealize.ShloMosaic.ix3 (ex1 t) 0 f) := by
  unfold iblk1 ex1; blk_simp [e1_2]; congr 1; blk_ext [e1_2]
theorem blk1_4 (c : Dev nD) (t : Fin cfg1.N) (f : Fin 768) : iblk1 W c 4 t (Idealize.ShloMosaic.ix3 0 0 f) = W c main_v9 (Idealize.ShloMosaic.ix3 (ex1 t) 0 f) := by
  unfold iblk1 ex1; blk_simp [e1_4]; congr 1; blk_ext [e1_4]
theorem emb1_5 (t : Fin cfg1.N) (s : Fin 512) (f : Fin 768) : (win1_5.blk t).view.emb (Idealize.ShloMosaic.ix3 (0 : Fin 1) s f) = Idealize.ShloMosaic.ix3 (ex1 t) (rw1 t s) f := by
  unfold ex1 rw1; blk_ext [e1_5]
theorem emb1_6 (t : Fin cfg1.N) (s : Fin 512) (f : Fin 768) : (win1_6.blk t).view.emb (Idealize.ShloMosaic.ix3 (0 : Fin 1) s f) = Idealize.ShloMosaic.ix3 (ex1 t) (rw1 t s) f := by
  unfold ex1 rw1; blk_ext [e1_6]

theorem arr1_5 (c : Dev nD) : (dat1 W c).arrAt 5 cfg1.N = Cert.Val.proj (W c main_v1) (W c main_v3) (W c main_v8) := by
  refine (dat1 W c).arrAt_eq_of_covers 5 _ (by decide +kernel) fun t hf y => ?_
  blk_simp
  rw [after1_5]
  unfold out1_5
  frame_out
  obtain ⟨a, s, f, rfl⟩ : ∃ (a : Fin 1) (s : Fin 512) (f : Fin 768), y = Idealize.ShloMosaic.ix3 a s f := ⟨y 0, y 1, y 2, by funext i; fin_cases i <;> rfl⟩
  obtain rfl : a = 0 := Subsingleton.elim _ _
  refine (Cert.Val.pay2_val _ _ _ s f).trans ?_
  refine Eq.trans ?_ (congrArg (Cert.Val.proj (W c main_v1) (W c main_v3) (W c main_v8)) (emb1_5 t s f)).symm
  unfold Cert.Val.proj
  exact congrArg₂ _ (Finset.sum_congr rfl fun d _ => congrArg₂ _ (blk1_0 W c t s d) (blk1_1 W c t d f)) (blk1_2 W c t f)

theorem arr1_6 (c : Dev nD) : (dat1 W c).arrAt 6 cfg1.N = Cert.Val.proj (W c main_v1) (W c main_v4) (W c main_v9) := by
  refine (dat1 W c).arrAt_eq_of_covers 6 _ (by decide +kernel) fun t hf y => ?_
  blk_simp
  rw [after1_6]
  unfold out1_6
  frame_out
  obtain ⟨a, s, f, rfl⟩ : ∃ (a : Fin 1) (s : Fin 512) (f : Fin 768), y = Idealize.ShloMosaic.ix3 a s f := ⟨y 0, y 1, y 2, by funext i; fin_cases i <;> rfl⟩
  obtain rfl : a = 0 := Subsingleton.elim _ _
  refine (Cert.Val.pay3_val _ _ _ s f).trans ?_
  refine Eq.trans ?_ (congrArg (Cert.Val.proj (W c main_v1) (W c main_v4) (W c main_v9)) (emb1_6 t s f)).symm
  unfold Cert.Val.proj
  exact congrArg₂ _ (Finset.sum_congr rfl fun d _ => congrArg₂ _ (blk1_0 W c t s d) (blk1_3 W c t d f)) (blk1_4 W c t f)

end Cert.KernelIdeal.Own
end
-- ==== Proof.Disp.lean ====
module

public import Idealize.ShloMosaic.Lib.Pointwise

@[expose] public section

noncomputable section

namespace Cert.Val

open Finset

/-! # Counting the tokens of each expert into blocks of 256 rows

`C n e` says token `n` is sent to expert `e`. The tokens of an expert are numbered from one in order (`cnt`); an expert
with `N` tokens owns `(N + 255) / 256` blocks, and the blocks of the experts follow one another. -/

variable (C : Fin 2048 → Fin 8 → Prop) [∀ n e, Decidable (C n e)]

/-- The number of tokens up to `n`, `n` included, of expert `e`. -/
def cnt (n : Fin 2048) (e : Fin 8) : ℕ := (univ.filter fun n' => n' ≤ n ∧ C n' e).card

/-- The number of tokens of expert `e`. -/
def tot (e : Fin 8) : ℕ := (univ.filter fun n' => C n' e).card

/-- The number of blocks of expert `e`. -/
def blocks (e : Fin 8) : ℕ := (tot C e + 255) / 256

/-- The first block of expert `e`. -/
def st (e : Fin 8) : ℕ := ∑ x ∈ univ.filter (· < e), blocks C x

/-- The last expert whose first block is not after `b`. -/
def eob (b : ℕ) : Fin 8 := ⟨(univ.filter fun e => st C e ≤ b).card - 1, by
  have : (univ.filter fun e : Fin 8 => st C e ≤ b).card ≤ 8 := (card_filter_le _ _).trans (by simp)
  omega⟩

theorem cnt_last (e : Fin 8) : cnt C 2047 e = tot C e := by
  unfold cnt tot
  congr 1
  ext n
  have : n ≤ 2047 := Fin.le_last n
  simp [this]

theorem cnt_le (n : Fin 2048) (e : Fin 8) : cnt C n e ≤ tot C e := by
  refine card_le_card fun x => ?_
  simp only [mem_filter, mem_univ, true_and]
  exact fun h => h.2

theorem cnt_pos {n : Fin 2048} {e : Fin 8} (h : C n e) : 1 ≤ cnt C n e :=
  card_pos.mpr ⟨n, by simp [h]⟩

theorem cnt_lt {n n' : Fin 2048} {e : Fin 8} (h : C n' e) (hn : n < n') : cnt C n e < cnt C n' e := by
  refine card_lt_card ⟨fun x => ?_, fun hs => ?_⟩
  · simp only [mem_filter, mem_univ, true_and]
    exact fun hx => ⟨hx.1.trans hn.le, hx.2⟩
  · have := hs (mem_filter.mpr ⟨mem_univ _, le_refl n', h⟩)
    simp only [mem_filter, mem_univ, true_and] at this
    exact absurd this.1 (not_le.mpr hn)

theorem cnt_inj {n n' : Fin 2048} {e : Fin 8} (h : C n e) (h' : C n' e) (hc : cnt C n e = cnt C n' e) : n = n' := by
  rcases lt_trichotomy n n' with hl | hl | hl
  · exact absurd hc (cnt_lt C h' hl).ne
  · exact hl
  · exact absurd hc (cnt_lt C h hl).ne'

theorem tot_le (e : Fin 8) : tot C e ≤ 2048 := (card_filter_le _ _).trans (by simp)

theorem st_zero : st C 0 = 0 := by
  unfold st
  rw [filter_false_of_mem fun x _ => by simp]
  rfl

theorem st_mono {e e' : Fin 8} (h : e ≤ e') : st C e ≤ st C e' := by
  refine sum_le_sum_of_subset fun x => ?_
  simp only [mem_filter, mem_univ, true_and]
  exact fun hx => hx.trans_le h

theorem st_add {e e' : Fin 8} (h : e < e') : st C e + blocks C e ≤ st C e' := by
  have : st C e + blocks C e = ∑ x ∈ insert e (univ.filter (· < e)), blocks C x := by
    rw [sum_insert (by simp)]
    exact Nat.add_comm _ _
  rw [this]
  refine sum_le_sum_of_subset fun x => ?_
  simp only [mem_insert, mem_filter, mem_univ, true_and]
  rintro (rfl | hx)
  · exact h
  · exact hx.trans h

/-- Two experts to each token: the blocks are fewer than twenty-four. -/
theorem blocks_le (h2 : ∑ e, tot C e ≤ 4096) (e : Fin 8) : st C e + blocks C e ≤ 23 := by
  have h1 : st C e + blocks C e ≤ ∑ x, blocks C x := by
    have : st C e + blocks C e = ∑ x ∈ insert e (univ.filter (· < e)), blocks C x := by
      rw [sum_insert (by simp)]
      exact Nat.add_comm _ _
    rw [this]
    exact sum_le_sum_of_subset (subset_univ _)
  have h3 : 256 * ∑ x, blocks C x ≤ ∑ x, (tot C x + 255) := by
    rw [mul_sum]
    exact sum_le_sum fun x _ => Nat.mul_div_le _ _
  rw [sum_add_distrib, sum_const, card_univ, Fintype.card_fin, smul_eq_mul] at h3
  omega

theorem st_le (h2 : ∑ e, tot C e ≤ 4096) (e : Fin 8) : st C e ≤ 23 :=
  (Nat.le_add_right _ _).trans (blocks_le C h2 e)

theorem below_eq (b : ℕ) : (univ.filter fun e => st C e ≤ b) = univ.filter (· ≤ eob C b) := by
  set A := univ.filter fun e => st C e ≤ b with hA
  have h0 : (0 : Fin 8) ∈ A := by simp [hA, st_zero]
  have hne : A.Nonempty := ⟨0, h0⟩
  have hm := A.max'_mem hne
  have hAeq : A = univ.filter (· ≤ A.max' hne) := by
    ext x
    simp only [mem_filter, mem_univ, true_and]
    constructor
    · exact fun hx => A.le_max' x hx
    · intro hx
      have h1 : st C (A.max' hne) ≤ b := (mem_filter.mp hm).2
      exact mem_filter.mpr ⟨mem_univ _, (st_mono C hx).trans h1⟩
  have hcard : A.card = (A.max' hne).val + 1 := by
    refine (congrArg Finset.card hAeq).trans ?_
    generalize A.max' hne = q
    have : (univ.filter (· ≤ q)) = Finset.Iic q := by ext; simp
    rw [this, Fin.card_Iic]
  have : eob C b = A.max' hne := Fin.ext (by
    show A.card - 1 = _
    rw [hcard, Nat.add_sub_cancel])
  rw [this]
  exact hAeq

theorem st_eob_le (b : ℕ) : st C (eob C b) ≤ b := by
  have : eob C b ∈ univ.filter fun e => st C e ≤ b := by rw [below_eq]; simp
  exact (mem_filter.mp this).2

theorem le_eob {b : ℕ} {e : Fin 8} (h : st C e ≤ b) : e ≤ eob C b := by
  have : e ∈ univ.filter (· ≤ eob C b) := by rw [← below_eq]; simp [h]
  exact (mem_filter.mp this).2

theorem eob_eq {b : ℕ} {e : Fin 8} (h : st C e ≤ b) (h' : b < st C e + blocks C e) : eob C b = e := by
  refine le_antisymm ?_ (le_eob C h)
  by_contra hc
  have := st_add C (not_le.mp hc)
  have := st_eob_le C b
  omega

/-- Row `s` of block `b` is token `n`. -/
def Hit (b : ℕ) (n : Fin 2048) (s : ℕ) : Prop := C n (eob C b) ∧ cnt C n (eob C b) = s + (b - st C (eob C b)) * 256 + 1

instance (b : ℕ) (n : Fin 2048) (s : ℕ) : Decidable (Hit C b n s) := by unfold Hit; infer_instance

theorem Hit.token {b : ℕ} {n n' : Fin 2048} {s : ℕ} (h : Hit C b n s) (h' : Hit C b n' s) : n = n' :=
  cnt_inj C h.1 h'.1 (h.2.trans h'.2.symm)

theorem Hit.row {b : ℕ} {n : Fin 2048} {s s' : ℕ} (h : Hit C b n s) (h' : Hit C b n s') : s = s' := by
  have := h.2.symm.trans h'.2
  omega

/-- The block that holds token `n` of expert `e`. -/
def home (n : Fin 2048) (e : Fin 8) : ℕ := st C e + (cnt C n e - 1) / 256

theorem home_eob {n : Fin 2048} {e : Fin 8} (h : C n e) : eob C (home C n e) = e := by
  refine eob_eq C (Nat.le_add_right _ _) ?_
  have h1 := cnt_le C n e
  have h2 := cnt_pos C h
  unfold home blocks
  omega

theorem home_lt (h2 : ∑ e, tot C e ≤ 4096) {n : Fin 2048} {e : Fin 8} (h : C n e) : home C n e < 24 := by
  have h0 := blocks_le C h2 e
  have h1 := cnt_le C n e
  have h2 := cnt_pos C h
  unfold home
  unfold blocks at h0
  omega

theorem home_hit {n : Fin 2048} {e : Fin 8} (h : C n e) : Hit C (home C n e) n ((cnt C n e - 1) % 256) := by
  unfold Hit
  rw [home_eob C h]
  refine ⟨h, ?_⟩
  have h2 := cnt_pos C h
  unfold home
  omega

theorem Hit.eq_home {b : ℕ} {n : Fin 2048} {s : Fin 256} (h : Hit C b n s) : b = home C n (eob C b) := by
  have h1 := h.2
  have h2 := st_eob_le C b
  have h3 := s.isLt
  unfold home
  omega

/-- The blocks' contributions to token `n`, each weighted by the gate of the block's expert, are the experts' outputs
    weighted by their gates. -/
theorem sum_blocks (h2 : ∑ e, tot C e ≤ 4096) (n : Fin 2048) (G : Fin 8 → EReal) (hG : ∀ e, ¬ C n e → G e = 0)
    (Y : Fin 24 → Fin 256 → EReal) (Z : Fin 8 → EReal)
    (hY : ∀ (b : Fin 24) (s : Fin 256), Hit C b n s → Y b s = Z (eob C b)) :
    (∑ b : Fin 24, (∑ s : Fin 256, (if Hit C b n s then 1 else 0) * Y b s) * G (eob C b)) = ∑ e, Z e * G e := by
  have hin : ∀ b : Fin 24, (∑ s : Fin 256, (if Hit C b n s then 1 else 0) * Y b s)
      = if ∃ s : Fin 256, Hit C b n s then Z (eob C b) else 0 := by
    intro b
    split
    · rename_i h
      obtain ⟨s, hs⟩ := h
      rw [sum_eq_single s]
      · rw [if_pos hs, one_mul, hY b s hs]
      · intro s' _ hne
        rw [if_neg fun h' => hne (Fin.ext (Hit.row C h' hs)), zero_mul]
      · exact fun h' => absurd (mem_univ s) h'
    · rename_i h
      refine sum_eq_zero fun s _ => ?_
      rw [if_neg fun h' => h ⟨s, h'⟩, zero_mul]
  have hfib : (∑ b : Fin 24, (∑ s : Fin 256, (if Hit C b n s then 1 else 0) * Y b s) * G (eob C b))
      = ∑ e, ∑ b ∈ univ.filter (fun b : Fin 24 => eob C b = e),
          (∑ s : Fin 256, (if Hit C b n s then 1 else 0) * Y b s) * G (eob C b) :=
    (sum_fiberwise univ (fun b : Fin 24 => eob C b) _).symm
  rw [hfib]
  refine sum_congr rfl fun e _ => ?_
  by_cases hc : C n e
  · rw [sum_eq_single ⟨home C n e, home_lt C h2 hc⟩]
    · rw [hin, if_pos ⟨⟨(cnt C n e - 1) % 256, Nat.mod_lt _ (by norm_num)⟩, home_hit C hc⟩]
      show Z (eob C (home C n e)) * G (eob C (home C n e)) = _
      rw [home_eob C hc]
    · intro b hb hne
      rw [hin, if_neg, zero_mul]
      rintro ⟨s, hs⟩
      have := Hit.eq_home C hs
      rw [(mem_filter.mp hb).2] at this
      exact hne (Fin.ext this)
    · intro h
      refine absurd (mem_filter.mpr ⟨mem_univ _, ?_⟩) h
      exact home_eob C hc
  · rw [hG e hc, mul_zero]
    refine sum_eq_zero fun b hb => ?_
    rw [(mem_filter.mp hb).2, hG e hc, mul_zero]

/-- A block's rows are read from their tokens. -/
theorem sum_hit {b : ℕ} {n : Fin 2048} {s : ℕ} (h : Hit C b n s) (X : Fin 2048 → EReal) :
    (∑ n', (if Hit C b n' s then 1 else 0) * X n') = X n := by
  rw [sum_eq_single n]
  · rw [if_pos h, one_mul]
  · intro n' _ hne
    rw [if_neg fun h' => hne (Hit.token C h' h), zero_mul]
  · exact fun h' => absurd (mem_univ n) h'

/-! # The running sums by doubling -/

/-- The sum over the window of `w` entries that ends at `n`. -/
def win (f : Fin 2048 → EReal) (w : ℕ) (n : Fin 2048) : EReal := ∑ x ∈ univ.filter (fun x : Fin 2048 => x ≤ n ∧ n.val < x.val + w), f x

theorem win_one (f : Fin 2048 → EReal) (n : Fin 2048) : win f 1 n = f n := by
  unfold win
  have : (univ.filter fun x : Fin 2048 => x ≤ n ∧ n.val < x.val + 1) = {n} := by
    ext x
    simp only [mem_filter, mem_univ, true_and, mem_singleton, Fin.ext_iff, Fin.le_def]
    omega
  rw [this, sum_singleton]

theorem win_double (f : Fin 2048 → EReal) (w : ℕ) (n : Fin 2048) :
    win f w n + (if h : n.val < w then 0 else win f w ⟨n.val - w, by omega⟩) = win f (w + w) n := by
  have h2 : (if h : n.val < w then 0 else win f w ⟨n.val - w, by omega⟩)
      = ∑ x ∈ univ.filter (fun x : Fin 2048 => x.val + w ≤ n.val ∧ n.val < x.val + (w + w)), f x := by
    split
    · rename_i h
      rw [filter_false_of_mem fun x _ => by omega]
      rfl
    · rename_i h
      unfold win
      congr 1
      ext x
      simp only [mem_filter, mem_univ, true_and, Fin.le_def]
      omega
  rw [h2]
  unfold win
  rw [← sum_union]
  · congr 1
    ext x
    simp only [mem_union, mem_filter, mem_univ, true_and, Fin.le_def]
    omega
  · refine disjoint_filter.mpr fun x _ h => ?_
    rw [Fin.le_def] at h
    omega

theorem win_all (n : Fin 2048) (e : Fin 8) :
    win (fun x => if C x e then 1 else 0) 2048 n = ((cnt C n e : ℝ) : EReal) := by
  unfold win cnt
  have : (univ.filter fun x : Fin 2048 => x ≤ n ∧ n.val < x.val + 2048) = univ.filter (· ≤ n) := by
    ext x
    simp only [mem_filter, mem_univ, true_and]
    have := n.isLt
    exact ⟨fun h => h.1, fun h => ⟨h, by omega⟩⟩
  rw [this, ← sum_filter, filter_filter, sum_const]
  simp

end Cert.Val
-- ==== Proof.Mask.lean ====
module

public import proofs.«01_k».proof.Proof.Disp
public import proofs.«01_k».proof.Proof.Router
public import Idealize.ShloMosaic.Lib.SortPrefix

@[expose] public section

set_option maxRecDepth 16384

noncomputable section

namespace Cert.Val

open Idealize.ShloMosaic Idealize.ShloMosaic.TcCoe
open Cert.KernelIdeal hiding ix2
open Cert.KernelIdeal.Gen

/-! # The first and the second largest of eight -/

theorem top_nonempty (f : Fin 8 → EReal) : (Finset.univ.filter fun e => ∀ x, f x ≤ f e).Nonempty := by
  obtain ⟨e, he⟩ := Finite.exists_max f
  exact ⟨e, by simp [he]⟩

/-- The first position of the largest entry. -/
def amax (f : Fin 8 → EReal) : Fin 8 := (Finset.univ.filter fun e => ∀ x, f x ≤ f e).min' (top_nonempty f)

theorem le_amax (f : Fin 8 → EReal) (x : Fin 8) : f x ≤ f (amax f) :=
  (Finset.mem_filter.mp ((Finset.univ.filter fun e => ∀ x, f x ≤ f e).min'_mem (top_nonempty f))).2 x

theorem lt_amax (f : Fin 8 → EReal) {x : Fin 8} (h : x < amax f) : f x < f (amax f) := by
  refine lt_of_le_of_ne (le_amax f x) fun he => ?_
  refine absurd h (not_lt.mpr (Finset.min'_le _ x (Finset.mem_filter.mpr ⟨Finset.mem_univ _, fun y => ?_⟩)))
  rw [he]
  exact le_amax f y

/-- The entries without the largest. -/
def drop (f : Fin 8 → EReal) : Fin 8 → EReal := fun e => if e = amax f then ⊥ else f e

/-- The position of the second largest entry. -/
def bmax (f : Fin 8 → EReal) : Fin 8 := amax (drop f)

theorem drop_ne {f : Fin 8 → EReal} {e : Fin 8} (h : e ≠ amax f) : drop f e = f e := if_neg h

theorem bmax_ne {f : Fin 8 → EReal} (hf : ∀ e, f e ≠ ⊥) : bmax f ≠ amax f := by
  intro h
  obtain ⟨e, he⟩ : ∃ e, e ≠ amax f := exists_ne _
  have h1 := le_amax (drop f) e
  have h2 : drop f (amax (drop f)) = ⊥ := if_pos h
  rw [h2, drop_ne he] at h1
  exact hf e (le_bot_iff.mp h1)

theorem drop_bmax {f : Fin 8 → EReal} (hf : ∀ e, f e ≠ ⊥) : drop f (bmax f) = f (bmax f) := drop_ne (bmax_ne hf)

theorem fold_max (f : Fin 8 → EReal) : Finset.fold max ⊥ f Finset.univ = f (amax f) := by
  refine le_antisymm (Finset.fold_max_le _ |>.mpr ⟨bot_le, fun x _ => le_amax f x⟩) ?_
  exact Finset.le_fold_max _ |>.mpr (.inr ⟨amax f, Finset.mem_univ _, le_refl _⟩)

theorem fold_min (p : Fin 8 → Prop) [DecidablePred p] (a : Fin 8) (ha : p a) (hlt : ∀ x, x < a → ¬ p x) :
    Finset.fold IntOp.minsi (2147483647#32) (fun x : Fin 8 => if p x then BitVec.ofNat 32 x.val else 8#32) Finset.univ = BitVec.ofNat 32 a.val := by
  have hm : ∀ u v : BitVec 32, (IntOp.minsi u v).toInt = min u.toInt v.toInt := fun u v => by
    unfold IntOp.minsi
    split
    · rename_i h
      rw [min_eq_left (by simp only [BitVec.slt, decide_eq_true_eq] at h; omega)]
    · rename_i h
      rw [min_eq_right (by simp only [BitVec.slt, decide_eq_true_eq] at h; omega)]
  refine BitVec.eq_of_toInt_eq ?_
  rw [← Finset.fold_hom (op' := min) hm]
  refine le_antisymm ?_ ?_
  · rw [Finset.fold_min_le]
    exact .inr ⟨a, Finset.mem_univ _, by simp [ha]⟩
  · rw [Finset.le_fold_min]
    have hval : ∀ y : Fin 8, (BitVec.ofNat 32 y.val).toInt = y.val := fun y => toInt_nat y.val (by have := y.isLt; omega)
    have h8 : ((8#32 : BitVec 32)).toInt = 8 := by decide
    have hmax : ((2147483647#32 : BitVec 32)).toInt = 2147483647 := by decide
    rw [hval, hmax]
    refine ⟨by have := a.isLt; omega, fun y _ => ?_⟩
    split
    · rename_i h
      rw [hval]
      have : ¬ y < a := fun hy => hlt y hy h
      rw [Fin.lt_def] at this
      omega
    · rw [h8]
      have := a.isLt
      omega

theorem ofBits_bot : Idealize.ShloMosaic.Ideal.ofBits .f32 4286578688#32 = ⊥ := by
  simp [Idealize.ShloMosaic.Ideal.ofBits, Idealize.ShloMosaic.Ideal.ieee]

/-! # A stable sort starts with the first and the second largest -/

theorem stable_tie {n : ℕ} (B B' : Fin n → Fin n → Bool) (h : ∀ a b : Fin n, a < b → B b a = B' b a) (l : List (Fin n)) (hl : l.Pairwise (· < ·)) :
    stableSort B l = stableSort B' l := by
  induction l with
  | nil => rfl
  | cons a l ih =>
    rw [List.pairwise_cons] at hl
    unfold stableSort
    rw [ih hl.2]
    exact insertBefore_congr _ _ _ _ fun b hb => h a b (hl.1 b ((perm_stableSort B' l).mem_iff.mp hb))

theorem sorted_first (f : Fin 8 → EReal) (hf : ∀ e, f e ≠ ⊥) (i : Fin 2) :
    sortedFrom (fun k k' => decide (f k' < f k)) (i.castLE (by norm_num : 2 ≤ 8)) = ![amax f, bmax f] i := by
  have hB : StrictTotalBefore fun k k' : Fin 8 => decide (f k' < f k) || (decide (f k = f k') && decide (k < k')) :=
    StrictTotalBefore.of_key_then_position (fun a b : EReal => decide (b < a)) f (by simp)
      (by simp only [decide_eq_true_eq]; exact fun a b c h h' => h'.trans h)
      (by
        intro a b
        simp only [decide_eq_true_eq]
        rcases lt_trichotomy a b with h | h | h
        · exact .inr (.inr h)
        · exact .inr (.inl h)
        · exact .inl h)
  have hs : sortedFrom (fun k k' => decide (f k' < f k)) (i.castLE (by norm_num : 2 ≤ 8))
      = sortedFrom (fun k k' : Fin 8 => decide (f k' < f k) || (decide (f k = f k') && decide (k < k'))) (i.castLE (by norm_num : 2 ≤ 8)) := by
    unfold sortedFrom
    have : sortPositions 8 (fun k k' : Fin 8 => decide (f k' < f k))
        = sortPositions 8 (fun k k' : Fin 8 => decide (f k' < f k) || (decide (f k = f k') && decide (k < k'))) :=
      stable_tie _ _ (fun a b hab => by simp [not_lt.mpr hab.le]) _ (List.pairwise_lt_finRange 8)
    rw [List.get_of_eq this]
    rfl
  rw [hs]
  have hab := bmax_ne hf
  have h1 : ∀ p, p ≠ amax f → ¬ (f (amax f) < f p) ∧ ¬ (f p = f (amax f) ∧ p < amax f) := fun p hp =>
    ⟨not_lt.mpr (le_amax f p), fun h => (lt_amax f h.2).ne h.1⟩
  have h2 : ∀ p, p ≠ amax f → p ≠ bmax f → ¬ (f (bmax f) < f p) ∧ ¬ (f p = f (bmax f) ∧ p < bmax f) := fun p hp hp' => by
    have ha := le_amax (drop f) p
    rw [drop_ne hp] at ha
    change f p ≤ drop f (bmax f) at ha
    rw [drop_bmax hf] at ha
    refine ⟨not_lt.mpr ha, fun h => ?_⟩
    have hb := lt_amax (drop f) (x := p) h.2
    change drop f p < drop f (bmax f) at hb
    rw [drop_bmax hf, drop_ne hp] at hb
    exact hb.ne h.1
  refine hB.sortedFrom_eq_of_prefix (by norm_num) ![amax f, bmax f] ?_ ?_ ?_ i
  · intro i j hij
    fin_cases i <;> fin_cases j
    · rfl
    · exact absurd hij.symm hab
    · exact absurd hij hab
    · rfl
  · intro i j hij
    fin_cases i <;> fin_cases j
    · exact absurd hij (lt_irrefl _)
    · have := h1 (bmax f) hab
      simpa using this
    · exact absurd hij (by decide)
    · exact absurd hij (lt_irrefl _)
  · intro i p hp
    have hp0 : p ≠ amax f := fun h => hp 0 h.symm
    have hp1 : p ≠ bmax f := fun h => hp 1 h.symm
    fin_cases i
    · have := h1 p hp0
      show (decide (f (amax f) < f p) || (decide (f p = f (amax f)) && decide (p < amax f))) = false
      simpa using this
    · have := h2 p hp0 hp1
      show (decide (f (bmax f) < f p) || (decide (f p = f (bmax f)) && decide (p < bmax f))) = false
      simpa using this

/-! # The router's masks, gates and counts -/

variable (x : Vec Ideal S2048x768 .f32) (w : Vec Ideal S768x8 .f32) (b : Vec Ideal S1x8 .f32)

/-- The router's logits of token `n`. -/
def lg (n : Fin 2048) (e : Fin 8) : EReal := k0_pay2 (F := Ideal) x w b (ix2 n e)

theorem lg_eq (n : Fin 2048) (e : Fin 8) : lg x w b n e = (∑ d : Fin 768, x (ix2 n d) * w (ix2 d e)) + b (ix2 0 e) := by
  unfold lg
  pointwise [Gen.k0_pay2]

theorem pay3_eq (n : Fin 2048) : k0_pay3 (F := Ideal) x w b (ix2 n 0) = lg x w b n (amax (lg x w b n)) := by
  have h : k0_pay3 (F := Ideal) x w b (ix2 n 0) = Finset.fold max (Idealize.ShloMosaic.Ideal.ofBits .f32 4286578688#32) (fun e => k0_pay2 (F := Ideal) x w b (ix2 n e)) Finset.univ := by
    pointwise [Gen.k0_pay3]
  rw [h, ofBits_bot]
  exact fold_max (lg x w b n)

theorem cmp_eq (a e : Fin 8) : IntOp.cmpi .eq (BitVec.ofNat 32 e.val) (BitVec.ofNat 32 a.val) = BitVec.ofBool (decide (e = a)) := by
  revert a e
  decide +kernel

theorem pay4_eq (n : Fin 2048) (e : Fin 8) : k0_pay4 (F := Ideal) x w b (ix2 n e) = BitVec.ofBool (decide (e = amax (lg x w b n))) := by
  have h : k0_pay4 (F := Ideal) x w b (ix2 n e) = IntOp.cmpi .eq (BitVec.ofNat 32 e.val)
      (Finset.fold IntOp.minsi (2147483647#32) (fun y : Fin 8 => if k0_pay2 (F := Ideal) x w b (ix2 n y) = k0_pay3 x w b (ix2 n 0) then BitVec.ofNat 32 y.val else 8#32) Finset.univ) := by
    pointwise [Gen.k0_pay4]
  rw [h, fold_min _ (amax (lg x w b n)), cmp_eq]
  · exact (pay3_eq x w b n).symm
  · intro y hy
    rw [pay3_eq]
    exact (lt_amax (lg x w b n) hy).ne

theorem pay5_eq (n : Fin 2048) (e : Fin 8) : k0_pay5 (F := Ideal) x w b (ix2 n e) = drop (lg x w b n) e := by
  have h : k0_pay5 (F := Ideal) x w b (ix2 n e) = Scalar.select (k0_pay4 (F := Ideal) x w b (ix2 n e)) (Idealize.ShloMosaic.Ideal.ofBits .f32 4286578688#32) (k0_pay2 (F := Ideal) x w b (ix2 n e)) := by
    pointwise [Gen.k0_pay5]
  rw [h, pay4_eq, ofBits_bot]
  unfold drop Scalar.select
  by_cases hc : e = amax (lg x w b n)
  · simp [hc]
  · simp [hc, lg]

theorem pay6_eq (n : Fin 2048) : k0_pay6 (F := Ideal) x w b (ix2 n 0) = drop (lg x w b n) (bmax (lg x w b n)) := by
  have h : k0_pay6 (F := Ideal) x w b (ix2 n 0) = Finset.fold max (Idealize.ShloMosaic.Ideal.ofBits .f32 4286578688#32) (fun e => k0_pay5 (F := Ideal) x w b (ix2 n e)) Finset.univ := by
    pointwise [Gen.k0_pay6]
  rw [h, ofBits_bot]
  have : (fun e => k0_pay5 (F := Ideal) x w b (ix2 n e)) = drop (lg x w b n) := funext fun e => pay5_eq x w b n e
  rw [this]
  exact fold_max _

theorem pay7_eq (n : Fin 2048) (e : Fin 8) : k0_pay7 (F := Ideal) x w b (ix2 n e) = BitVec.ofBool (decide (e = bmax (lg x w b n))) := by
  have h : k0_pay7 (F := Ideal) x w b (ix2 n e) = IntOp.cmpi .eq (BitVec.ofNat 32 e.val)
      (Finset.fold IntOp.minsi (2147483647#32) (fun y : Fin 8 => if k0_pay5 (F := Ideal) x w b (ix2 n y) = k0_pay6 x w b (ix2 n 0) then BitVec.ofNat 32 y.val else 8#32) Finset.univ) := by
    pointwise [Gen.k0_pay7]
  rw [h, fold_min _ (bmax (lg x w b n)), cmp_eq]
  · rw [pay5_eq, pay6_eq]
  · intro y hy
    rw [pay5_eq, pay6_eq]
    exact (lt_amax (drop (lg x w b n)) hy).ne

/-- The larger of the two gates of a token. -/
def gt1 (n : Fin 2048) : EReal := Idealize.ShloMosaic.Ideal.div 1 (1 + Idealize.ShloMosaic.Ideal.exp
  (drop (lg x w b n) (bmax (lg x w b n)) - lg x w b n (amax (lg x w b n))))

theorem pay8_eq (n : Fin 2048) : k0_pay8 (F := Ideal) x w b (ix2 n 0) = gt1 x w b n := by
  have h : k0_pay8 (F := Ideal) x w b (ix2 n 0) = Idealize.ShloMosaic.Ideal.div 1 (1 + Idealize.ShloMosaic.Ideal.exp (k0_pay6 (F := Ideal) x w b (ix2 n 0) - k0_pay3 (F := Ideal) x w b (ix2 n 0))) := by
    pointwise [Gen.k0_pay8]
  rw [h, pay6_eq, pay3_eq]
  rfl

/-- The gates, as the kernel computes them. -/
def ga (n : Fin 2048) (e : Fin 8) : EReal :=
  (if e = amax (lg x w b n) then gt1 x w b n else 0) + (if e = bmax (lg x w b n) then 1 - gt1 x w b n else 0)

theorem select_bool {α : Type} (p : Prop) [Decidable p] (u v : α) : Scalar.select (BitVec.ofBool (decide p)) u v = if p then u else v := by
  unfold Scalar.select
  by_cases h : p <;> simp [h]

theorem gates_eq (n : Fin 2048) (e : Fin 8) :
    k0_pay11 (F := Ideal) (k0_pay4 (F := Ideal) x w b) (k0_pay7 (F := Ideal) x w b) (k0_pay9 (F := Ideal) x w b) (Scalar.ofBits .f32 0x00000000#32) (k0_pay10 (F := Ideal) x w b) (ix2 n e)
      = ga x w b n e := by
  have h : k0_pay11 (F := Ideal) (k0_pay4 (F := Ideal) x w b) (k0_pay7 (F := Ideal) x w b) (k0_pay9 (F := Ideal) x w b) (Scalar.ofBits .f32 0x00000000#32) (k0_pay10 (F := Ideal) x w b) (ix2 n e)
      = Scalar.select (k0_pay4 (F := Ideal) x w b (ix2 n e)) (k0_pay10 (F := Ideal) x w b (ix2 n e)) 0 + Scalar.select (k0_pay7 (F := Ideal) x w b (ix2 n e)) (k0_pay9 (F := Ideal) x w b (ix2 n 0)) 0 := by
    pointwise [Gen.k0_pay11]
  have h9 : k0_pay9 (F := Ideal) x w b (ix2 n 0) = 1 - k0_pay8 (F := Ideal) x w b (ix2 n 0) := by pointwise [Gen.k0_pay9]
  have h10 : k0_pay10 (F := Ideal) x w b (ix2 n e) = k0_pay8 (F := Ideal) x w b (ix2 n 0) := by pointwise [Gen.k0_pay10]
  rw [h, h9, h10, pay4_eq, pay7_eq, pay8_eq, select_bool, select_bool]
  rfl

/-- One doubling of the running counts. -/
theorem stage_win (sh r w' : ℕ) (h : sh + r = 2048) (hw : sh + sh = w') (c : FVec Ideal S2048x8 .f32) (f : Fin 8 → Fin 2048 → EReal)
    (hs : S2048x8.Slices ![0, 0] ⟨2, ![r, 8]⟩) (hc) (hin : ∀ n e, c (ix2 n e) = win (f e) sh n) (n : Fin 2048) (e : Fin 8) :
    (addf c (concatenate S2048x8 0 [⟨⟨2, ![sh, 8]⟩, broadcast ⟨2, ![sh, 8]⟩ (Scalar.ofBits .f32 0x00000000#32 : Ideal .f32)⟩,
      ⟨⟨2, ![r, 8]⟩, extractStridedSlice ⟨2, ![r, 8]⟩ ![0, 0] c hs⟩] hc) : FVec Ideal S2048x8 .f32) (ix2 n e) = win (f e) w' n := by
  subst hw
  rw [← win_double, ← hin]
  pointwise []
  congr 1
  by_cases hn : n.val < sh
  · rw [dif_pos hn, dif_pos hn]
  · rw [dif_neg hn, dif_neg hn, ← hin]
    congr 1

/-- Token `n` is sent to expert `e`. -/
def Sent (n : Fin 2048) (e : Fin 8) : Prop := e = amax (lg x w b n) ∨ e = bmax (lg x w b n)

instance (n : Fin 2048) (e : Fin 8) : Decidable (Sent x w b n e) := by unfold Sent; infer_instance

theorem or_bool (p q : Prop) [Decidable p] [Decidable q] :
    BitVec.ofBool (decide p) ||| BitVec.ofBool (decide q) = BitVec.ofBool (decide (p ∨ q)) := by
  by_cases h1 : p <;> by_cases h2 : q <;> simp [h1, h2]

theorem bit_eq (n : Fin 2048) (e : Fin 8) :
    (sitofp .f32 (extui 32 (ori (k0_pay4 (F := Ideal) x w b) (k0_pay7 (F := Ideal) x w b)) natLt_1_32) : FVec Ideal S2048x8 .f32) (ix2 n e)
      = if Sent x w b n e then 1 else 0 := by
  have h : (sitofp .f32 (extui 32 (ori (k0_pay4 (F := Ideal) x w b) (k0_pay7 (F := Ideal) x w b)) natLt_1_32) : FVec Ideal S2048x8 .f32) (ix2 n e)
      = FloatOps.sitofp (F := Ideal) .f32 (BitVec.setWidth 32 (k0_pay4 (F := Ideal) x w b (ix2 n e) ||| k0_pay7 (F := Ideal) x w b (ix2 n e))) := rfl
  rw [h, pay4_eq, pay7_eq, ← sitofp_bit (Sent x w b n e)]
  congr 2
  exact or_bool (e = amax (lg x w b n)) (e = bmax (lg x w b n))

theorem counts_eq (n : Fin 2048) (e : Fin 8) :
    k0_pay13 (F := Ideal) (k0_pay12 (F := Ideal) (k0_pay4 (F := Ideal) x w b) (k0_pay7 (F := Ideal) x w b)) (ix2 n e) = ((cnt (Sent x w b) n e : ℝ) : EReal) := by
  rw [← win_all]
  set f : Fin 8 → Fin 2048 → EReal := fun e n => if Sent x w b n e then 1 else 0
  have h0 : ∀ n e, (sitofp .f32 (extui 32 (ori (k0_pay4 (F := Ideal) x w b) (k0_pay7 (F := Ideal) x w b)) natLt_1_32) : FVec Ideal S2048x8 .f32) (ix2 n e) = win (f e) 1 n :=
    fun n e => (bit_eq x w b n e).trans (win_one (f e) n).symm
  unfold k0_pay13 k0_pay12
  refine stage_win 1024 1024 2048 rfl rfl _ f _ _ ?_ n e
  refine stage_win 512 1536 1024 rfl rfl _ f _ _ ?_
  refine stage_win 256 1792 512 rfl rfl _ f _ _ ?_
  refine stage_win 128 1920 256 rfl rfl _ f _ _ ?_
  refine stage_win 64 1984 128 rfl rfl _ f _ _ ?_
  refine stage_win 32 2016 64 rfl rfl _ f _ _ ?_
  refine stage_win 16 2032 32 rfl rfl _ f _ _ ?_
  refine stage_win 8 2040 16 rfl rfl _ f _ _ ?_
  refine stage_win 4 2044 8 rfl rfl _ f _ _ ?_
  refine stage_win 2 2046 4 rfl rfl _ f _ _ ?_
  exact stage_win 1 2047 2 rfl rfl _ f _ _ h0

theorem sent_le : ∑ e, tot (Sent x w b) e ≤ 4096 := by
  have h : ∀ g : Fin 2048 → Fin 8, ∑ e, (Finset.univ.filter fun n => e = g n).card = 2048 := fun g => by
    have := Finset.card_eq_sum_card_fiberwise (f := g) (s := Finset.univ) (t := Finset.univ) (fun _ _ => Finset.mem_univ _)
    refine Eq.trans ?_ (this.symm.trans ((Finset.card_univ).trans (Fintype.card_fin 2048)))
    refine Finset.sum_congr rfl fun e _ => ?_
    congr 1
    ext n
    simp [eq_comm]
  have h1 : ∀ e, tot (Sent x w b) e ≤ (Finset.univ.filter fun n => e = amax (lg x w b n)).card + (Finset.univ.filter fun n => e = bmax (lg x w b n)).card := fun e => by
    unfold tot Sent
    rw [Finset.filter_or]
    exact Finset.card_union_le _ _
  refine (Finset.sum_le_sum fun e _ => h1 e).trans ?_
  rw [Finset.sum_add_distrib, h, h]

end Cert.Val
end
-- ==== Proof.MoeVal.lean ====
module

public import proofs.«01_k».proof.Proof.Mask
public import proofs.«01_k».proof.Proof.Step

@[expose] public section

set_option maxRecDepth 16384

noncomputable section

namespace Cert.Val

open Idealize.ShloMosaic Idealize.ShloMosaic.TcCoe
open Cert.KernelIdeal hiding ix2
open Cert.KernelIdeal.Gen
open Cert.KernelIdeal.Own

/-- The entry of the column the word names. -/
def pick (w : BitVec 32) (g : Fin 8 → EReal) : EReal := ∑ x : Fin 8, Scalar.select (IntOp.cmpi .eq (BitVec.ofNat 32 x.val) w) (g x) 0

theorem pick_eq (e : Fin 8) (g : Fin 8 → EReal) : pick (BitVec.ofNat 32 e.val) g = g e := by
  unfold pick
  rw [Finset.sum_eq_single e]
  · rw [cmp_eq, select_bool, if_pos rfl]
  · intro x _ hx
    rw [cmp_eq, select_bool, if_neg hx]
  · exact fun h => absurd (Finset.mem_univ e) h

theorem mt_val (w0 w1 : BitVec 32) (cu ga : FVec Ideal S2048x8 .f32) (n : Fin 2048) (s : Fin 256) :
    k2_pay6 (F := Ideal) w0 w1 cu ga (ix2 n s) = if pick w0 (fun x => cu (ix2 n x)) = FloatOps.sitofp (F := Ideal) .f32 (BitVec.ofNat 32 s.val + (w1 + 1#32)) ∧ 0 < pick w0 (fun x => ga (ix2 n x)) then 1 else 0 := by
  have h : k2_pay6 (F := Ideal) w0 w1 cu ga (ix2 n s) = Scalar.select (BitVec.ofBool (decide (pick w0 (fun x => cu (ix2 n x)) = FloatOps.sitofp (F := Ideal) .f32 (BitVec.ofNat 32 s.val + (w1 + 1#32))))
      &&& BitVec.ofBool (decide (0 < pick w0 (fun x => ga (ix2 n x))))) 1 0 := by
    unfold pick
    pointwise [Gen.k2_pay6]
    rfl
  rw [h, ← select_bool (_ ∧ _)]
  congr 1
  by_cases h1 : pick w0 (fun x => cu (ix2 n x)) = FloatOps.sitofp (F := Ideal) .f32 (BitVec.ofNat 32 s.val + (w1 + 1#32)) <;>
    by_cases h2 : 0 < pick w0 (fun x => ga (ix2 n x)) <;> simp [h1, h2]

theorem mtS_eq (w0 w1 : BitVec 32) (cu ga : FVec Ideal S2048x8 .f32) (n : Fin 2048) (s : Fin 256) :
    mtS w0 w1 cu ga (ix2 n s) = k2_pay6 (F := Ideal) w0 w1 cu ga (ix2 n s) := by
  pointwise [Gen.k2_pay7]

theorem xg_val (w0 w1 : BitVec 32) (cu ga : FVec Ideal S2048x8 .f32) (x : Vec Ideal S2048x768 .bf16) (s : Fin 256) (d : Fin 768) :
    k2_pay8 w0 w1 cu ga x (ix2 s d) = ∑ n : Fin 2048, k2_pay6 (F := Ideal) w0 w1 cu ga (ix2 n s) * x (ix2 n d) := by
  pointwise [Gen.k2_pay8]

theorem q_val (w0 w1 : BitVec 32) (cu ga : FVec Ideal S2048x8 .f32) (x : FVec Ideal S2048x768 .bf16) (qw : FVec Ideal S1x768x768 .bf16) (qb : FVec Ideal S1x1x768 .f32) (s : Fin 256) (f : Fin 768) :
    qS w0 w1 cu ga x qw qb (ix2 s f) = ((∑ d : Fin 768, k2_pay8 (F := Ideal) w0 w1 cu ga x (ix2 s d) * qw (ix3 0 d f)) + qb (ix3 0 0 f)) * Idealize.ShloMosaic.Ideal.ofBits FTy.f32 1040187392#32 := by
  pointwise [Gen.k2_pay19]

theorem k_val (x : FVec Ideal S1x512x768 .bf16) (s : Fin 512) (f : Fin 768) :
    kS x (ix2 s f) = x (ix3 0 s f) := by
  pointwise [Gen.k2_pay22]

theorem z20 : k2_pay20 (F := Ideal) = fun _ => 0 := by
  funext y
  pointwise [Gen.k2_pay20]

theorem z21 : k2_pay21 (F := Ideal) = fun _ => 0 := by
  funext y
  pointwise [Gen.k2_pay21]

theorem pay5_val (u v : FVec Ideal S2048x768 .f32) (y) : k2_pay5 (F := Ideal) u v y = v y + u y := by
  pointwise [Gen.k2_pay5]

/-- One head of the attention's output. -/
def piece (a : FVec Ideal S256x768 .f32) (l : (h : ℕ) → h < 12 → FVec Ideal S256x1 .f32) (h : Fin 12) : FVec Ideal S256x64 .f32 :=
  divf (extractStridedSlice S256x64 ![0, 64 * h.val] a (slices_q h.val h.isLt)) (broadcastTo S256x64 (l h.val h.isLt) broadcasts_S256x1_S256x64)

theorem piece_val (a : FVec Ideal S256x768 .f32) (l : (h : ℕ) → h < 12 → FVec Ideal S256x1 .f32) (h : Fin 12) (s : Fin 256) (j : Fin 64) :
    piece a l h (ix2 s j) = Idealize.ShloMosaic.Ideal.div (a (ix2 s ⟨64 * h.val + j.val, by omega⟩)) (l h.val h.isLt (ix2 s 0)) := by
  unfold piece
  pointwise []

/-- Twelve heads side by side. -/
def side (p : Fin 12 → FVec Ideal S256x64 .f32) : FVec Ideal S256x768 .f32 :=
  concatenate S256x768 1 [⟨S256x64, p 0⟩, ⟨S256x64, p 1⟩, ⟨S256x64, p 2⟩, ⟨S256x64, p 3⟩, ⟨S256x64, p 4⟩, ⟨S256x64, p 5⟩, ⟨S256x64, p 6⟩, ⟨S256x64, p 7⟩, ⟨S256x64, p 8⟩, ⟨S256x64, p 9⟩, ⟨S256x64, p 10⟩, ⟨S256x64, p 11⟩]
    concatenates_S256x64_S256x64_S256x64_S256x64_S256x64_S256x64_S256x64_S256x64_S256x64_S256x64_S256x64_S256x64_S256x768_d1

theorem side_val (p : Fin 12 → FVec Ideal S256x64 .f32) (s : Fin 256) (h : Fin 12) (j : Fin 64) (hc : 64 * h.val + j.val < 768) :
    side p (ix2 s ⟨64 * h.val + j.val, hc⟩) = p h (ix2 s j) := by
  unfold side
  pointwise []
  have hj := j.isLt
  fin_vals h with hh
  all_goals
    repeat (first | rw [dif_pos (by omega)] | rw [dif_neg (by omega)])
    congr 2
    · exact Fin.ext hh.symm
    · exact Fin.ext (by dsimp only; omega)

/-- What a closing block adds, from its heads side by side. -/
def conR (mt : FVec Ideal S2048x256 .bf16) (q : FVec Ideal S256x768 .f32) (ow : Vec Ideal S1x768x768 .bf16) (ob : Vec Ideal S1x1x768 .f32) (w : BitVec 32)
    (ga : Vec Ideal S2048x8 .f32) : FVec Ideal S2048x768 .f32 :=
  mulf (matmul dot_S2048x256_S256x768_S2048x768_1_0_0_1_n_n none mt
      (truncf .bf16 (addf (matmul dot_S256x768_S768x768_S256x768_1_0_0_1_n_n none (truncf .bf16 q bitsLt_bf16_f32)
        (shapeCast S768x768 ow shapeCasts_S1x768x768_S768x768 : FVec Ideal S768x768 .bf16) (constant S256x768 .f32 0#32))
        (broadcastTo S256x768 (shapeCast S1x768 ob shapeCasts_S1x1x768_S1x768) broadcasts_S1x768_S256x768)) bitsLt_bf16_f32)
      (constant S2048x768 .f32 0#32))
    (broadcastTo S2048x768 (shapeCast S2048x1 (multiReduction .add [1] S2048
      (select (cmpi .eq (iota .tc S2048x8 32 [1] iota_S2048x8_d1_w32) (broadcast S2048x8 w)) (shapeCast S2048x8 ga shapeCasts_S2048x8_S2048x8)
        (broadcast S2048x8 (Scalar.ofBits .f32 0#32))) 0#32 reduces_S2048x8_S2048 (.inl rfl) rfl) shapeCasts_S2048_S2048x1) broadcasts_S2048x1_S2048x768)

theorem con_val (mt : FVec Ideal S2048x256 .bf16) (a : FVec Ideal S256x768 .f32) (l : (h : ℕ) → h < 12 → FVec Ideal S256x1 .f32)
    (ow : FVec Ideal S1x768x768 .bf16) (ob : FVec Ideal S1x1x768 .f32) (w : BitVec 32) (ga : FVec Ideal S2048x8 .f32) (n : Fin 2048) (f : Fin 768) :
    conC mt a l ow ob w ga (ix2 n f) = (∑ s : Fin 256, mt (ix2 n s) * ((∑ c : Fin 768, side (piece a l) (ix2 s c) * ow (ix3 0 c f)) + ob (ix3 0 0 f))) * pick w (fun x => ga (ix2 n x)) := by
  have h : conC mt a l ow ob w ga = conR mt (side (piece a l)) ow ob w ga := rfl
  rw [h]
  generalize side (piece a l) = q
  unfold conR pick
  pointwise []

end Cert.Val
end
-- ==== Proof.Blk2.lean ====
module

public import proofs.«01_k».proof.Proof.Reg2
public import proofs.«01_k».proof.Proof.MoeVal
public import Idealize.ShloMosaic.Lib.Pipeline.ValueKit.Geometry
public import Idealize.ShloMosaic.Lib.Pipeline.ValueKit.Acc

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL
open Idealize.ShloMosaic.Pipeline (Dat Cfg Window)
open Cert.Val (eS accS lS)

/-! # The blocks the attention call reads -/

variable (a : (pcfg2 (F := Ideal)).Adm) (W : (c : Dev nD) → (b : Ref sig .tc) → Buf (Elt Ideal) ((c : Thread nD τ).loc b))

theorem pt_lt (n : ℕ) : (pt a n).val < 96 := Nat.mod_lt n (by decide)
theorem co0_at : ∀ t : Fin grid2.N, (grid2.coords t 0).val = t.val / 4 % 24 := fun t => Pipeline.Grid.coords_val t 0 (by decide) rfl
theorem co1_at : ∀ t : Fin grid2.N, (grid2.coords t 1).val = t.val / 1 % 4 := fun t => Pipeline.Grid.coords_val t 1 (by decide) rfl
theorem co0 (n : ℕ) (h : n < 96) : (grid2.coords (pt a n) 0).val = n / 4 := by
  refine (co0_at (pt a n)).trans ?_
  show n % 96 / 4 % 24 = _
  omega
theorem co1 (n : ℕ) : (grid2.coords (pt a n) 1).val = n % 4 := by
  refine (co1_at (pt a n)).trans ?_
  show n % 96 / 1 % 4 = _
  omega

theorem off_val (i : grid2.Coords) : k2_off1 i = ![(i 0).val] := by
  have h : (i 0).val < 24 := (i 0).isLt
  funext x
  fin_cases x
  show (BitVec.ofNat 32 (i 0).val).toNat = _
  rw [BitVec.toNat_ofNat]
  exact Nat.mod_eq_of_lt (by omega)

theorem tab_emb (i : grid2.Coords) (b : Fin 32) (h : (i 0).val = b.val) :
    (Rect.unit (s := S32) (k2_off1 i) S1.size (k2_off1_inb i)).emb (Shape.Idx.first numel1_S1.ge) = ix1 b := by
  funext x
  fin_cases x
  refine Fin.ext ?_
  have h0 : k2_off1 i 0 = (i 0).val := congrFun (off_val i) 0
  show k2_off1 i 0 + 1 * 0 = b.val
  omega

theorem tw0_val (c : Dev nD) (n : ℕ) (h : n < 96) : w0N a c n = (a.1 0 : S32.Idx → BitVec 32) (ix1 ⟨n / 4, by omega⟩) :=
  congrArg (a.1 0 : S32.Idx → BitVec 32) (tab_emb _ _ (co0 a n h))
theorem tw1_val (c : Dev nD) (n : ℕ) (h : n < 96) : w1N a c n = (a.1 1 : S32.Idx → BitVec 32) (ix1 ⟨n / 4, by omega⟩) :=
  congrArg (a.1 1 : S32.Idx → BitVec 32) (tab_emb _ _ (co0 a n h))
theorem at_val (n : ℕ) (h : n < 96) : a.1.at 0 (Rect.unit (s := S32) (k2_off1 (grid2.coords (pt a n))) S1.size (k2_off1_inb (grid2.coords (pt a n)))) numel1_S1 = (a.1 0 : S32.Idx → BitVec 32) (ix1 ⟨n / 4, by omega⟩) :=
  congrArg (a.1 0 : S32.Idx → BitVec 32) (tab_emb _ _ (co0 a n h))

section Words
variable (n : ℕ) (h : n < 96) (e : Fin 8) (he : (a.1 0 : S32.Idx → BitVec 32) (ix1 ⟨n / 4, by omega⟩) = BitVec.ofNat 32 e.val)
include he

theorem at_nat : (a.1.at 0 (Rect.unit (s := S32) (k2_off1 (grid2.coords (pt a n))) S1.size (k2_off1_inb (grid2.coords (pt a n)))) numel1_S1 : BitVec 32).toNat = e.val := by
  rw [at_val a n h, he, BitVec.toNat_ofNat]
  exact Nat.mod_eq_of_lt (by omega)

theorem e2_3 : ((cfg2 a).win 3).index (pt a n) = ![e.val, n % 4, 0] := by
  funext x
  fin_cases x
  · exact at_nat a n h e he
  · show (BitVec.ofNat 32 (grid2.coords (pt a n) 1).val).toNat = n % 4
    rw [co1, BitVec.toNat_ofNat]
    omega
  · rfl
theorem e2_4 : ((cfg2 a).win 4).index (pt a n) = ![e.val, n % 4, 0] := e2_3 a n h e he
theorem e2_5 : ((cfg2 a).win 5).index (pt a n) = ![e.val, 0, 0] := by
  funext x
  fin_cases x
  · exact at_nat a n h e he
  · rfl
  · rfl
theorem e2_6 : ((cfg2 a).win 6).index (pt a n) = ![e.val, 0, 0] := e2_5 a n h e he
theorem e2_7 : ((cfg2 a).win 7).index (pt a n) = ![e.val, 0, 0] := e2_5 a n h e he
theorem e2_8 : ((cfg2 a).win 8).index (pt a n) = ![e.val, 0, 0] := e2_5 a n h e he

theorem x3_val (c : Dev nD) (s : Fin 512) (f : Fin 768) : X3 a W c n (Idealize.ShloMosaic.ix3 0 s f) = W c main_v12_0 (Idealize.ShloMosaic.ix3 e ⟨n % 4 * 512 + s.val, by omega⟩ f) := by
  unfold X3 iblk2; blk_simp [e2_3 a n h e he]; congr 1; blk_ext [e2_3 a n h e he]
theorem x4_val (c : Dev nD) (s : Fin 512) (f : Fin 768) : X4 a W c n (Idealize.ShloMosaic.ix3 0 s f) = W c main_v12_1 (Idealize.ShloMosaic.ix3 e ⟨n % 4 * 512 + s.val, by omega⟩ f) := by
  unfold X4 iblk2; blk_simp [e2_4 a n h e he]; congr 1; blk_ext [e2_4 a n h e he]
theorem x5_val (c : Dev nD) (d f : Fin 768) : X5 a W c n (Idealize.ShloMosaic.ix3 0 d f) = W c main_v2 (Idealize.ShloMosaic.ix3 e d f) := by
  unfold X5 iblk2; blk_simp [e2_5 a n h e he]; congr 1; blk_ext [e2_5 a n h e he]
theorem x6_val (c : Dev nD) (f : Fin 768) : X6 a W c n (Idealize.ShloMosaic.ix3 0 0 f) = W c main_v7 (Idealize.ShloMosaic.ix3 e 0 f) := by
  unfold X6 iblk2; blk_simp [e2_6 a n h e he]; congr 1; blk_ext [e2_6 a n h e he]
theorem x7_val (c : Dev nD) (d f : Fin 768) : X7 a W c n (Idealize.ShloMosaic.ix3 0 d f) = W c main_v5 (Idealize.ShloMosaic.ix3 e d f) := by
  unfold X7 iblk2; blk_simp [e2_7 a n h e he]; congr 1; blk_ext [e2_7 a n h e he]
theorem x8_val (c : Dev nD) (f : Fin 768) : X8 a W c n (Idealize.ShloMosaic.ix3 0 0 f) = W c main_v10 (Idealize.ShloMosaic.ix3 e 0 f) := by
  unfold X8 iblk2; blk_simp [e2_8 a n h e he]; congr 1; blk_ext [e2_8 a n h e he]

end Words

theorem e2_0 (n : ℕ) : ((cfg2 a).win 0).index (pt a n) = ![0, 0] := by
  funext x
  fin_cases x <;> rfl
theorem e2_1 (n : ℕ) : ((cfg2 a).win 1).index (pt a n) = ![0, 0] := by
  funext x
  fin_cases x <;> rfl
theorem e2_2 (n : ℕ) : ((cfg2 a).win 2).index (pt a n) = ![0, 0] := by
  funext x
  fin_cases x <;> rfl
theorem e2_9 (n : ℕ) : ((cfg2 a).win 9).index (pt a n) = ![0, 0] := by
  funext x
  fin_cases x <;> rfl

theorem x0_val (c : Dev nD) (n : ℕ) (r : Fin 2048) (d : Fin 768) : X0 a W c n (Idealize.ShloMosaic.ix2 r d) = W c main_v1 (Idealize.ShloMosaic.ix2 r d) := by
  unfold X0 iblk2; blk_simp [e2_0 a n]; congr 1; blk_ext [e2_0 a n]
theorem x1_val (c : Dev nD) (n : ℕ) (r : Fin 2048) (d : Fin 8) : X1 a W c n (Idealize.ShloMosaic.ix2 r d) = W c main_v11_1 (Idealize.ShloMosaic.ix2 r d) := by
  unfold X1 iblk2; blk_simp [e2_1 a n]; congr 1; blk_ext [e2_1 a n]
theorem x2_val (c : Dev nD) (n : ℕ) (r : Fin 2048) (d : Fin 8) : X2 a W c n (Idealize.ShloMosaic.ix2 r d) = W c main_v11_0 (Idealize.ShloMosaic.ix2 r d) := by
  unfold X2 iblk2; blk_simp [e2_2 a n]; congr 1; blk_ext [e2_2 a n]

theorem emb2_9 (n : ℕ) (r : Fin 2048) (d : Fin 768) : (((cfg2 a).win 9).blk (pt a n)).view.emb (Idealize.ShloMosaic.ix2 r d) = Idealize.ShloMosaic.ix2 r d := by
  blk_ext [e2_9 a n]

theorem one_block (p q : ℕ) (h : p = q) (hq : 0 < q) : (p + q - 1) / q = 1 := by
  subst h
  exact Nat.div_eq_of_lt_le (by omega) (by omega)

/-- The attention call's result is what its last position holds. -/
theorem arr2_9 (c : Dev nD) : (dat2 a W c).arrAt 9 (cfg2 a).N = oN a W c 95 := by
  refine (dat2 a W c).arrAt_eq_of_covers 9 _ ?_ fun t hf y => ?_
  · refine ⟨fun x => ?_, fun k => ⟨pt a 95, ?_, fun x => ?_⟩⟩
    · revert x
      show ∀ x : Fin 2, 0 < ((cfg2 a).win 9).size x
      intro x
      fin_cases x <;> exact Nat.succ_pos _
    · rw [flush2_9]; rfl
    · have hk : (k x).val < 1 := by
        have h := (k x).isLt
        revert h
        generalize (k x).val = i
        revert x
        show ∀ x : Fin 2, i < ((cfg2 a).win 9).nblk x → i < 1
        intro x
        refine fun h => h.trans_eq (one_block _ _ ?_ ?_)
        · fin_cases x <;> rfl
        · fin_cases x <;> exact Nat.succ_pos _
      have h0 : (k x).val = 0 := by omega
      rw [h0]
      revert x
      show ∀ x : Fin 2, _
      intro x _ _
      fin_cases x
      · exact ⟨rfl, Or.inl rfl⟩
      · exact ⟨rfl, Or.inl rfl⟩
  · have ht : t.val = 95 := by
      have := flush2_9 a t
      rw [hf] at this
      exact of_decide_eq_true this.symm
    blk_simp
    rw [after2_9, ht]
    revert y
    show ∀ y : S2048x768.Idx, oN a W c 95 y = oN a W c 95 ((((cfg2 a).win 9).blk t).view.emb y)
    intro y
    obtain ⟨r, d, rfl⟩ : ∃ (r : Fin 2048) (d : Fin 768), y = Idealize.ShloMosaic.ix2 r d := ⟨y 0, y 1, by funext i; fin_cases i <;> rfl⟩
    have hp : t = pt a 95 := Fin.ext ht
    rw [hp]
    exact congrArg (oN a W c 95) (emb2_9 a 95 r d).symm

/-! # What the positions of one block hold -/

theorem mtN_at (c : Dev nD) (b : ℕ) : ∀ r < 4, mtN a W c (4 * b + r) = mtA a W c (4 * b)
  | 0, _ => by
    cases b with
    | zero => rfl
    | succ b => exact if_pos (by show (4 * b + 3 + 1) % 4 = 0; omega)
  | r + 1, h => (if_neg (by show ¬(4 * b + r + 1) % 4 = 0; omega)).trans (mtN_at c b r (by omega))

theorem qN_at (c : Dev nD) (b : ℕ) : ∀ r < 4, qN a W c (4 * b + r) = qA a W c (4 * b)
  | 0, _ => by
    cases b with
    | zero => rfl
    | succ b => exact if_pos (by show (4 * b + 3 + 1) % 4 = 0; omega)
  | r + 1, h => (if_neg (by show ¬(4 * b + r + 1) % 4 = 0; omega)).trans (qN_at c b r (by omega))

theorem acc_step (q : FVec Ideal S256x768 .bf16) (k v : FVec Ideal S512x768 .bf16) (o : FVec Ideal S256x768 .f32) (s : Fin 256) (h : Fin 12) (d : Fin 64) :
    accS q k v o (Idealize.ShloMosaic.ix2 s ⟨64 * h.val + d.val, by omega⟩)
      = o (Idealize.ShloMosaic.ix2 s ⟨64 * h.val + d.val, by omega⟩) + ∑ j : Fin 512, eS q k h.val h.isLt s j * v (Idealize.ShloMosaic.ix2 j ⟨64 * h.val + d.val, by omega⟩) := by
  have hh : (64 * h.val + d.val) / 64 = h.val := by omega
  unfold accS
  show o _ + ∑ j : Fin 512, eS q k ((64 * h.val + d.val) / 64) _ s j * _ = _
  simp only [hh]
  rfl

theorem l_step (q : FVec Ideal S256x768 .bf16) (k : FVec Ideal S512x768 .bf16) (o : FVec Ideal S256x128 .f32) (s : Fin 256) (h : Fin 12) :
    lS q k o (Idealize.ShloMosaic.ix2 s ⟨h.val, by omega⟩) = o (Idealize.ShloMosaic.ix2 s ⟨h.val, by omega⟩) + ∑ j : Fin 512, eS q k h.val h.isLt s j :=
  dif_pos h.isLt

theorem accN_at (c : Dev nD) (b : ℕ) (s : Fin 256) (h : Fin 12) (d : Fin 64) : ∀ r < 4, accN a W c (4 * b + r) (Idealize.ShloMosaic.ix2 s ⟨64 * h.val + d.val, by omega⟩)
    = ∑ q ∈ Finset.range (r + 1), ∑ j : Fin 512, eS (qA a W c (4 * b)) (kS (X3 a W c (4 * b + q))) h.val h.isLt s j * kS (X4 a W c (4 * b + q)) (Idealize.ShloMosaic.ix2 j ⟨64 * h.val + d.val, by omega⟩)
  | 0, _ => by
    have h0 : accN a W c (4 * b + 0) = accS (qA a W c (4 * b)) (kS (X3 a W c (4 * b))) (kS (X4 a W c (4 * b))) k2_pay20 := by
      cases b with
      | zero => rfl
      | succ b => exact if_pos (by show (4 * b + 3 + 1) % 4 = 0; omega)
    rw [h0, Finset.sum_range_one, Cert.Val.z20]
    exact acc_step _ _ _ _ s h d |>.trans (zero_add _)
  | r + 1, hr => by
    have h0 : accN a W c (4 * b + (r + 1)) = accS (qN a W c (4 * b + r)) (kS (X3 a W c (4 * b + (r + 1)))) (kS (X4 a W c (4 * b + (r + 1)))) (accN a W c (4 * b + r)) :=
      if_neg (by show ¬(4 * b + r + 1) % 4 = 0; omega)
    rw [h0, qN_at a W c b r (by omega), Finset.sum_range_succ, ← accN_at c b s h d r (by omega)]
    exact acc_step _ _ _ _ s h d

theorem lN_at (c : Dev nD) (b : ℕ) (s : Fin 256) (h : Fin 12) : ∀ r < 4, lN a W c (4 * b + r) (Idealize.ShloMosaic.ix2 s ⟨h.val, by omega⟩)
    = ∑ q ∈ Finset.range (r + 1), ∑ j : Fin 512, eS (qA a W c (4 * b)) (kS (X3 a W c (4 * b + q))) h.val h.isLt s j
  | 0, _ => by
    have h0 : lN a W c (4 * b + 0) = lS (qA a W c (4 * b)) (kS (X3 a W c (4 * b))) k2_pay21 := by
      cases b with
      | zero => rfl
      | succ b => exact if_pos (by show (4 * b + 3 + 1) % 4 = 0; omega)
    rw [h0, Finset.sum_range_one, Cert.Val.z21]
    exact l_step _ _ _ s h |>.trans (zero_add _)
  | r + 1, hr => by
    have h0 : lN a W c (4 * b + (r + 1)) = lS (qN a W c (4 * b + r)) (kS (X3 a W c (4 * b + (r + 1)))) (lN a W c (4 * b + r)) :=
      if_neg (by show ¬(4 * b + r + 1) % 4 = 0; omega)
    rw [h0, qN_at a W c b r (by omega), Finset.sum_range_succ, ← lN_at c b s h r (by omega)]
    exact l_step _ _ _ s h

theorem oN_at (c : Dev nD) (y : S2048x768.Idx) : ∀ b, oN a W c (4 * b + 3) y = (∑ x ∈ Finset.range (b + 1), (conN a W c (4 * x + 3) y : EReal) : EReal)
  | 0 => by
    rw [Finset.sum_range_one]
    rfl
  | b + 1 => by
    have h1 : oN a W c (4 * (b + 1) + 3) = k2_pay5 (F := Ideal) (conN a W c (4 * (b + 1) + 3)) (oN a W c (4 * (b + 1) + 2)) :=
      (if_pos (by show (4 * (b + 1) + 2 + 1) % 4 = 3; omega)).trans (if_neg (by show ¬ 4 * (b + 1) + 2 + 1 < 4; omega))
    have h2 : oN a W c (4 * (b + 1) + 2) = oN a W c (4 * (b + 1) + 1) := if_neg (by show ¬ (4 * (b + 1) + 1 + 1) % 4 = 3; omega)
    have h3 : oN a W c (4 * (b + 1) + 1) = oN a W c (4 * (b + 1)) := if_neg (by show ¬ (4 * (b + 1) + 1) % 4 = 3; omega)
    have h4 : oN a W c (4 * (b + 1)) = oN a W c (4 * b + 3) := if_neg (by show ¬ (4 * b + 3 + 1) % 4 = 3; omega)
    have h0 := h1.trans (congrArg _ (h2.trans (h3.trans h4)))
    rw [h0, Finset.sum_range_succ, ← oN_at c y b]
    exact Cert.Val.pay5_val _ _ _

end Cert.KernelIdeal.Own
end
-- ==== Proof.Soft.lean ====
module

public import proofs.«01_k».proof.Proof.Mask

@[expose] public section

set_option maxRecDepth 16384

noncomputable section

namespace Cert.Val

open Idealize.ShloMosaic Idealize.ShloMosaic.TcCoe

/-- A projection of the tokens for one expert. -/
def prj (w : (⟨3, ![8, 768, 768]⟩ : Shape).Idx → EReal) (b : (⟨2, ![8, 768]⟩ : Shape).Idx → EReal)
    (x : (⟨3, ![1, 2048, 768]⟩ : Shape).Idx → EReal) (e : Fin 8) (n : Fin 2048) (c : Fin 768) : EReal :=
  (∑ d : Fin 768, w (ix3 e d c) * x (ix3 0 n d)) + b (ix2 e c)

/-- The scaled score of a query row with a key row in one head. -/
def scr (q k : Fin 768 → EReal) (h : Fin 12) : EReal :=
  (∑ j : Fin 64, q ⟨h.val * 64 + j.val, by omega⟩ * k ⟨h.val * 64 + j.val, by omega⟩) * Idealize.ShloMosaic.Ideal.ofBits .f32 1040187392#32

/-- The weights of a softmax over the keys, applied to the values. -/
def soft (s v : Fin 2048 → EReal) : EReal :=
  ∑ k : Fin 2048, v k * Idealize.ShloMosaic.Ideal.div
    (Idealize.ShloMosaic.Ideal.exp (s k - max (Idealize.ShloMosaic.Ideal.ofBits .f32 4286578688#32) (Finset.fold max (Idealize.ShloMosaic.Ideal.ofBits .f32 4286578688#32) s Finset.univ)))
    (∑ k : Fin 2048, Idealize.ShloMosaic.Ideal.exp (s k - max (Idealize.ShloMosaic.Ideal.ofBits .f32 4286578688#32) (Finset.fold max (Idealize.ShloMosaic.Ideal.ofBits .f32 4286578688#32) s Finset.univ)))

/-- The output of one expert from the attended rows. -/
def outp (w : (⟨3, ![8, 768, 768]⟩ : Shape).Idx → EReal) (b : (⟨2, ![8, 768]⟩ : Shape).Idx → EReal)
    (a : Fin 768 → EReal) (e : Fin 8) (f : Fin 768) : EReal :=
  (∑ c : Fin 768, a c * w (ix3 e c f)) + b (ix2 e f)

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The running maximum of real numbers is a real number. -/
theorem max_real (S : Fin 2048 → ℝ) : ∃ M : ℝ, max (⊥ : EReal) (Finset.fold max ⊥ (fun k => (S k : EReal)) Finset.univ) = (M : EReal) := by
  have h : Finset.fold max (⊥ : EReal) (fun k => (S k : EReal)) Finset.univ = Finset.univ.sup (fun k => (S k : EReal)) := rfl
  rw [h, max_eq_right bot_le]
  obtain ⟨k, _, hk⟩ := Finset.exists_mem_eq_sup (Finset.univ : Finset (Fin 2048)) ⟨0, Finset.mem_univ _⟩ (fun k => (S k : EReal))
  exact ⟨S k, hk⟩

theorem sum_mul_real {ι : Type} (s : Finset ι) (f : ι → EReal) (c : ℝ) (hc : 0 ≤ c) : ∑ i ∈ s, f i * (c : EReal) = (∑ i ∈ s, f i) * (c : EReal) := by
  classical
  induction s using Finset.induction_on with
  | empty => simp
  | insert a s h ih =>
    rw [Finset.sum_insert h, Finset.sum_insert h, ih, EReal.right_distrib_of_nonneg_of_ne_top (by exact_mod_cast hc) (EReal.coe_ne_top c)]

/-- The shift by the maximum and the division before the sum make no difference. -/
theorem soft_val (S : Fin 2048 → ℝ) (v : Fin 2048 → EReal) :
    soft (fun k => (S k : EReal)) v
      = Idealize.ShloMosaic.Ideal.div (∑ k, Idealize.ShloMosaic.Ideal.exp (S k : EReal) * v k) (∑ k, Idealize.ShloMosaic.Ideal.exp (S k : EReal)) := by
  unfold soft
  rw [ofBits_bot]
  obtain ⟨M, hM⟩ := max_real S
  rw [hM]
  have hE : ∀ k, Idealize.ShloMosaic.Ideal.exp ((S k : EReal) - (M : EReal)) = ((Real.exp (S k) * Real.exp (-M) : ℝ) : EReal) := fun k => by
    rw [← EReal.coe_sub, Idealize.ShloMosaic.Ideal.exp_coe, sub_eq_add_neg, Real.exp_add]
  simp only [hE, Idealize.ShloMosaic.Ideal.exp_coe]
  rw [← coe_sum, ← coe_sum]
  have hL : 0 < ∑ k : Fin 2048, Real.exp (S k) := Finset.sum_pos (fun k _ => Real.exp_pos _) ⟨0, Finset.mem_univ _⟩
  have hm : 0 < Real.exp (-M) := Real.exp_pos _
  rw [← Finset.sum_mul]
  generalize (∑ k : Fin 2048, Real.exp (S k)) = L at hL ⊢
  rw [Idealize.ShloMosaic.Ideal.div_coe hL.ne']
  rw [← sum_mul_real _ _ _ (one_div_nonneg.mpr hL.le)]
  refine Finset.sum_congr rfl fun k _ => ?_
  rw [Idealize.ShloMosaic.Ideal.div_coe (mul_pos hL hm).ne', ← EReal.coe_mul, mul_comm (Real.exp (S k) : EReal), mul_assoc (v k), ← EReal.coe_mul]
  refine congrArg (fun t : ℝ => v k * (t : EReal)) ?_
  field_simp

end Cert.Val
end
-- ==== Proof.Tables.lean ====
module

public import proofs.«01_k».proof.Proof.Disp
public import proofs.«01_k».proof.Proof.MoeVal
public import proofs.«01_k».proof.Proof.Router
public import proofs.«01_k».proof.Proof.Soft

@[expose] public section

set_option maxRecDepth 16384

noncomputable section

namespace Cert.Val

open Idealize.ShloMosaic Idealize.ShloMosaic.TcCoe
open Cert.KernelIdeal hiding ix2
open Cert.KernelIdeal.Gen
open Cert.KernelIdeal.Own

/-! # The tables of blocks -/

variable (v : FVec Ideal S2048x8 .f32) (C : Fin 2048 → Fin 8 → Prop) [∀ n e, Decidable (C n e)]

theorem bits_255 : Idealize.ShloMosaic.Ideal.ofBits .f32 1132396544#32 = ((255 : ℝ) : EReal) := by
  simp [Idealize.ShloMosaic.Ideal.ofBits, Idealize.ShloMosaic.Ideal.ieee, -EReal.coe_mul]; norm_num

theorem bits_256 : Idealize.ShloMosaic.Ideal.ofBits .f32 1132462080#32 = ((256 : ℝ) : EReal) := by
  simp [Idealize.ShloMosaic.Ideal.ofBits, Idealize.ShloMosaic.Ideal.ieee, -EReal.coe_mul]; norm_num

theorem bits_eighth : Idealize.ShloMosaic.Ideal.ofBits .f32 1040187392#32 = ((1 / 8 : ℝ) : EReal) := by
  simp [Idealize.ShloMosaic.Ideal.ofBits, Idealize.ShloMosaic.Ideal.ieee, -EReal.coe_mul]; norm_num

theorem bits_neg : Idealize.ShloMosaic.Ideal.ofBits .f32 3212836864#32 = ((-1 : ℝ) : EReal) := by
  simp [Idealize.ShloMosaic.Ideal.ofBits, Idealize.ShloMosaic.Ideal.ieee, -EReal.coe_mul]; norm_num

theorem blocks_word (N : ℕ) : Idealize.ShloMosaic.Ideal.liftRound Int.floor (Idealize.ShloMosaic.Ideal.div (((N : ℝ) : EReal) + ((255 : ℝ) : EReal)) ((256 : ℝ) : EReal))
    = ((((N + 255) / 256 : ℕ) : ℝ) : EReal) := by
  rw [Idealize.ShloMosaic.Ideal.div_coe (by norm_num), ← EReal.coe_add, ← EReal.coe_mul]
  show (((⌊((N : ℝ) + 255) * (1 / 256)⌋ : ℤ) : ℝ) : EReal) = _
  have h : ⌊((N : ℝ) + 255) * (1 / 256)⌋ = (((N + 255) / 256 : ℕ) : ℤ) := by
    have h1 := Nat.div_add_mod (N + 255) 256
    have h2 := Nat.mod_lt (N + 255) (by norm_num : 0 < 256)
    generalize (N + 255) / 256 = q at h1 ⊢
    generalize (N + 255) % 256 = r at h1 h2
    rw [Int.floor_eq_iff]
    have h1' : (256 : ℝ) * (q : ℝ) + (r : ℝ) = (N : ℝ) + 255 := by exact_mod_cast h1
    have h2' : (r : ℝ) < 256 := by exact_mod_cast h2
    have h3 : (0 : ℝ) ≤ (r : ℝ) := Nat.cast_nonneg _
    rw [Int.cast_natCast]
    constructor <;> linarith
  rw [h]
  norm_cast

theorem stE_st (hv : ∀ n e, k0_pay13 (F := Ideal) v (ix2 n e) = ((cnt C n e : ℝ) : EReal)) (e : Fin 8) : stE v e = ((st C e : ℝ) : EReal) := by
  rw [stE_eq]
  simp only [hv, cnt_last, bits_255, bits_256, blocks_word]
  unfold st
  rw [Finset.sum_filter, Nat.cast_sum, coe_sum]
  refine Finset.sum_congr rfl fun x _ => ?_
  by_cases h : x < e
  · rw [if_pos h, if_pos h, one_mul]
    rfl
  · rw [if_neg h, if_neg h, zero_mul]
    simp

theorem eobS_card (hv : ∀ n e, k0_pay13 (F := Ideal) v (ix2 n e) = ((cnt C n e : ℝ) : EReal)) (b : Fin 32) :
    (eobS v b).card - 1 = (eob C b.val).val := by
  unfold eobS eob
  simp only [stE_st v C hv, EReal.coe_le_coe_iff, Nat.cast_le]

theorem eob_table (hv : ∀ n e, k0_pay13 (F := Ideal) v (ix2 n e) = ((cnt C n e : ℝ) : EReal)) (b : Fin 32) :
    k0_pay17 (F := Ideal) v (ix2 0 b) = BitVec.ofNat 32 (eob C b.val).val := by
  rw [eob_word, eobS_card v C hv]

theorem last_start (b : ℕ) : Finset.fold max (⊥ : EReal) (fun x : Fin 8 => if ((st C x : ℝ) : EReal) ≤ ((b : ℝ) : EReal) then ((st C x : ℝ) : EReal) else ((-1 : ℝ) : EReal)) Finset.univ
    = ((st C (eob C b) : ℝ) : EReal) := by
  show Finset.univ.sup _ = _
  refine le_antisymm (Finset.sup_le fun x _ => ?_) ?_
  · split_ifs with h
    · rw [EReal.coe_le_coe_iff, Nat.cast_le] at h ⊢
      exact st_mono C (le_eob C h)
    · rw [EReal.coe_le_coe_iff]
      have : (0 : ℝ) ≤ (st C (eob C b) : ℝ) := Nat.cast_nonneg _
      linarith
  · refine le_trans (le_of_eq ?_) (Finset.le_sup (Finset.mem_univ (eob C b)))
    rw [if_pos (by rw [EReal.coe_le_coe_iff, Nat.cast_le]; exact st_eob_le C b)]

theorem pbase_table (hv : ∀ n e, k0_pay13 (F := Ideal) v (ix2 n e) = ((cnt C n e : ℝ) : EReal)) (b : Fin 32) :
    k0_pay1 (F := Ideal) (k0_pay16 (F := Ideal) v) (ix2 0 b) = BitVec.ofNat 32 ((b.val - st C (eob C b.val)) * 256) := by
  have h14 : ∀ x : Fin 8, k0_pay14 (F := Ideal) v (ix2 x 0) = ((st C x : ℝ) : EReal) := stE_st v C hv
  have hs := st_eob_le C b.val
  have h : k0_pay1 (F := Ideal) (k0_pay16 (F := Ideal) v) (ix2 0 b) = FloatOps.fptosi (F := Ideal) (φ := .f32) 32
      ((FloatOps.sitofp (F := Ideal) .f32 (BitVec.ofNat 32 b.val) - Finset.fold max (Idealize.ShloMosaic.Ideal.ofBits .f32 4286578688#32)
        (fun x => if k0_pay14 (F := Ideal) v (ix2 x 0) ≤ FloatOps.sitofp (F := Ideal) .f32 (BitVec.ofNat 32 b.val) then k0_pay14 (F := Ideal) v (ix2 x 0) else Idealize.ShloMosaic.Ideal.ofBits .f32 3212836864#32) Finset.univ)
        * Idealize.ShloMosaic.Ideal.ofBits .f32 1132462080#32) := by
    pointwise [Gen.k0_pay1, Gen.k0_pay16, Gen.k0_pay15]
  rw [h, sitofp_nat b.val (by omega), ofBits_bot, bits_neg, bits_256]
  simp only [h14]
  rw [last_start, ← EReal.coe_sub, ← EReal.coe_mul, ← fptosi_nat _ (by omega)]
  rw [Nat.cast_mul, Nat.cast_sub hs]
  norm_num

/-- The dispatch of one block is the tokens that have a row in it. -/
theorem mt_hit {w0 w1 : BitVec 32} {cu ga : Vec Ideal S2048x8 .f32} (b : ℕ) (hb : b < 24)
    (h0 : w0 = BitVec.ofNat 32 (eob C b).val) (h1 : w1 = BitVec.ofNat 32 ((b - st C (eob C b)) * 256))
    (hcu : ∀ n e, cu (ix2 n e) = ((cnt C n e : ℝ) : EReal)) (hga : ∀ n e, 0 < (ga (ix2 n e) : EReal) ↔ C n e) (n : Fin 2048) (s : Fin 256) :
    k2_pay6 (F := Ideal) w0 w1 cu ga (ix2 n s) = if Hit C b n s.val then (1 : EReal) else 0 := by
  rw [mt_val]
  have hw : BitVec.ofNat 32 s.val + (w1 + 1#32) = BitVec.ofNat 32 (s.val + (b - st C (eob C b)) * 256 + 1) := by
    rw [h1, BitVec.ofNat_add, BitVec.ofNat_add, BitVec.add_assoc]
  rw [hw, h0, pick_eq, pick_eq, sitofp_nat _ (by omega)]
  simp only [hcu, hga]
  unfold Hit
  refine if_congr ?_ rfl rfl
  rw [EReal.coe_eq_coe_iff, Nat.cast_inj, and_comm]

section Gates
variable {x : FVec Ideal S2048x768 .f32} {w : FVec Ideal S768x8 .f32} {rb : FVec Ideal S1x8 .f32}

theorem real_ne_bot {f : Fin 8 → EReal} (hf : ∀ e, ∃ r : ℝ, f e = r) (e : Fin 8) : f e ≠ ⊥ := by
  obtain ⟨r, h⟩ := hf e
  rw [h]
  exact EReal.coe_ne_bot r

theorem gt1_real (n : Fin 2048) (hf : ∀ e, ∃ r : ℝ, lg x w rb n e = r) : ∃ g : ℝ, 0 < g ∧ g < 1 ∧ gt1 x w rb n = g := by
  obtain ⟨p, hp⟩ := hf (amax (lg x w rb n))
  obtain ⟨q, hq⟩ := hf (bmax (lg x w rb n))
  have he := Real.exp_pos (q - p)
  refine ⟨1 / (1 + Real.exp (q - p)), by positivity, by rw [div_lt_one (by positivity)]; linarith, ?_⟩
  unfold gt1
  rw [drop_bmax (real_ne_bot hf), hp, hq, ← EReal.coe_sub, Idealize.ShloMosaic.Ideal.exp_coe, ← EReal.coe_one, ← EReal.coe_add,
    Idealize.ShloMosaic.Ideal.div_coe (by positivity), ← EReal.coe_mul, one_mul]

theorem ga_zero (n : Fin 2048) (e : Fin 8) (h : ¬Sent x w rb n e) : ga x w rb n e = 0 := by
  unfold Sent at h
  rw [not_or] at h
  unfold ga
  rw [if_neg h.1, if_neg h.2, add_zero]

theorem ga_pos (n : Fin 2048) (hf : ∀ e, ∃ r : ℝ, lg x w rb n e = r) (e : Fin 8) : 0 < ga x w rb n e ↔ Sent x w rb n e := by
  refine ⟨fun h => by_contra fun hc => (ga_zero n e hc ▸ h).ne rfl, fun h => ?_⟩
  obtain ⟨g, h0, h1, hg⟩ := gt1_real n hf
  have hne := bmax_ne (real_ne_bot hf)
  unfold ga
  rw [hg]
  rcases h with h | h
  · rw [if_pos h, if_neg (h.trans_ne hne.symm), add_zero]
    exact_mod_cast h0
  · rw [if_pos h, if_neg (h.trans_ne hne), zero_add, ← EReal.coe_one, ← EReal.coe_sub]
    exact_mod_cast sub_pos.mpr h1

/-- The gates as a softmax of the two largest logits. -/
theorem gates_soft (n : Fin 2048) (hf : ∀ e, ∃ r : ℝ, lg x w rb n e = r) (e : Fin 8) (v : Fin 2 → EReal) (hv : v = ![lg x w rb n (amax (lg x w rb n)), lg x w rb n (bmax (lg x w rb n))])
    (p : Fin 2 → BitVec 32) (hp : p = fun i => BitVec.ofNat 32 (![amax (lg x w rb n), bmax (lg x w rb n)] i).val) :
    (∑ i : Fin 2, FloatOps.uitofp (F := Ideal) .f32 (IntOp.cmpi .eq (p i) (BitVec.ofNat 32 e.val)) * Idealize.ShloMosaic.Ideal.div
        (Idealize.ShloMosaic.Ideal.exp (v i - max (Idealize.ShloMosaic.Ideal.ofBits .f32 4286578688#32) (Finset.fold max (Idealize.ShloMosaic.Ideal.ofBits .f32 4286578688#32) v Finset.univ)))
        (∑ i : Fin 2, Idealize.ShloMosaic.Ideal.exp (v i - max (Idealize.ShloMosaic.Ideal.ofBits .f32 4286578688#32) (Finset.fold max (Idealize.ShloMosaic.Ideal.ofBits .f32 4286578688#32) v Finset.univ))) : EReal)
      = ga x w rb n e := by
  have hle := le_amax (lg x w rb n) (bmax (lg x w rb n))
  have hM : max (⊥ : EReal) (Finset.fold max ⊥ v Finset.univ) = lg x w rb n (amax (lg x w rb n)) := by
    rw [max_eq_right bot_le]
    show Finset.univ.sup v = _
    rw [hv]
    refine le_antisymm (Finset.sup_le fun i _ => ?_) (Finset.le_sup (f := ![lg x w rb n (amax (lg x w rb n)), lg x w rb n (bmax (lg x w rb n))]) (Finset.mem_univ 0))
    fin_cases i
    · exact le_rfl
    · exact hle
  rw [ofBits_bot, hM, Fin.sum_univ_two, Fin.sum_univ_two]
  have hbit : ∀ a : Fin 8, FloatOps.uitofp (F := Ideal) .f32 (IntOp.cmpi .eq (BitVec.ofNat 32 a.val) (BitVec.ofNat 32 e.val)) = if e = a then (1 : EReal) else 0 := by
    intro a
    show (((IntOp.cmpi .eq (BitVec.ofNat 32 a.val) (BitVec.ofNat 32 e.val)).toNat : ℝ) : EReal) = _
    by_cases h : e = a
    · rw [h, if_pos rfl]
      simp [IntOp.cmpi]
    · rw [if_neg h]
      have : ¬ (BitVec.ofNat 32 a.val = BitVec.ofNat 32 e.val) := fun hc => h (Fin.ext (by
        have := congrArg BitVec.toNat hc
        rw [BitVec.toNat_ofNat, BitVec.toNat_ofNat, Nat.mod_eq_of_lt (by omega), Nat.mod_eq_of_lt (by omega)] at this
        exact this.symm))
      simp [IntOp.cmpi, this]
  have hp0 : p 0 = BitVec.ofNat 32 (amax (lg x w rb n)).val := by rw [hp]; rfl
  have hp1 : p 1 = BitVec.ofNat 32 (bmax (lg x w rb n)).val := by rw [hp]; rfl
  have hv0 : v 0 = lg x w rb n (amax (lg x w rb n)) := by rw [hv]; rfl
  have hv1 : v 1 = lg x w rb n (bmax (lg x w rb n)) := by rw [hv]; rfl
  rw [hp0, hp1, hbit, hbit, hv0, hv1]
  unfold ga gt1
  rw [drop_bmax (real_ne_bot hf)]
  obtain ⟨a, ha⟩ := hf (amax (lg x w rb n))
  obtain ⟨b, hb⟩ := hf (bmax (lg x w rb n))
  rw [ha, hb, ← EReal.coe_sub, ← EReal.coe_sub, Idealize.ShloMosaic.Ideal.exp_coe, Idealize.ShloMosaic.Ideal.exp_coe, sub_self, Real.exp_zero,
    ← EReal.coe_one, ← EReal.coe_add]
  have he := Real.exp_pos (b - a)
  rw [Idealize.ShloMosaic.Ideal.div_coe (by positivity), Idealize.ShloMosaic.Ideal.div_coe (by positivity), ← EReal.coe_mul, ← EReal.coe_mul, ← EReal.coe_sub]
  have h2 : Real.exp (b - a) * (1 / (1 + Real.exp (b - a))) = 1 - 1 * (1 / (1 + Real.exp (b - a))) := by field_simp; ring
  rw [h2]
  congr 1
  · split_ifs <;> simp
  · split_ifs <;> simp

end Gates

end Cert.Val
end
-- ==== Proof.Host.lean ====
module

public import proofs.«01_k».proof.Proof.Top
public import proofs.«01_k».proof.Proof.Arr1
public import proofs.«01_k».proof.Proof.Blk2
public import proofs.«01_k».proof.Proof.Tables

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL

/-! # What the host's operations leave -/

section Ops
variable (V : Valuation τ sig (Elt Ideal))

theorem h0_v0 (n : Fin 2048) (d : Fin 768) : StableHlo.after hostOps0 V (Proc.devRef .tc main_v0) (Idealize.ShloMosaic.ix2 n d) = V (Proc.devRef .tc main_arg0) (Idealize.ShloMosaic.ix3 0 n d) := by
  unfold hostOps0; after_results; pointwise []
theorem h0_v1 (n : Fin 2048) (d : Fin 768) : StableHlo.after hostOps0 V (Proc.devRef .tc main_v1) (Idealize.ShloMosaic.ix2 n d) = V (Proc.devRef .tc main_arg0) (Idealize.ShloMosaic.ix3 0 n d) := by
  unfold hostOps0; after_results; pointwise []
theorem h0_v2 (e : Fin 8) (d f : Fin 768) : StableHlo.after hostOps0 V (Proc.devRef .tc main_v2) (Idealize.ShloMosaic.ix3 e d f) = V (Proc.devRef .tc main_arg3) (Idealize.ShloMosaic.ix3 e d f) := by
  unfold hostOps0; after_results; pointwise []
theorem h0_v3 (e : Fin 8) (d f : Fin 768) : StableHlo.after hostOps0 V (Proc.devRef .tc main_v3) (Idealize.ShloMosaic.ix3 e d f) = V (Proc.devRef .tc main_arg5) (Idealize.ShloMosaic.ix3 e d f) := by
  unfold hostOps0; after_results; pointwise []
theorem h0_v4 (e : Fin 8) (d f : Fin 768) : StableHlo.after hostOps0 V (Proc.devRef .tc main_v4) (Idealize.ShloMosaic.ix3 e d f) = V (Proc.devRef .tc main_arg7) (Idealize.ShloMosaic.ix3 e d f) := by
  unfold hostOps0; after_results; pointwise []
theorem h0_v5 (e : Fin 8) (d f : Fin 768) : StableHlo.after hostOps0 V (Proc.devRef .tc main_v5) (Idealize.ShloMosaic.ix3 e d f) = V (Proc.devRef .tc main_arg9) (Idealize.ShloMosaic.ix3 e d f) := by
  unfold hostOps0; after_results; pointwise []
theorem h0_v6 (e : Fin 8) : StableHlo.after hostOps0 V (Proc.devRef .tc main_v6) (Idealize.ShloMosaic.ix2 0 e) = V (Proc.devRef .tc main_arg2) (ix1 e) := by
  unfold hostOps0; after_results; pointwise []
theorem h0_v7 (e : Fin 8) (f : Fin 768) : StableHlo.after hostOps0 V (Proc.devRef .tc main_v7) (Idealize.ShloMosaic.ix3 e 0 f) = V (Proc.devRef .tc main_arg4) (Idealize.ShloMosaic.ix2 e f) := by
  unfold hostOps0; after_results; pointwise []
theorem h0_v8 (e : Fin 8) (f : Fin 768) : StableHlo.after hostOps0 V (Proc.devRef .tc main_v8) (Idealize.ShloMosaic.ix3 e 0 f) = V (Proc.devRef .tc main_arg6) (Idealize.ShloMosaic.ix2 e f) := by
  unfold hostOps0; after_results; pointwise []
theorem h0_v9 (e : Fin 8) (f : Fin 768) : StableHlo.after hostOps0 V (Proc.devRef .tc main_v9) (Idealize.ShloMosaic.ix3 e 0 f) = V (Proc.devRef .tc main_arg8) (Idealize.ShloMosaic.ix2 e f) := by
  unfold hostOps0; after_results; pointwise []
theorem h0_v10 (e : Fin 8) (f : Fin 768) : StableHlo.after hostOps0 V (Proc.devRef .tc main_v10) (Idealize.ShloMosaic.ix3 e 0 f) = V (Proc.devRef .tc main_arg10) (Idealize.ShloMosaic.ix2 e f) := by
  unfold hostOps0; after_results; pointwise []
theorem h3_v16 (n : Fin 2048) (d : Fin 768) : StableHlo.after hostOps3 V (Proc.devRef .tc main_v16) (Idealize.ShloMosaic.ix3 0 n d) = V (Proc.devRef .tc main_v15) (Idealize.ShloMosaic.ix2 n d) := by
  unfold hostOps3; after_results; pointwise []
theorem h2_v13 (b : Fin 32) : (StableHlo.after hostOps2 V (Proc.devRef .tc main_v13) : S32.Idx → BitVec 32) (ix1 b) = V (Proc.devRef .tc main_v11_2) (Idealize.ShloMosaic.ix2 0 b) := by
  unfold hostOps2; after_results; pointwise []
theorem h2_v14 (b : Fin 32) : (StableHlo.after hostOps2 V (Proc.devRef .tc main_v14) : S32.Idx → BitVec 32) (ix1 b) = V (Proc.devRef .tc main_v11_3) (Idealize.ShloMosaic.ix2 0 b) := by
  unfold hostOps2; after_results; pointwise []
end Ops

variable (m : (ℓ : Loc nD τ sig) → Buf (Elt Ideal) ℓ)

end Cert.KernelIdeal.Own
end
-- ==== Proof.Block.lean ====
module

public import proofs.«01_k».proof.Proof.Host

@[expose] public section

set_option maxRecDepth 16384

noncomputable section

namespace Cert.Val

open Idealize.ShloMosaic Idealize.ShloMosaic.TcCoe
open Cert.KernelIdeal hiding ix2
open Cert.KernelIdeal.Gen
open Cert.KernelIdeal.Own

/-- The weighted values over the sum of the weights, from real queries and keys, is the softmax of the scaled scores applied to the values. -/
theorem att {q : Fin 768 → EReal} {k : Fin 2048 → Fin 768 → EReal} (hq : ∀ c, ∃ r : ℝ, q c = r) (hk : ∀ i c, ∃ r : ℝ, k i c = r)
    (v : Fin 2048 → EReal) (h : Fin 12) :
    Idealize.ShloMosaic.Ideal.div
      (∑ i, Idealize.ShloMosaic.Ideal.exp (∑ j : Fin 64, (q ⟨64 * h.val + j.val, by omega⟩ * Idealize.ShloMosaic.Ideal.ofBits .f32 1040187392#32) * k i ⟨64 * h.val + j.val, by omega⟩) * v i)
      (∑ i, Idealize.ShloMosaic.Ideal.exp (∑ j : Fin 64, (q ⟨64 * h.val + j.val, by omega⟩ * Idealize.ShloMosaic.Ideal.ofBits .f32 1040187392#32) * k i ⟨64 * h.val + j.val, by omega⟩))
      = soft (fun i => scr q (k i) h) v := by
  choose qr hqr using hq
  choose kr hkr using hk
  have h1 : ∀ i, (∑ j : Fin 64, (q ⟨64 * h.val + j.val, by omega⟩ * Idealize.ShloMosaic.Ideal.ofBits .f32 1040187392#32) * k i ⟨64 * h.val + j.val, by omega⟩)
      = (((∑ j : Fin 64, qr ⟨64 * h.val + j.val, by omega⟩ * kr i ⟨64 * h.val + j.val, by omega⟩) * (1 / 8) : ℝ) : EReal) := by
    intro i
    rw [Finset.sum_mul, coe_sum]
    refine Finset.sum_congr rfl fun j _ => ?_
    rw [hqr, hkr, bits_eighth, ← EReal.coe_mul, ← EReal.coe_mul]
    congr 1
    ring
  have h2 : ∀ i, scr q (k i) h = (((∑ j : Fin 64, qr ⟨64 * h.val + j.val, by omega⟩ * kr i ⟨64 * h.val + j.val, by omega⟩) * (1 / 8) : ℝ) : EReal) := by
    intro i
    unfold scr
    rw [EReal.coe_mul, coe_sum, bits_eighth]
    refine congrArg (· * _) (Finset.sum_congr rfl fun j _ => ?_)
    rw [hqr, hkr, ← EReal.coe_mul]
    simp only [Nat.mul_comm h.val 64]
  simp only [h1, h2]
  exact (soft_val _ v).symm

/-- The sum over the four chunks of the keys is the sum over the keys. -/
theorem sum_chunks (F : Fin 2048 → EReal) :
    (∑ q ∈ Finset.range 4, ∑ j : Fin 512, (if h : q < 4 then F ⟨q * 512 + j.val, by omega⟩ else 0)) = ∑ i, F i := by
  rw [Fin.sum_univ_tiles 4 512 rfl, Finset.sum_range]
  refine Finset.sum_congr rfl fun q _ => Finset.sum_congr rfl fun j _ => ?_
  rw [dif_pos q.isLt]

end Cert.Val

namespace Cert.KernelIdeal.Own

open Cert.KernelIdeal Cert.KernelIdeal.Gen
open Idealize.ShloMosaic Idealize.ShloMosaic.TcCoe
open Idealize.SL
open Cert.Val (eS accS lS prj scr soft outp Hit eob cnt st pick)

/-- What the attention call finds: the rows, the weights and biases, the keys and values of every expert, the
    gates and counts, and the two tables. -/
structure Setting (a : (pcfg2 (F := Ideal)).Adm) (W : (c : Dev nD) → (b : Ref sig .tc) → Buf (Elt Ideal) ((c : Thread nD τ).loc b)) (c : Dev nD)
    (x : S1x2048x768.Idx → EReal) (wq wk wv wo : S8x768x768.Idx → EReal) (bq bk bv bo : S8x768.Idx → EReal)
    (ga : Fin 2048 → Fin 8 → EReal) (C : Fin 2048 → Fin 8 → Prop) [∀ n e, Decidable (C n e)] : Prop where
  hx : ∀ n d, (W c main_v1 : S2048x768.Idx → EReal) (Idealize.ShloMosaic.ix2 n d) = x (Idealize.ShloMosaic.ix3 0 n d)
  hwq : ∀ e d f, (W c main_v2 : S8x768x768.Idx → EReal) (Idealize.ShloMosaic.ix3 e d f) = wq (Idealize.ShloMosaic.ix3 e d f)
  hbq : ∀ e f, (W c main_v7 : S8x1x768.Idx → EReal) (Idealize.ShloMosaic.ix3 e 0 f) = bq (Idealize.ShloMosaic.ix2 e f)
  hwo : ∀ e d f, (W c main_v5 : S8x768x768.Idx → EReal) (Idealize.ShloMosaic.ix3 e d f) = wo (Idealize.ShloMosaic.ix3 e d f)
  hbo : ∀ e f, (W c main_v10 : S8x1x768.Idx → EReal) (Idealize.ShloMosaic.ix3 e 0 f) = bo (Idealize.ShloMosaic.ix2 e f)
  hk : ∀ e n f, (W c main_v12_0 : S8x2048x768.Idx → EReal) (Idealize.ShloMosaic.ix3 e n f) = prj wk bk x e n f
  hv : ∀ e n f, (W c main_v12_1 : S8x2048x768.Idx → EReal) (Idealize.ShloMosaic.ix3 e n f) = prj wv bv x e n f
  hcu : ∀ n e, (W c main_v11_1 : S2048x8.Idx → EReal) (Idealize.ShloMosaic.ix2 n e) = ((cnt C n e : ℝ) : EReal)
  hga : ∀ n e, (W c main_v11_0 : S2048x8.Idx → EReal) (Idealize.ShloMosaic.ix2 n e) = ga n e
  hgp : ∀ n e, 0 < ga n e ↔ C n e
  ht0 : ∀ b : Fin 32, (a.1 0 : S32.Idx → BitVec 32) (ix1 b) = BitVec.ofNat 32 (eob C b.val).val
  ht1 : ∀ b : Fin 32, (a.1 1 : S32.Idx → BitVec 32) (ix1 b) = BitVec.ofNat 32 ((b.val - st C (eob C b.val)) * 256)
  hqr : ∀ e n f, ∃ r : ℝ, prj wq bq x e n f = r
  hkr : ∀ e n f, ∃ r : ℝ, prj wk bk x e n f = r

/-- One row of the attention of one expert. -/
def attn (x : S1x2048x768.Idx → EReal) (wq wk wv : S8x768x768.Idx → EReal) (bq bk bv : S8x768.Idx → EReal) (e : Fin 8) (n : Fin 2048) (c : Fin 768) : EReal :=
  soft (fun i => scr (prj wq bq x e n) (prj wk bk x e i) ⟨c.val / 64, by omega⟩) (fun i => prj wv bv x e i c)

section Block
variable {a : (pcfg2 (F := Ideal)).Adm} {W : (c : Dev nD) → (b : Ref sig .tc) → Buf (Elt Ideal) ((c : Thread nD τ).loc b)} {c : Dev nD}
  {x : S1x2048x768.Idx → EReal} {wq wk wv wo : S8x768x768.Idx → EReal} {bq bk bv bo : S8x768.Idx → EReal}
  {ga : Fin 2048 → Fin 8 → EReal} {C : Fin 2048 → Fin 8 → Prop} [∀ n e, Decidable (C n e)] (S : Setting a W c x wq wk wv wo bq bk bv bo ga C) (b : Fin 24)
include S

theorem Setting.he (r : ℕ) (hr : r < 4) : (a.1 0 : S32.Idx → BitVec 32) (ix1 ⟨(4 * b.val + r) / 4, by omega⟩) = BitVec.ofNat 32 (eob C b.val).val := by
  have h : (⟨(4 * b.val + r) / 4, by omega⟩ : Fin 32) = ⟨b.val, by omega⟩ := Fin.ext (by show (4 * b.val + r) / 4 = b.val; omega)
  rw [h]
  exact S.ht0 _

theorem Setting.w0 (r : ℕ) (hr : r < 4) : w0N a c (4 * b.val + r) = BitVec.ofNat 32 (eob C b.val).val :=
  (tw0_val a c _ (by omega)).trans (S.he b r hr)

theorem Setting.w1 (r : ℕ) (hr : r < 4) : w1N a c (4 * b.val + r) = BitVec.ofNat 32 ((b.val - st C (eob C b.val)) * 256) := by
  have h : (⟨(4 * b.val + r) / 4, by omega⟩ : Fin 32) = ⟨b.val, by omega⟩ := Fin.ext (by show (4 * b.val + r) / 4 = b.val; omega)
  rw [tw1_val a c _ (by omega), h]
  exact S.ht1 _

theorem Setting.hit (r : ℕ) (hr : r < 4) (n : Fin 2048) (s : Fin 256) :
    k2_pay6 (F := Ideal) (w0N a c (4 * b.val + r)) (w1N a c (4 * b.val + r)) (X1 a W c (4 * b.val + r)) (X2 a W c (4 * b.val + r)) (Idealize.ShloMosaic.ix2 n s) = if Hit C b.val n s.val then (1 : EReal) else 0 :=
  Cert.Val.mt_hit C b.val b.isLt (S.w0 b r hr) (S.w1 b r hr) (fun n e => (x1_val a W c _ n e).trans (S.hcu n e))
    (fun n e => by rw [show (X2 a W c (4 * b.val + r) (Idealize.ShloMosaic.ix2 n e) : EReal) = ga n e from (x2_val a W c _ n e).trans (S.hga n e)]; exact S.hgp n e) n s

theorem Setting.mt (n : Fin 2048) (s : Fin 256) : (mtN a W c (4 * b.val + 3) (Idealize.ShloMosaic.ix2 n s) : EReal) = if Hit C b.val n s.val then (1 : EReal) else 0 := by
  rw [mtN_at a W c b.val 3 (by omega)]
  exact (Cert.Val.mtS_eq _ _ _ _ n s).trans (S.hit b 0 (by omega) n s)

theorem Setting.q {n : Fin 2048} {s : Fin 256} (h : Hit C b.val n s.val) (f : Fin 768) :
    (qA a W c (4 * b.val) (Idealize.ShloMosaic.ix2 s f) : EReal) = prj wq bq x (eob C b.val) n f * Idealize.ShloMosaic.Ideal.ofBits .f32 1040187392#32 := by
  refine (Cert.Val.q_val _ _ _ _ _ _ _ s f).trans (congrArg (fun y : EReal => y * _) ?_)
  unfold prj
  refine congrArg₂ (fun y z : EReal => y + z) (Finset.sum_congr (M := EReal) rfl fun d _ => ?_) ((x6_val a W _ (by omega) _ (S.he b 0 (by omega)) c f).trans (S.hbq _ f))
  rw [mul_comm]
  refine congrArg₂ (fun y z : EReal => y * z) ((x5_val a W _ (by omega) _ (S.he b 0 (by omega)) c d f).trans (S.hwq _ d f)) ?_
  refine (Cert.Val.xg_val _ _ _ _ _ s d).trans (Eq.trans (Finset.sum_congr (M := EReal) rfl fun n' _ => ?_) (Cert.Val.sum_hit C h (fun n' => x (Idealize.ShloMosaic.ix3 0 n' d))))
  exact congrArg₂ (fun y z : EReal => y * z) (S.hit b 0 (by omega) n' s) ((x0_val a W c _ n' d).trans (S.hx n' d))

theorem Setting.kk (q : ℕ) (hq : q < 4) (j : Fin 512) (f : Fin 768) :
    (kS (X3 a W c (4 * b.val + q)) (Idealize.ShloMosaic.ix2 j f) : EReal) = prj wk bk x (eob C b.val) ⟨q * 512 + j.val, by omega⟩ f := by
  refine (Cert.Val.k_val _ j f).trans ((x3_val a W _ (by omega) _ (S.he b q hq) c j f).trans ?_)
  have h : (⟨(4 * b.val + q) % 4 * 512 + j.val, by omega⟩ : Fin 2048) = ⟨q * 512 + j.val, by omega⟩ := Fin.ext (by show (4 * b.val + q) % 4 * 512 + j.val = q * 512 + j.val; omega)
  rw [h]
  exact S.hk _ _ f

theorem Setting.vv (q : ℕ) (hq : q < 4) (j : Fin 512) (f : Fin 768) :
    (kS (X4 a W c (4 * b.val + q)) (Idealize.ShloMosaic.ix2 j f) : EReal) = prj wv bv x (eob C b.val) ⟨q * 512 + j.val, by omega⟩ f := by
  refine (Cert.Val.k_val _ j f).trans ((x4_val a W _ (by omega) _ (S.he b q hq) c j f).trans ?_)
  have h : (⟨(4 * b.val + q) % 4 * 512 + j.val, by omega⟩ : Fin 2048) = ⟨q * 512 + j.val, by omega⟩ := Fin.ext (by show (4 * b.val + q) % 4 * 512 + j.val = q * 512 + j.val; omega)
  rw [h]
  exact S.hv _ _ f

theorem Setting.e {n : Fin 2048} {s : Fin 256} (h : Hit C b.val n s.val) (hd : Fin 12) (q : ℕ) (hq : q < 4) (j : Fin 512) :
    eS (qA a W c (4 * b.val)) (kS (X3 a W c (4 * b.val + q))) hd.val hd.isLt s j
      = Ideal.exp (∑ i : Fin 64, (prj wq bq x (eob C b.val) n ⟨64 * hd.val + i.val, by omega⟩ * Idealize.ShloMosaic.Ideal.ofBits .f32 1040187392#32)
          * prj wk bk x (eob C b.val) ⟨q * 512 + j.val, by omega⟩ ⟨64 * hd.val + i.val, by omega⟩) :=
  congrArg Ideal.exp (Finset.sum_congr (M := EReal) rfl fun i _ => congrArg₂ (fun y z : EReal => y * z) (S.q b h _) (S.kk b q hq j _))

theorem Setting.div {n : Fin 2048} {s : Fin 256} (h : Hit C b.val n s.val) (hd : Fin 12) (d : Fin 64) :
    Ideal.div (accN a W c (4 * b.val + 3) (Idealize.ShloMosaic.ix2 s ⟨64 * hd.val + d.val, by omega⟩)) (lN a W c (4 * b.val + 3) (Idealize.ShloMosaic.ix2 s ⟨hd.val, by omega⟩))
      = attn x wq wk wv bq bk bv (eob C b.val) n ⟨64 * hd.val + d.val, by omega⟩ := by
  have hh : (⟨(64 * hd.val + d.val) / 64, by omega⟩ : Fin 12) = hd := Fin.ext (by show (64 * hd.val + d.val) / 64 = hd.val; omega)
  unfold attn
  rw [accN_at a W c b.val s hd d 3 (by omega), lN_at a W c b.val s hd 3 (by omega), hh, ← Cert.Val.att (S.hqr _ n) (S.hkr _) _ hd]
  refine congrArg₂ Ideal.div ?_ ?_
  · rw [← Cert.Val.sum_chunks]
    refine Finset.sum_congr (M := EReal) rfl fun q hq => Finset.sum_congr (M := EReal) rfl fun j _ => ?_
    have hq' : q < 4 := Finset.mem_range.mp hq
    rw [dif_pos hq']
    exact congrArg₂ (fun y z : EReal => y * z) (S.e b h hd q hq' j) (S.vv b q hq' j _)
  · rw [← Cert.Val.sum_chunks]
    refine Finset.sum_congr (M := EReal) rfl fun q hq => Finset.sum_congr (M := EReal) rfl fun j _ => ?_
    have hq' : q < 4 := Finset.mem_range.mp hq
    rw [dif_pos hq']
    exact S.e b h hd q hq' j

/-- What the rows of a block give, gated. -/
theorem Setting.con (n : Fin 2048) (f : Fin 768) : ∃ Y : Fin 256 → EReal,
    (∀ s : Fin 256, Hit C b.val n s.val → Y s = outp wo bo (attn x wq wk wv bq bk bv (eob C b.val) n) (eob C b.val) f)
    ∧ (conN a W c (4 * b.val + 3) (Idealize.ShloMosaic.ix2 n f) : EReal)
      = (∑ s : Fin 256, (if Hit C b.val n s.val then 1 else 0) * Y s) * ga n (eob C b.val) := by
  have hc : (conN a W c (4 * b.val + 3) (Idealize.ShloMosaic.ix2 n f) : EReal) = _ := Cert.Val.con_val (mtN a W c (4 * b.val + 3)) (accN a W c (4 * b.val + 3)) (fun h hh j => lN a W c (4 * b.val + 3) ((Cert.Val.rL h hh).emb j))
    (X7 a W c (4 * b.val + 3)) (X8 a W c (4 * b.val + 3)) (w0N a c (4 * b.val + 3)) (X2 a W c (4 * b.val + 3)) n f
  rw [S.w0 b 3 (by omega), Cert.Val.pick_eq] at hc
  refine ⟨fun s => (∑ i : Fin 768, Cert.Val.side (Cert.Val.piece (accN a W c (4 * b.val + 3)) (fun h hh j => lN a W c (4 * b.val + 3) ((Cert.Val.rL h hh).emb j))) (Idealize.ShloMosaic.ix2 s i)
      * X7 a W c (4 * b.val + 3) (Idealize.ShloMosaic.ix3 0 i f)) + X8 a W c (4 * b.val + 3) (Idealize.ShloMosaic.ix3 0 0 f), fun s hs => ?_, ?_⟩
  · unfold outp
    refine congrArg₂ (fun y z : EReal => y + z) (Finset.sum_congr (M := EReal) rfl fun i _ => congrArg₂ (fun y z : EReal => y * z) ?_ ((x7_val a W _ (by omega) _ (S.he b 3 (by omega)) c i f).trans (S.hwo _ i f)))
      ((x8_val a W _ (by omega) _ (S.he b 3 (by omega)) c f).trans (S.hbo _ f))
    obtain ⟨hd, d, rfl⟩ : ∃ (hd : Fin 12) (d : Fin 64), i = ⟨64 * hd.val + d.val, by omega⟩ :=
      ⟨⟨i.val / 64, by omega⟩, ⟨i.val % 64, by omega⟩, Fin.ext (by show i.val = 64 * (i.val / 64) + i.val % 64; omega)⟩
    have hl : (Cert.Val.rL hd.val hd.isLt).emb (Idealize.ShloMosaic.ix2 s 0) = Idealize.ShloMosaic.ix2 s ⟨hd.val, by omega⟩ := by
      funext i
      fin_cases i
      · exact Fin.ext (by show 0 + 1 * s.val = s.val; omega)
      · exact Fin.ext (by show hd.val + 1 * 0 = hd.val; omega)
    rw [Cert.Val.side_val _ s hd d, Cert.Val.piece_val _ _ hd s d, hl]
    exact S.div b hs hd d
  · refine Eq.trans hc ?_
    · refine congrArg₂ (fun y z : EReal => y * z) (Finset.sum_congr (M := EReal) rfl fun s _ => congrArg₂ (fun y z : EReal => y * z) (S.mt b n s) rfl) ?_
      exact (x2_val a W c _ n _).trans (S.hga n _)

/-- What the attention call leaves: every expert's output, gated. -/
theorem Setting.out (h2 : ∑ e, Cert.Val.tot C e ≤ 4096) (hG : ∀ n e, ¬C n e → ga n e = 0) (n : Fin 2048) (f : Fin 768) :
    (oN a W c 95 (Idealize.ShloMosaic.ix2 n f) : EReal)
      = ∑ e : Fin 8, outp wo bo (attn x wq wk wv bq bk bv e n) e f * ga n e := by
  choose Y hY hc using fun b : Fin 24 => S.con b n f
  refine (oN_at a W c (Idealize.ShloMosaic.ix2 n f) 23).trans ?_
  rw [Finset.sum_range]
  refine (Finset.sum_congr (M := EReal) rfl fun b _ => hc b).trans ?_
  exact Cert.Val.sum_blocks C h2 n (ga n) (hG n) Y
    (fun e => outp wo bo (attn x wq wk wv bq bk bv e n) e f) hY

end Block

end Cert.KernelIdeal.Own
end
-- ==== Proof.KerVal.lean ====
module

public import proofs.«01_k».proof.Proof.Block

@[expose] public section

set_option maxRecDepth 16384

noncomputable section

namespace Cert.KernelIdeal.Own

open Cert.KernelIdeal Cert.KernelIdeal.Gen
open Idealize.ShloMosaic Idealize.ShloMosaic.TcCoe
open Idealize.SL
open Cert.Val (prj scr soft outp eob cnt st lg Sent)

variable (m : (ℓ : Loc nD τ sig) → Buf (Elt Ideal) ℓ) (c : Dev nD)

/-! # What the kernel's run leaves in its result -/

theorem U4_U3 (r : Ref sig .tc) (h2 : r ∉ hostOps2_W) : U4 m c r = U3 m c r :=
  StableHlo.after_of_writes_sub hostOps2 _ hostOps2_writes h2

theorem U4_U2 (r : Ref sig .tc) (h2 : r ∉ hostOps2_W) (k1 : ∀ w, Pipeline.arrRef spec1 w = r → (win1 w).isOut = false) : U4 m c r = U2 m c r :=
  (U4_U3 m c r h2).trans (keep3 m c r k1)

theorem U4_U1 (r : Ref sig .tc) (h2 : r ∉ hostOps2_W) (k1 : ∀ w, Pipeline.arrRef spec1 w = r → (win1 w).isOut = false)
    (k0 : ∀ w, Pipeline.arrRef spec0 w = r → (win0 w).isOut = false) : U4 m c r = U1 m c r :=
  (U4_U2 m c r h2 k1).trans (keep2 m c r k0)

/-- The arguments, as arrays of numbers. -/
abbrev gx : S1x2048x768.Idx → EReal := m ((c : Thread nD τ).loc main_arg0)
abbrev gwq : S8x768x768.Idx → EReal := m ((c : Thread nD τ).loc main_arg3)
abbrev gbq : S8x768.Idx → EReal := m ((c : Thread nD τ).loc main_arg4)
abbrev gwk : S8x768x768.Idx → EReal := m ((c : Thread nD τ).loc main_arg5)
abbrev gbk : S8x768.Idx → EReal := m ((c : Thread nD τ).loc main_arg6)
abbrev gwv : S8x768x768.Idx → EReal := m ((c : Thread nD τ).loc main_arg7)
abbrev gbv : S8x768.Idx → EReal := m ((c : Thread nD τ).loc main_arg8)
abbrev gwo : S8x768x768.Idx → EReal := m ((c : Thread nD τ).loc main_arg9)
abbrev gbo : S8x768.Idx → EReal := m ((c : Thread nD τ).loc main_arg10)

/-- The router's operands. -/
def rX : FVec Ideal S2048x768 .f32 := U1 m c main_v0
def rW : FVec Ideal S768x8 .f32 := U1 m c main_arg1
def rB : FVec Ideal S1x8 .f32 := U1 m c main_v6

theorem rX_val (n : Fin 2048) (d : Fin 768) : (rX m c (Idealize.ShloMosaic.ix2 n d) : EReal) = gx m c (Idealize.ShloMosaic.ix3 0 n d) := h0_v0 (V0 m c) n d
theorem rW_val : (rW m c : S768x8.Idx → EReal) = m ((c : Thread nD τ).loc main_arg1) :=
  StableHlo.after_of_writes_sub hostOps0 (V0 m c) hostOps0_writes (by decide : main_arg1 ∉ hostOps0_W)
theorem rB_val (e : Fin 8) : (rB m c (Idealize.ShloMosaic.ix2 0 e) : EReal) = (m ((c : Thread nD τ).loc main_arg2) : S8.Idx → EReal) (ix1 e) := h0_v6 (V0 m c) e

theorem U2_gates (n : Fin 2048) (e : Fin 8) : (U2 m c main_v11_0 : S2048x8.Idx → EReal) (Idealize.ShloMosaic.ix2 n e) = Cert.Val.ga (rX m c) (rW m c) (rB m c) n e :=
  (congrFun ((Pipeline.afterRegion_arr (dat0 (fun c b => U1 m c b) c) (U1 m c) winFacts0.arr_inj (3 : Fin 7)).trans (arr0_3 _ c)) _).trans
    (Cert.Val.gates_eq (rX m c) (rW m c) (rB m c) n e)

theorem counts_at (n : Fin 2048) (e : Fin 8) : (k0_pay13 (F := Ideal) (cntW (rX m c) (rW m c) (rB m c)) (Idealize.ShloMosaic.ix2 n e) : EReal) = ((cnt (Sent (rX m c) (rW m c) (rB m c)) n e : ℝ) : EReal) :=
  Cert.Val.counts_eq (rX m c) (rW m c) (rB m c) n e

theorem U2_counts (n : Fin 2048) (e : Fin 8) : (U2 m c main_v11_1 : S2048x8.Idx → EReal) (Idealize.ShloMosaic.ix2 n e) = ((cnt (Sent (rX m c) (rW m c) (rB m c)) n e : ℝ) : EReal) :=
  (congrFun ((Pipeline.afterRegion_arr (dat0 (fun c b => U1 m c b) c) (U1 m c) winFacts0.arr_inj (4 : Fin 7)).trans (arr0_4 _ c)) _).trans
    (counts_at m c n e)

theorem U3_pbase : U3 m c main_v11_3 = k0_pay1 (F := Ideal) (k0_pay16 (F := Ideal) (cntW (rX m c) (rW m c) (rB m c))) :=
  (keep3 m c main_v11_3 (by decide)).trans ((Pipeline.afterRegion_arr (dat0 (fun c b => U1 m c b) c) (U1 m c) winFacts0.arr_inj (6 : Fin 7)).trans (arr0_6 _ c))

theorem proj_prj {x : S2048x768.Idx → EReal} {w : S8x768x768.Idx → EReal} {b : S8x1x768.Idx → EReal} {x' : S1x2048x768.Idx → EReal} {w' : S8x768x768.Idx → EReal} {b' : S8x768.Idx → EReal}
    (hx : ∀ n d, x (Idealize.ShloMosaic.ix2 n d) = x' (Idealize.ShloMosaic.ix3 0 n d)) (hw : ∀ e d f, w (Idealize.ShloMosaic.ix3 e d f) = w' (Idealize.ShloMosaic.ix3 e d f))
    (hb : ∀ e f, b (Idealize.ShloMosaic.ix3 e 0 f) = b' (Idealize.ShloMosaic.ix2 e f)) (e : Fin 8) (n : Fin 2048) (f : Fin 768) :
    Cert.Val.proj x w b (Idealize.ShloMosaic.ix3 e n f) = prj w' b' x' e n f := by
  unfold prj
  show (∑ d : Fin 768, x (Idealize.ShloMosaic.ix2 n d) * w (Idealize.ShloMosaic.ix3 e d f)) + b (Idealize.ShloMosaic.ix3 e 0 f) = _
  rw [hb]
  refine congrArg (· + _) (Finset.sum_congr rfl fun d _ => ?_)
  rw [hx, hw, mul_comm]

theorem U3_keys (e : Fin 8) (n : Fin 2048) (f : Fin 768) : (U3 m c main_v12_0 : S8x2048x768.Idx → EReal) (Idealize.ShloMosaic.ix3 e n f) = prj (gwk m c) (gbk m c) (gx m c) e n f := by
  refine (congrFun ((Pipeline.afterRegion_arr (dat1 (fun c b => U2 m c b) c) (U2 m c) winFacts1.arr_inj (5 : Fin 7)).trans (arr1_5 _ c)) _).trans ?_
  refine proj_prj (fun n d => ?_) (fun e d f => ?_) (fun e f => ?_) e n f
  · exact (congrFun (keep2 m c main_v1 (by decide)) _).trans (h0_v1 (V0 m c) n d)
  · exact (congrFun (keep2 m c main_v3 (by decide)) _).trans (h0_v3 (V0 m c) e d f)
  · exact (congrFun (keep2 m c main_v8 (by decide)) _).trans (h0_v8 (V0 m c) e f)

theorem U3_vals (e : Fin 8) (n : Fin 2048) (f : Fin 768) : (U3 m c main_v12_1 : S8x2048x768.Idx → EReal) (Idealize.ShloMosaic.ix3 e n f) = prj (gwv m c) (gbv m c) (gx m c) e n f := by
  refine (congrFun ((Pipeline.afterRegion_arr (dat1 (fun c b => U2 m c b) c) (U2 m c) winFacts1.arr_inj (6 : Fin 7)).trans (arr1_6 _ c)) _).trans ?_
  refine proj_prj (fun n d => ?_) (fun e d f => ?_) (fun e f => ?_) e n f
  · exact (congrFun (keep2 m c main_v1 (by decide)) _).trans (h0_v1 (V0 m c) n d)
  · exact (congrFun (keep2 m c main_v4 (by decide)) _).trans (h0_v4 (V0 m c) e d f)
  · exact (congrFun (keep2 m c main_v9 (by decide)) _).trans (h0_v9 (V0 m c) e f)

theorem tab0 (b : Fin 32) : ((adm m).1 0 : S32.Idx → BitVec 32) (ix1 b) = BitVec.ofNat 32 (eob (Sent (rX m 0) (rW m 0) (rB m 0)) b.val).val :=
  (h2_v13 (U3 m 0) b).trans ((congrFun (U3_eob m 0) _).trans (Cert.Val.eob_table _ _ (counts_at m 0) b))

theorem tab1 (b : Fin 32) : ((adm m).1 1 : S32.Idx → BitVec 32) (ix1 b)
    = BitVec.ofNat 32 ((b.val - st (Sent (rX m 0) (rW m 0) (rB m 0)) (eob (Sent (rX m 0) (rW m 0) (rB m 0)) b.val)) * 256) :=
  (h2_v14 (U3 m 0) b).trans ((congrFun (U3_pbase m 0) _).trans (Cert.Val.pbase_table _ _ (counts_at m 0) b))

/-- What the attention call of this run finds. -/
theorem setting (hl : ∀ n e, ∃ r : ℝ, lg (rX m 0) (rW m 0) (rB m 0) n e = r) (hq : ∀ e n f, ∃ r : ℝ, prj (gwq m 0) (gbq m 0) (gx m 0) e n f = r)
    (hk : ∀ e n f, ∃ r : ℝ, prj (gwk m 0) (gbk m 0) (gx m 0) e n f = r) :
    Setting (adm m) (fun c b => U4 m c b) 0 (gx m 0) (gwq m 0) (gwk m 0) (gwv m 0) (gwo m 0) (gbq m 0) (gbk m 0) (gbv m 0) (gbo m 0)
      (Cert.Val.ga (rX m 0) (rW m 0) (rB m 0)) (Sent (rX m 0) (rW m 0) (rB m 0)) where
  hx n d := (congrFun (U4_U1 m 0 main_v1 (by decide) (by decide) (by decide)) _).trans (h0_v1 (V0 m 0) n d)
  hwq e d f := (congrFun (U4_U1 m 0 main_v2 (by decide) (by decide) (by decide)) _).trans (h0_v2 (V0 m 0) e d f)
  hbq e f := (congrFun (U4_U1 m 0 main_v7 (by decide) (by decide) (by decide)) _).trans (h0_v7 (V0 m 0) e f)
  hwo e d f := (congrFun (U4_U1 m 0 main_v5 (by decide) (by decide) (by decide)) _).trans (h0_v5 (V0 m 0) e d f)
  hbo e f := (congrFun (U4_U1 m 0 main_v10 (by decide) (by decide) (by decide)) _).trans (h0_v10 (V0 m 0) e f)
  hk e n f := (congrFun (U4_U3 m 0 main_v12_0 (by decide)) _).trans (U3_keys m 0 e n f)
  hv e n f := (congrFun (U4_U3 m 0 main_v12_1 (by decide)) _).trans (U3_vals m 0 e n f)
  hcu n e := (congrFun (U4_U2 m 0 main_v11_1 (by decide) (by decide)) _).trans (U2_counts m 0 n e)
  hga n e := (congrFun (U4_U2 m 0 main_v11_0 (by decide) (by decide)) _).trans (U2_gates m 0 n e)
  hgp n e := Cert.Val.ga_pos n (hl n) e
  ht0 := tab0 m
  ht1 := tab1 m
  hqr := hq
  hkr := hk

/-- The kernel's result: every expert's output, gated. -/
theorem kernel_val (hl : ∀ n e, ∃ r : ℝ, lg (rX m 0) (rW m 0) (rB m 0) n e = r) (hq : ∀ e n f, ∃ r : ℝ, prj (gwq m 0) (gbq m 0) (gx m 0) e n f = r)
    (hk : ∀ e n f, ∃ r : ℝ, prj (gwk m 0) (gbk m 0) (gx m 0) e n f = r) (n : Fin 2048) (f : Fin 768) :
    (U6 m 0 main_v16 : S1x2048x768.Idx → EReal) (Idealize.ShloMosaic.ix3 0 n f)
      = ∑ e : Fin 8, outp (gwo m 0) (gbo m 0) (attn (gx m 0) (gwq m 0) (gwk m 0) (gwv m 0) (gbq m 0) (gbk m 0) (gbv m 0) e n) e f
          * Cert.Val.ga (rX m 0) (rW m 0) (rB m 0) n e := by
  refine (h3_v16 (U5 m 0) n f).trans ?_
  refine (congrFun ((Pipeline.afterRegion_arr (dat2 (adm m) (fun c b => U4 m c b) 0) (U4 m 0) winFacts2.arr_inj (9 : Fin 10)).trans (arr2_9 (adm m) _ 0)) _).trans ?_
  exact (setting m hl hq hk).out (Cert.Val.sent_le _ _ _) (fun n e h => Cert.Val.ga_zero n e h) n f

end Cert.KernelIdeal.Own
end
-- ==== Proof.RefVal.lean ====
module

public import proofs.«01_k».proof.Proof.Ref
public import proofs.«01_k».proof.Proof.Soft
public import Idealize.ShloMosaic.Lib.Pointwise

@[expose] public section

set_option maxRecDepth 16384

noncomputable section

namespace Cert.ReferenceIdeal.Own

open Idealize.ShloMosaic Idealize.ShloMosaic.TcCoe Idealize.ShloMosaic.StableHlo
open Cert.ReferenceIdeal

theorem opsC_val (V : Valuation τ sig (Elt Ideal)) (n : Fin 2048) (f : Fin 768) :
    after (opsC (F := Ideal)) V (Proc.devRef .tc main_v63) (Idealize.ShloMosaic.ix3 0 n f) =
      (∑ e : Fin 8, Cert.Val.outp (V (Proc.devRef .tc main_arg9)) (V (Proc.devRef .tc main_arg10))
          (fun c => V (Proc.devRef .tc main_v54) (Idealize.ShloMosaic.ix4 e 0 n c)) e f
        * (show EReal from V (Proc.devRef .tc main_v19) (Idealize.ShloMosaic.ix3 0 n e)) : EReal) := by
  unfold opsC
  after_results
  pointwise [Cert.Val.outp]

/-! # The attention, in four stretches -/

def opsB1 : List (HloOp τ sig (Elt Ideal)) := List.take 18 (opsB (F := Ideal))
def opsB2 : List (HloOp τ sig (Elt Ideal)) := List.take 4 (List.drop 18 (opsB (F := Ideal)))
def opsB3 : List (HloOp τ sig (Elt Ideal)) := List.take 9 (List.drop 22 (opsB (F := Ideal)))
def opsB4 : List (HloOp τ sig (Elt Ideal)) := List.drop 31 (opsB (F := Ideal))

theorem opsB_split (V : Valuation τ sig (Elt Ideal)) : after (opsB (F := Ideal)) V = after opsB4 (after opsB3 (after opsB2 (after opsB1 V))) := by
  rw [← after_both, ← after_both, ← after_both]
  rfl

theorem opsB1_q (V : Valuation τ sig (Elt Ideal)) (n : Fin 2048) (e : Fin 8) (h : Fin 12) (d : Fin 64) :
    after opsB1 V (Proc.devRef .tc main_v25) (ix5 e 0 n h d) = (show EReal from Cert.Val.prj (V (Proc.devRef .tc main_arg3)) (V (Proc.devRef .tc main_arg4)) (V (Proc.devRef .tc main_arg0)) e n ⟨h.val * 64 + d.val, by omega⟩) := by
  change after [_, _, _, _, _, _, _, _, _, _, _, _, _, _, _, _, _, _] V _ _ = _
  after_results
  pointwise [Cert.Val.prj]

theorem opsB1_k (V : Valuation τ sig (Elt Ideal)) (n : Fin 2048) (e : Fin 8) (h : Fin 12) (d : Fin 64) :
    after opsB1 V (Proc.devRef .tc main_v31) (ix5 e 0 n h d) = (show EReal from Cert.Val.prj (V (Proc.devRef .tc main_arg5)) (V (Proc.devRef .tc main_arg6)) (V (Proc.devRef .tc main_arg0)) e n ⟨h.val * 64 + d.val, by omega⟩) := by
  change after [_, _, _, _, _, _, _, _, _, _, _, _, _, _, _, _, _, _] V _ _ = _
  after_results
  pointwise [Cert.Val.prj]

theorem opsB1_v (V : Valuation τ sig (Elt Ideal)) (n : Fin 2048) (e : Fin 8) (h : Fin 12) (d : Fin 64) :
    after opsB1 V (Proc.devRef .tc main_v37) (ix5 e 0 n h d) = (show EReal from Cert.Val.prj (V (Proc.devRef .tc main_arg7)) (V (Proc.devRef .tc main_arg8)) (V (Proc.devRef .tc main_arg0)) e n ⟨h.val * 64 + d.val, by omega⟩) := by
  change after [_, _, _, _, _, _, _, _, _, _, _, _, _, _, _, _, _, _] V _ _ = _
  after_results
  pointwise [Cert.Val.prj]

/-- The scaled scores of a query row. -/
def sc5 (q k : S8x1x2048x12x64.Idx → EReal) (e : Fin 8) (h : Fin 12) (n k' : Fin 2048) : EReal :=
  (∑ j : Fin 64, q (ix5 e 0 n h j) * k (ix5 e 0 k' h j)) * Idealize.ShloMosaic.Ideal.ofBits .f32 1040187392#32

def ex5 (s : Fin 2048 → EReal) (k : Fin 2048) : EReal :=
  Idealize.ShloMosaic.Ideal.exp (s k - max (Idealize.ShloMosaic.Ideal.ofBits .f32 4286578688#32) (Finset.fold max (Idealize.ShloMosaic.Ideal.ofBits .f32 4286578688#32) s Finset.univ))

theorem scores_val (q k : S8x1x2048x12x64.Idx → EReal) (n k' : Fin 2048) (e : Fin 8) (h : Fin 12) :
    mulf (F := Ideal) (φ := .f32) (Host.dotGeneral (F := Ideal) (φ₁ := .f32) (φ₂ := .f32) dot_S8x1x2048x12x64_S8x1x2048x12x64_S8x1x12x2048x2048_4_4_2_2_013_013 none q k)
      (broadcastInDim S8x1x12x2048x2048 ![] Gen.bcast_S_S8x1x12x2048x2048 (constant S_ .f32 0x3E000000#32)) (ix5 e 0 h n k') = sc5 q k e h n k' := by
  pointwise [sc5]

theorem opsB2_val (V : Valuation τ sig (Elt Ideal)) (n k : Fin 2048) (e : Fin 8) (h : Fin 12) :
    after opsB2 V (Proc.devRef .tc main_v40) (ix5 e 0 h n k) = (show EReal from sc5 (V (Proc.devRef .tc main_v25)) (V (Proc.devRef .tc main_v31)) e h n k) := by
  change after [_, _, _, _] V _ _ = _
  after_results
  exact scores_val _ _ _ _ _ _

theorem opsB2_v37 (V : Valuation τ sig (Elt Ideal)) : after opsB2 V (Proc.devRef .tc main_v37) = V (Proc.devRef .tc main_v37) := by
  change after [_, _, _, _] V _ = _
  after_results

theorem max_val (s : S8x1x12x2048x2048.Idx → EReal) (c : S_.Idx → EReal) (n : Fin 2048) (e : Fin 8) (h : Fin 12) :
    Host.reduce (FloatOps.maximumf (F := Ideal) (φ := .f32)) s c Gen.reducesTo_S8x1x12x2048x2048_S8x1x12x2048_d4 Gen.h_S_ (Idealize.ShloMosaic.ix4 e 0 h n)
      = Finset.fold max (c (Shape.Idx.first Gen.h_S_)) (fun k : Fin 2048 => s (ix5 e 0 h n k)) Finset.univ := by
  rw [Host.reduce_eq_fold]
  simp only [pointwise]

theorem exps_row (s : S8x1x12x2048x2048.Idx → EReal) (r : S8x1x12x2048.Idx → EReal) (n k : Fin 2048) (e : Fin 8) (h : Fin 12) :
    Host.exp (F := Ideal) (φ := .f32) (subf s (broadcastInDim S8x1x12x2048x2048 ![0, 1, 2, 3, 4] Gen.bcast_S8x1x12x2048x1_S8x1x12x2048x2048_0_1_2_3_4
      (broadcastInDim S8x1x12x2048x1 ![0, 1, 2, 3] Gen.bcast_S8x1x12x2048_S8x1x12x2048x1_0_1_2_3
        (maximumf (broadcastInDim S8x1x12x2048 ![] Gen.bcast_S_S8x1x12x2048 (constant S_ .f32 0xFF800000#32)) r)))) (ix5 e 0 h n k)
      = Idealize.ShloMosaic.Ideal.exp (s (ix5 e 0 h n k) - max (Idealize.ShloMosaic.Ideal.ofBits .f32 4286578688#32) (r (Idealize.ShloMosaic.ix4 e 0 h n))) := by
  pointwise []

theorem exps_val (s : S8x1x12x2048x2048.Idx → EReal) (n k : Fin 2048) (e : Fin 8) (h : Fin 12) :
    Host.exp (F := Ideal) (φ := .f32) (subf s (broadcastInDim S8x1x12x2048x2048 ![0, 1, 2, 3, 4] Gen.bcast_S8x1x12x2048x1_S8x1x12x2048x2048_0_1_2_3_4
      (broadcastInDim S8x1x12x2048x1 ![0, 1, 2, 3] Gen.bcast_S8x1x12x2048_S8x1x12x2048x1_0_1_2_3
        (maximumf (broadcastInDim S8x1x12x2048 ![] Gen.bcast_S_S8x1x12x2048 (constant S_ .f32 0xFF800000#32))
          (Host.reduce FloatOps.maximumf s (constant S_ .f32 0xFF800000#32) Gen.reducesTo_S8x1x12x2048x2048_S8x1x12x2048_d4 Gen.h_S_))))) (ix5 e 0 h n k)
      = ex5 (fun k => s (ix5 e 0 h n k)) k :=
  (exps_row s _ n k e h).trans (congrArg (fun m : EReal => Idealize.ShloMosaic.Ideal.exp (s (ix5 e 0 h n k) - max (Idealize.ShloMosaic.Ideal.ofBits .f32 4286578688#32) m)) (max_val s _ n e h))

theorem opsB3_val (V : Valuation τ sig (Elt Ideal)) (n k : Fin 2048) (e : Fin 8) (h : Fin 12) :
    after opsB3 V (Proc.devRef .tc main_v47) (ix5 e 0 h n k) = (show EReal from ex5 (fun k => V (Proc.devRef .tc main_v40) (ix5 e 0 h n k)) k) := by
  change after [_, _, _, _, _, _, _, _, _] V _ _ = _
  after_results
  exact exps_val _ _ _ _ _

theorem opsB3_v37 (V : Valuation τ sig (Elt Ideal)) : after opsB3 V (Proc.devRef .tc main_v37) = V (Proc.devRef .tc main_v37) := by
  change after [_, _, _, _, _, _, _, _, _] V _ = _
  after_results

theorem mix_val (v : S8x1x2048x12x64.Idx → EReal) (x : S8x1x12x2048x2048.Idx → EReal) (n : Fin 2048) (e : Fin 8) (h : Fin 12) (d : Fin 64) :
    shapeCast S8x1x2048x768 (transpose S8x1x2048x12x64 [0, 1, 4, 2, 3]
      (Host.dotGeneral (F := Ideal) (φ₁ := .f32) (φ₂ := .f32) dot_S8x1x2048x12x64_S8x1x12x2048x2048_S8x1x12x64x2048_2_4_4_3_013_012 none v
        (Host.divf (F := Ideal) (φ := .f32) x (broadcastInDim S8x1x12x2048x2048 ![0, 1, 2, 3, 4] Gen.bcast_S8x1x12x2048x1_S8x1x12x2048x2048_0_1_2_3_4
          (broadcastInDim S8x1x12x2048x1 ![0, 1, 2, 3] Gen.bcast_S8x1x12x2048_S8x1x12x2048x1_0_1_2_3
            (Host.reduceAdd (F := Ideal) (φ := .f32) x (constant S_ .f32 0x00000000#32) Gen.reducesTo_S8x1x12x2048x2048_S8x1x12x2048_d4 Gen.h_S_)))))
      Gen.transposes_S8x1x12x64x2048_S8x1x2048x12x64_0_1_4_2_3) Gen.shapeCasts_S8x1x2048x12x64_S8x1x2048x768 (Idealize.ShloMosaic.ix4 e 0 n ⟨h.val * 64 + d.val, by omega⟩)
      = ∑ k : Fin 2048, v (ix5 e 0 k h d) * Idealize.ShloMosaic.Ideal.div (x (ix5 e 0 h n k)) (∑ k : Fin 2048, x (ix5 e 0 h n k)) := by
  pointwise []

theorem opsB4_val (V : Valuation τ sig (Elt Ideal)) (n : Fin 2048) (e : Fin 8) (h : Fin 12) (d : Fin 64) :
    after opsB4 V (Proc.devRef .tc main_v54) (Idealize.ShloMosaic.ix4 e 0 n ⟨h.val * 64 + d.val, by omega⟩) =
      (∑ k : Fin 2048, (show EReal from V (Proc.devRef .tc main_v37) (ix5 e 0 k h d)) * Idealize.ShloMosaic.Ideal.div (V (Proc.devRef .tc main_v47) (ix5 e 0 h n k))
        (∑ k : Fin 2048, (show EReal from V (Proc.devRef .tc main_v47) (ix5 e 0 h n k))) : EReal) := by
  change after [_, _, _, _, _, _, _, _] V _ _ = _
  after_results
  exact mix_val _ _ _ _ _ _

theorem opsB_val (V : Valuation τ sig (Elt Ideal)) (n : Fin 2048) (e : Fin 8) (h : Fin 12) (d : Fin 64) :
    after (opsB (F := Ideal)) V (Proc.devRef .tc main_v54) (Idealize.ShloMosaic.ix4 e 0 n ⟨h.val * 64 + d.val, by omega⟩) =
      Cert.Val.soft
        (fun k => Cert.Val.scr
          (Cert.Val.prj (V (Proc.devRef .tc main_arg3)) (V (Proc.devRef .tc main_arg4)) (V (Proc.devRef .tc main_arg0)) e n)
          (Cert.Val.prj (V (Proc.devRef .tc main_arg5)) (V (Proc.devRef .tc main_arg6)) (V (Proc.devRef .tc main_arg0)) e k) h)
        (fun k => Cert.Val.prj (V (Proc.devRef .tc main_arg7)) (V (Proc.devRef .tc main_arg8)) (V (Proc.devRef .tc main_arg0)) e k ⟨h.val * 64 + d.val, by omega⟩) := by
  rw [opsB_split, opsB4_val]
  have hs : ∀ k, (after opsB3 (after opsB2 (after opsB1 V)) (Proc.devRef .tc main_v47) (ix5 e 0 h n k) : EReal) = ex5 (fun k => Cert.Val.scr
          (Cert.Val.prj (V (Proc.devRef .tc main_arg3)) (V (Proc.devRef .tc main_arg4)) (V (Proc.devRef .tc main_arg0)) e n)
          (Cert.Val.prj (V (Proc.devRef .tc main_arg5)) (V (Proc.devRef .tc main_arg6)) (V (Proc.devRef .tc main_arg0)) e k) h) k := by
    intro k
    refine (opsB3_val _ n k e h).trans (congrArg (fun f => ex5 f k) (funext fun k => (opsB2_val _ n k e h).trans ?_))
    refine congrArg (· * Idealize.ShloMosaic.Ideal.ofBits .f32 1040187392#32) (Finset.sum_congr rfl fun j _ => ?_)
    exact congrArg₂ (fun a b : EReal => a * b) (opsB1_q V n e h j) (opsB1_k V k e h j)
  have hv : ∀ k, (after opsB3 (after opsB2 (after opsB1 V)) (Proc.devRef .tc main_v37) (ix5 e 0 k h d) : EReal)
      = Cert.Val.prj (V (Proc.devRef .tc main_arg7)) (V (Proc.devRef .tc main_arg8)) (V (Proc.devRef .tc main_arg0)) e k ⟨h.val * 64 + d.val, by omega⟩ := by
    intro k
    rw [opsB3_v37, opsB2_v37]
    exact opsB1_v V k e h d
  refine Finset.sum_congr (M := EReal) rfl fun k _ => ?_
  exact congrArg₂ (fun a b : EReal => a * b) (hv k) (congrArg₂ Idealize.ShloMosaic.Ideal.div (hs k) (Finset.sum_congr (M := EReal) rfl fun k _ => hs k))

/-- The logit of a token for an expert. -/
def rl (x : S1x2048x768.Idx → EReal) (w : S768x8.Idx → EReal) (b : S8.Idx → EReal) (n : Fin 2048) (e : Fin 8) : EReal :=
  (∑ d : Fin 768, x (Idealize.ShloMosaic.ix3 0 n d) * w (Idealize.ShloMosaic.ix2 d e)) + b (Idealize.ShloMosaic.ix1 e)

def logits (x : S1x2048x768.Idx → EReal) (w : S768x8.Idx → EReal) (b : S8.Idx → EReal) : S1x2048x8.Idx → EReal :=
  addf (F := Ideal) (φ := .f32) (Ideal.matmul dot_S1x2048x768_S768x8_S1x2048x8_2_0_01_1_n_n x w fun _ => 0)
    (broadcastInDim S1x2048x8 ![0, 1, 2] Gen.bcast_S1x1x8_S1x2048x8_0_1_2 (broadcastInDim S1x1x8 ![2] Gen.bcast_S8_S1x1x8_2 b))

theorem logits_val (x : S1x2048x768.Idx → EReal) (w : S768x8.Idx → EReal) (b : S8.Idx → EReal) (n : Fin 2048) (e : Fin 8) :
    logits x w b (Idealize.ShloMosaic.ix3 0 n e) = rl x w b n e := by
  unfold logits
  pointwise [rl]

theorem topK_at (L : S1x2048x8.Idx → EReal) (n : Fin 2048) (hf : ∀ e, L (Idealize.ShloMosaic.ix3 0 n e) ≠ ⊥) (i : Fin 2) :
    (Host.topK S1x2048x2 2 (FloatOps.cmpfTotal (F := Ideal) (φ := .f32) .gt) L Gen.sliceFits_S1x2048x8_S1x2048x2).1 (Idealize.ShloMosaic.ix3 0 n i)
        = L (Idealize.ShloMosaic.ix3 0 n (![Cert.Val.amax fun e => L (Idealize.ShloMosaic.ix3 0 n e), Cert.Val.bmax fun e => L (Idealize.ShloMosaic.ix3 0 n e)] i))
    ∧ (Host.topK S1x2048x2 2 (FloatOps.cmpfTotal (F := Ideal) (φ := .f32) .gt) L Gen.sliceFits_S1x2048x8_S1x2048x2).2 (Idealize.ShloMosaic.ix3 0 n i)
        = BitVec.ofNat 32 (![Cert.Val.amax fun e => L (Idealize.ShloMosaic.ix3 0 n e), Cert.Val.bmax fun e => L (Idealize.ShloMosaic.ix3 0 n e)] i).val := by
  rw [← Cert.Val.sorted_first _ hf i]
  have hal : ∀ k : Fin 8, (Shape.Idx.along (Idealize.ShloMosaic.ix3 0 n (i.castLE (by norm_num : 2 ≤ 8)) : S1x2048x8.Idx) 2 k) = Idealize.ShloMosaic.ix3 0 n k := by
    intro k
    funext a
    fin_cases a <;> rfl
  have hcmp : ∀ u v : EReal, (FloatOps.cmpfTotal (F := Ideal) (φ := .f32) .gt u v == 1#1) = decide (v < u) := by
    intro u v
    show (BitVec.ofBool (decide (v < u)) == 1#1) = _
    by_cases h : v < u <;> simp [h]
  have key : ∀ k k' : Fin 8, (FloatOps.cmpfTotal (F := Ideal) (φ := .f32) .gt (L (Idealize.ShloMosaic.ix3 0 n k)) (L (Idealize.ShloMosaic.ix3 0 n k')) == 1#1)
      = decide (L (Idealize.ShloMosaic.ix3 0 n k') < L (Idealize.ShloMosaic.ix3 0 n k)) := fun k k' => hcmp _ _
  have h1 : ∀ y : S1x2048x8.Idx → EReal, extractStridedSlice S1x2048x2 (fun _ => 0) y Gen.sliceFits_S1x2048x8_S1x2048x2 (Idealize.ShloMosaic.ix3 0 n i)
      = y (Idealize.ShloMosaic.ix3 0 n (i.castLE (by norm_num : 2 ≤ 8))) := by
    intro y
    pointwise []
    rfl
  have h2 : ∀ y : S1x2048x8.Idx → BitVec 32, extractStridedSlice S1x2048x2 (fun _ => 0) y Gen.sliceFits_S1x2048x8_S1x2048x2 (Idealize.ShloMosaic.ix3 0 n i)
      = y (Idealize.ShloMosaic.ix3 0 n (i.castLE (by norm_num : 2 ≤ 8))) := by
    intro y
    pointwise []
    rfl
  constructor
  · dsimp only [Host.topK]
    refine (h1 _).trans ?_
    show L (Shape.Idx.along (Idealize.ShloMosaic.ix3 0 n (i.castLE (by norm_num : 2 ≤ 8)) : S1x2048x8.Idx) 2
      (sortedFrom (fun k k' : Fin 8 => FloatOps.cmpfTotal (F := Ideal) (φ := .f32) .gt
        (L (Shape.Idx.along (Idealize.ShloMosaic.ix3 0 n (i.castLE (by norm_num : 2 ≤ 8)) : S1x2048x8.Idx) 2 k))
        (L (Shape.Idx.along (Idealize.ShloMosaic.ix3 0 n (i.castLE (by norm_num : 2 ≤ 8)) : S1x2048x8.Idx) 2 k')) == 1#1) (i.castLE (by norm_num : 2 ≤ 8)))) = _
    refine (congrArg L (hal _)).trans ?_
    refine (congrArg (fun B => L (Idealize.ShloMosaic.ix3 0 n (sortedFrom B (i.castLE (by norm_num : 2 ≤ 8))))) (?_ : _ = fun k k' : Fin 8 => decide (L (Idealize.ShloMosaic.ix3 0 n k') < L (Idealize.ShloMosaic.ix3 0 n k))))
    funext k k'
    exact (congrArg₂ (fun u v => (FloatOps.cmpfTotal (F := Ideal) (φ := .f32) .gt (L u) (L v) == 1#1)) (hal k) (hal k')).trans (key k k')
  · dsimp only [Host.topK]
    refine (h2 _).trans ?_
    show (fun i : S1x2048x8.Idx => if hd : 2 < S1x2048x8.rank then iotaInDim S1x2048x8 32 ⟨2, hd⟩ i else 0#32) (Shape.Idx.along (Idealize.ShloMosaic.ix3 0 n (i.castLE (by norm_num : 2 ≤ 8)) : S1x2048x8.Idx) 2
      (sortedFrom (fun k k' : Fin 8 => FloatOps.cmpfTotal (F := Ideal) (φ := .f32) .gt
        (L (Shape.Idx.along (Idealize.ShloMosaic.ix3 0 n (i.castLE (by norm_num : 2 ≤ 8)) : S1x2048x8.Idx) 2 k))
        (L (Shape.Idx.along (Idealize.ShloMosaic.ix3 0 n (i.castLE (by norm_num : 2 ≤ 8)) : S1x2048x8.Idx) 2 k')) == 1#1) (i.castLE (by norm_num : 2 ≤ 8)))) = _
    refine (congrArg (fun J : S1x2048x8.Idx => BitVec.ofNat 32 (J 2).val) (hal _)).trans ?_
    refine (congrArg (fun B => BitVec.ofNat 32 (sortedFrom B (i.castLE (by norm_num : 2 ≤ 8))).val) (?_ : _ = fun k k' : Fin 8 => decide (L (Idealize.ShloMosaic.ix3 0 n k') < L (Idealize.ShloMosaic.ix3 0 n k))))
    funext k k'
    exact (congrArg₂ (fun u v => (FloatOps.cmpfTotal (F := Ideal) (φ := .f32) .gt (L u) (L v) == 1#1)) (hal k) (hal k')).trans (key k k')

/-! # The gates -/

theorem gates_val (v : S1x2048x2.Idx → EReal) (p : S1x2048x2.Idx → BitVec 32) (n : Fin 2048) (e : Fin 8) :
    (let E := Host.exp (F := Ideal) (φ := .f32) (subf v (broadcastInDim S1x2048x2 ![0, 1, 2] Gen.bcast_S1x2048x1_S1x2048x2_0_1_2 (broadcastInDim S1x2048x1 ![0, 1] Gen.bcast_S1x2048_S1x2048x1_0_1
        (maximumf (broadcastInDim S1x2048 ![] Gen.bcast_S_S1x2048 (constant S_ .f32 0xFF800000#32)) (Host.reduce FloatOps.maximumf v (constant S_ .f32 0xFF800000#32) Gen.reducesTo_S1x2048x2_S1x2048_d2 Gen.h_S_)))))
     Host.reduceAdd (F := Ideal) (φ := .f32) (mulf
      (uitofp (F := Ideal) .f32 (cmpi .eq (broadcastInDim S1x2048x2x8 ![0, 1, 2, 3] Gen.bcast_S1x2048x2x1_S1x2048x2x8_0_1_2_3 (broadcastInDim S1x2048x2x1 ![0, 1, 2] Gen.bcast_S1x2048x2_S1x2048x2x1_0_1_2 p))
        (broadcastInDim S1x2048x2x8 ![0, 1, 2, 3] Gen.bcast_S1x1x1x8_S1x2048x2x8_0_1_2_3 (iotaInDim S1x1x1x8 32 3))))
      (broadcastInDim S1x2048x2x8 ![0, 1, 2, 3] Gen.bcast_S1x2048x2x1_S1x2048x2x8_0_1_2_3 (broadcastInDim S1x2048x2x1 ![0, 1, 2] Gen.bcast_S1x2048x2_S1x2048x2x1_0_1_2
        (Host.divf E (broadcastInDim S1x2048x2 ![0, 1, 2] Gen.bcast_S1x2048x1_S1x2048x2_0_1_2 (broadcastInDim S1x2048x1 ![0, 1] Gen.bcast_S1x2048_S1x2048x1_0_1
          (Host.reduceAdd E (constant S_ .f32 0x00000000#32) Gen.reducesTo_S1x2048x2_S1x2048_d2 Gen.h_S_)))))))
      (constant S_ .f32 0x00000000#32) Gen.reducesTo_S1x2048x2x8_S1x2048x8_d2 Gen.h_S_ (Idealize.ShloMosaic.ix3 0 n e)) =
       ∑ i : Fin 2, FloatOps.uitofp (F := Ideal) .f32 (IntOp.cmpi .eq (p (Idealize.ShloMosaic.ix3 0 n i)) (BitVec.ofNat 32 e.val)) * Idealize.ShloMosaic.Ideal.div
        (Idealize.ShloMosaic.Ideal.exp (v (Idealize.ShloMosaic.ix3 0 n i) - max (Idealize.ShloMosaic.Ideal.ofBits .f32 4286578688#32) (Finset.fold max (Idealize.ShloMosaic.Ideal.ofBits .f32 4286578688#32) (fun i : Fin 2 => v (Idealize.ShloMosaic.ix3 0 n i)) Finset.univ)))
        (∑ i : Fin 2, Idealize.ShloMosaic.Ideal.exp (v (Idealize.ShloMosaic.ix3 0 n i) - max (Idealize.ShloMosaic.Ideal.ofBits .f32 4286578688#32) (Finset.fold max (Idealize.ShloMosaic.Ideal.ofBits .f32 4286578688#32) (fun i : Fin 2 => v (Idealize.ShloMosaic.ix3 0 n i)) Finset.univ))) := by
  pointwise []

theorem opsA_val (V : Valuation τ sig (Elt Ideal)) (n : Fin 2048) (e : Fin 8) :
    after (opsA (F := Ideal)) V (Proc.devRef .tc main_v19) (Idealize.ShloMosaic.ix3 0 n e) =
      (let K := Host.topK S1x2048x2 2 (FloatOps.cmpfTotal (F := Ideal) (φ := .f32) .gt) (logits (V (Proc.devRef .tc main_arg0)) (V (Proc.devRef .tc main_arg1)) (V (Proc.devRef .tc main_arg2))) Gen.sliceFits_S1x2048x8_S1x2048x2
       ∑ i : Fin 2, FloatOps.uitofp (F := Ideal) .f32 (IntOp.cmpi .eq (K.2 (Idealize.ShloMosaic.ix3 0 n i)) (BitVec.ofNat 32 e.val)) * Idealize.ShloMosaic.Ideal.div
        (Idealize.ShloMosaic.Ideal.exp (K.1 (Idealize.ShloMosaic.ix3 0 n i) - max (Idealize.ShloMosaic.Ideal.ofBits .f32 4286578688#32) (Finset.fold max (Idealize.ShloMosaic.Ideal.ofBits .f32 4286578688#32) (fun i : Fin 2 => K.1 (Idealize.ShloMosaic.ix3 0 n i)) Finset.univ)))
        (∑ i : Fin 2, Idealize.ShloMosaic.Ideal.exp (K.1 (Idealize.ShloMosaic.ix3 0 n i) - max (Idealize.ShloMosaic.Ideal.ofBits .f32 4286578688#32) (Finset.fold max (Idealize.ShloMosaic.Ideal.ofBits .f32 4286578688#32) (fun i : Fin 2 => K.1 (Idealize.ShloMosaic.ix3 0 n i)) Finset.univ))) : EReal) := by
  unfold opsA
  after_results
  generalize hK : Host.topK (s := S1x2048x8) S1x2048x2 2 (FloatOps.cmpfTotal (F := Ideal) (φ := .f32) .gt) _ Gen.sliceFits_S1x2048x8_S1x2048x2 = K
  have hK' : Host.topK S1x2048x2 2 (FloatOps.cmpfTotal (F := Ideal) (φ := .f32) .gt) (logits (V (Proc.devRef .tc main_arg0)) (V (Proc.devRef .tc main_arg1)) (V (Proc.devRef .tc main_arg2))) Gen.sliceFits_S1x2048x8_S1x2048x2 = K := hK
  rw [hK']
  exact gates_val K.1 K.2 n e

end Cert.ReferenceIdeal.Own
end
-- ==== Proof.RefOut.lean ====
module

public import proofs.«01_k».proof.Proof.RefVal
public import proofs.«01_k».proof.Proof.Tables
public import proofs.«01_k».proof.Proof.Block

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.StableHlo

/-! # What the reference's run leaves in its result -/

section
variable {x : S1x2048x768.Idx → EReal} {w : S768x8.Idx → EReal} {b : S8.Idx → EReal}
  {X : FVec Ideal Cert.KernelIdeal.S2048x768 .f32} {W : FVec Ideal Cert.KernelIdeal.S768x8 .f32} {B : FVec Ideal Cert.KernelIdeal.S1x8 .f32}
  (hx : ∀ n d, (X (Idealize.ShloMosaic.ix2 n d) : EReal) = x (Idealize.ShloMosaic.ix3 0 n d)) (hw : (W : S768x8.Idx → EReal) = w)
  (hb : ∀ e, (B (Idealize.ShloMosaic.ix2 0 e) : EReal) = b (Idealize.ShloMosaic.ix1 e))
include hx hw hb

theorem lg_rl (n : Fin 2048) (e : Fin 8) : Cert.Val.lg X W B n e = rl x w b n e := by
  refine (Cert.Val.lg_eq X W B n e).trans ?_
  unfold rl
  refine congrArg₂ (fun y z : EReal => y + z) (Finset.sum_congr (M := EReal) rfl fun d _ => congrArg₂ (fun y z : EReal => y * z) (hx n d) (congrFun hw _)) (hb e)

/-- The reference's gates are the router's. -/
theorem gates_ref (V : Valuation τ sig (Elt Ideal)) (h0 : V (Proc.devRef .tc main_arg0) = x) (h1 : V (Proc.devRef .tc main_arg1) = w) (h2 : V (Proc.devRef .tc main_arg2) = b)
    (hl : ∀ n e, ∃ r : ℝ, Cert.Val.lg X W B n e = r) (n : Fin 2048) (e : Fin 8) :
    (after (opsA (F := Ideal)) V (Proc.devRef .tc main_v19) : S1x2048x8.Idx → EReal) (Idealize.ShloMosaic.ix3 0 n e) = Cert.Val.ga X W B n e := by
  have hL : (fun e => logits x w b (Idealize.ShloMosaic.ix3 0 n e)) = Cert.Val.lg X W B n :=
    funext fun e => (logits_val x w b n e).trans (lg_rl hx hw hb n e).symm
  have hf : ∀ e, logits x w b (Idealize.ShloMosaic.ix3 0 n e) ≠ ⊥ := fun e => by
    rw [congrFun hL e]
    exact Cert.Val.real_ne_bot (hl n) e
  have ht := topK_at (logits x w b) n hf
  rw [hL] at ht
  refine (opsA_val V n e).trans ?_
  rw [h0, h1, h2]
  generalize hK : Host.topK S1x2048x2 2 (FloatOps.cmpfTotal (F := Ideal) (φ := .f32) .gt) (logits x w b) Gen.sliceFits_S1x2048x8_S1x2048x2 = K at ht ⊢
  refine Cert.Val.gates_soft n (hl n) e (fun i => K.1 (Idealize.ShloMosaic.ix3 0 n i)) (funext fun i => ?_) (fun i => K.2 (Idealize.ShloMosaic.ix3 0 n i)) (funext fun i => (ht i).2)
  rw [(ht i).1, show logits x w b (Idealize.ShloMosaic.ix3 0 n (![Cert.Val.amax (Cert.Val.lg X W B n), Cert.Val.bmax (Cert.Val.lg X W B n)] i)) = Cert.Val.lg X W B n _ from congrFun hL _]
  fin_cases i <;> rfl
end

theorem attn_ref (V : Valuation τ sig (Elt Ideal)) (e : Fin 8) (n : Fin 2048) (c : Fin 768) :
    (after (opsB (F := Ideal)) V (Proc.devRef .tc main_v54) : S8x1x2048x768.Idx → EReal) (Idealize.ShloMosaic.ix4 e 0 n c)
      = Cert.KernelIdeal.Own.attn (V (Proc.devRef .tc main_arg0)) (V (Proc.devRef .tc main_arg3)) (V (Proc.devRef .tc main_arg5)) (V (Proc.devRef .tc main_arg7))
          (V (Proc.devRef .tc main_arg4)) (V (Proc.devRef .tc main_arg6)) (V (Proc.devRef .tc main_arg8)) e n c := by
  obtain ⟨h, d, rfl⟩ : ∃ (h : Fin 12) (d : Fin 64), c = ⟨h.val * 64 + d.val, by omega⟩ :=
    ⟨⟨c.val / 64, by omega⟩, ⟨c.val % 64, by omega⟩, Fin.ext (by show c.val = c.val / 64 * 64 + c.val % 64; omega)⟩
  have hh : (⟨(h.val * 64 + d.val) / 64, by omega⟩ : Fin 12) = h := Fin.ext (by show (h.val * 64 + d.val) / 64 = h.val; omega)
  refine (opsB_val V n e h d).trans ?_
  unfold Cert.KernelIdeal.Own.attn
  rw [hh]

variable (m : (ℓ : Loc nD τ sig) → Buf (Elt Ideal) ℓ) (c : Dev nD)

theorem B1_arg (r : Ref sig .tc) (h : r ∉ opsA_W) : B1 m c r = m ((c : Thread nD τ).loc r) := (after_of_writes_sub opsA _ opsA_writes h).trans rfl
theorem B2_arg (r : Ref sig .tc) (h : r ∉ opsA_W) (h' : r ∉ opsB_W) : B2 m c r = m ((c : Thread nD τ).loc r) := (after_of_writes_sub opsB _ opsB_writes h').trans (B1_arg m c r h)

/-- The reference's result: every expert's output, gated. -/
theorem ref_val {x : S1x2048x768.Idx → EReal} {w : S768x8.Idx → EReal} {b : S8.Idx → EReal} {wq wk wv wo : S8x768x768.Idx → EReal} {bq bk bv bo : S8x768.Idx → EReal}
    {X : FVec Ideal Cert.KernelIdeal.S2048x768 .f32} {W : FVec Ideal Cert.KernelIdeal.S768x8 .f32} {B : FVec Ideal Cert.KernelIdeal.S1x8 .f32}
    (hx : ∀ n d, (X (Idealize.ShloMosaic.ix2 n d) : EReal) = x (Idealize.ShloMosaic.ix3 0 n d)) (hw : (W : S768x8.Idx → EReal) = w)
    (hb : ∀ e, (B (Idealize.ShloMosaic.ix2 0 e) : EReal) = b (Idealize.ShloMosaic.ix1 e)) (hl : ∀ n e, ∃ r : ℝ, Cert.Val.lg X W B n e = r)
    (h0 : m ((c : Thread nD τ).loc main_arg0) = x) (h1 : m ((c : Thread nD τ).loc main_arg1) = w) (h2 : m ((c : Thread nD τ).loc main_arg2) = b)
    (h3 : m ((c : Thread nD τ).loc main_arg3) = wq) (h4 : m ((c : Thread nD τ).loc main_arg4) = bq) (h5 : m ((c : Thread nD τ).loc main_arg5) = wk) (h6 : m ((c : Thread nD τ).loc main_arg6) = bk)
    (h7 : m ((c : Thread nD τ).loc main_arg7) = wv) (h8 : m ((c : Thread nD τ).loc main_arg8) = bv) (h9 : m ((c : Thread nD τ).loc main_arg9) = wo) (h10 : m ((c : Thread nD τ).loc main_arg10) = bo)
    (n : Fin 2048) (f : Fin 768) :
    (B3 m c main_v63 : S1x2048x768.Idx → EReal) (Idealize.ShloMosaic.ix3 0 n f)
      = ∑ e : Fin 8, Cert.Val.outp wo bo (Cert.KernelIdeal.Own.attn x wq wk wv bq bk bv e n) e f * Cert.Val.ga X W B n e := by
  refine (opsC_val (B2 m c) n f).trans (Finset.sum_congr (M := EReal) rfl fun e _ => congrArg₂ (fun y z : EReal => y * z) ?_ ?_)
  · have a9 : B2 m c (Proc.devRef .tc main_arg9) = wo := (B2_arg m c main_arg9 (by decide) (by decide)).trans h9
    have a10 : B2 m c (Proc.devRef .tc main_arg10) = bo := (B2_arg m c main_arg10 (by decide) (by decide)).trans h10
    have a0 : B1 m c (Proc.devRef .tc main_arg0) = x := (B1_arg m c main_arg0 (by decide)).trans h0
    have a3 : B1 m c (Proc.devRef .tc main_arg3) = wq := (B1_arg m c main_arg3 (by decide)).trans h3
    have a4 : B1 m c (Proc.devRef .tc main_arg4) = bq := (B1_arg m c main_arg4 (by decide)).trans h4
    have a5 : B1 m c (Proc.devRef .tc main_arg5) = wk := (B1_arg m c main_arg5 (by decide)).trans h5
    have a6 : B1 m c (Proc.devRef .tc main_arg6) = bk := (B1_arg m c main_arg6 (by decide)).trans h6
    have a7 : B1 m c (Proc.devRef .tc main_arg7) = wv := (B1_arg m c main_arg7 (by decide)).trans h7
    have a8 : B1 m c (Proc.devRef .tc main_arg8) = bv := (B1_arg m c main_arg8 (by decide)).trans h8
    rw [a9, a10]
    refine congrArg (fun a : Fin 768 → EReal => Cert.Val.outp wo bo a e f) (funext fun i => ?_)
    refine (attn_ref (B1 m c) e n i).trans ?_
    rw [a0, a3, a4, a5, a6, a7, a8]
  · refine (congrFun (after_of_writes_sub opsB (B1 m c) opsB_writes (by decide : main_v19 ∉ opsB_W)) _).trans ?_
    exact gates_ref hx hw hb (launchContents m c) h0 h1 h2 hl n e

end Cert.ReferenceIdeal.Own
end
-- ==== Proof.Finite.lean ====
module

public import proofs.«01_k».proof.Defs
public import Idealize.ShloMosaic.Lib.ReduceAll
public import Idealize.ShloMosaic.Lib.Pointwise

@[expose] public section

set_option maxRecDepth 16384

noncomputable section

namespace Cert.Pre_finite.Own

open Cert.Pre_finite
open Idealize.ShloMosaic

theorem facts : Cert.Pre_finite.Facts where
  bcast_S_S1x2048x768 := by decide
  reducesTo_S1x2048x768_S_d0_1_2 := by decide
  h_S_ := by decide
  bcast_S_S768x8 := by decide
  reducesTo_S768x8_S_d0_1 := by decide
  bcast_S_S8 := by decide
  reducesTo_S8_S_d0 := by decide
  bcast_S_S8x768x768 := by decide
  reducesTo_S8x768x768_S_d0_1_2 := by decide
  bcast_S_S8x768 := by decide
  reducesTo_S8x768_S_d0_1 := by decide

instance : Subsingleton S_.Idx := ⟨fun a b => funext fun i => i.elim0⟩

/-- A number whose size is below infinity is real. -/
theorem real_of_lt (x : EReal) (h : (FloatOps.cmpf (F := Ideal) (φ := .f32) .olt (FloatOps.hostAbsf (F := Ideal) (φ := .f32) x) (Idealize.ShloMosaic.Ideal.ofBits .f32 0x7F800000#32)) = 1#1) : ∃ r : ℝ, x = r := by
  have h0 : Idealize.ShloMosaic.Ideal.ofBits .f32 0x7F800000#32 = (⊤ : EReal) := by
    simp [Idealize.ShloMosaic.Ideal.ofBits, Idealize.ShloMosaic.Ideal.ieee]
  rw [h0] at h
  induction x with
  | bot => exact absurd h (by show BitVec.ofBool (decide (max (⊥ : EReal) (-⊥) < ⊤)) ≠ 1#1; simp)
  | top => exact absurd h (by show BitVec.ofBool (decide (max (⊤ : EReal) (-⊤) < ⊤)) ≠ 1#1; simp)
  | coe r => exact ⟨r, rfl⟩

section
variable {s : Shape} {axes : List (Fin s.rank)}

/-- The printed test of one array, read back. -/
theorem real_of_all (x : s.Idx → EReal) (hb : S_.BroadcastsInDim s (![] : Fin 0 → Fin s.rank)) (hr : s.ReducesTo axes S_) (hu : 0 < S_.numel) (init : IVec S_ 1) (j : S_.Idx)
    (h : Host.reduce IntOp.andi (cmpf (F := Ideal) (φ := .f32) .olt (Host.absf (F := Ideal) (φ := .f32) x) (broadcastInDim s ![] hb (constant (F := Ideal) S_ .f32 0x7F800000#32))) init hr hu j = 1#1)
    (i : s.Idx) : ∃ r : ℝ, x i = r :=
  real_of_lt (x i) (Host.reduce_andi_all _ init hr hu j h i)
end

theorem and_split {a b : IVec S_ 1} {j : S_.Idx} (h : andi a b j = 1#1) : a j = 1#1 ∧ b j = 1#1 := IntOp.andi_eq_one.1 h

/-- What the precondition says: the tokens, the router and the queries' and keys' weights are real. -/
theorem reals [Facts] {x : FVec Ideal S1x2048x768 .f32} {rw : FVec Ideal S768x8 .f32} {rb : FVec Ideal S8 .f32} {qw kw vw ow : FVec Ideal S8x768x768 .f32} {qb kb vb ob : FVec Ideal S8x768 .f32}
    (h : fn (F := Ideal) x rw rb qw qb kw kb vw vb ow ob = fun _ => 1#1) :
    (∀ i, ∃ r : ℝ, (x i : EReal) = r) ∧ (∀ i, ∃ r : ℝ, (rw i : EReal) = r) ∧ (∀ i, ∃ r : ℝ, (rb i : EReal) = r) ∧ (∀ i, ∃ r : ℝ, (qw i : EReal) = r) ∧ (∀ i, ∃ r : ℝ, (qb i : EReal) = r)
      ∧ (∀ i, ∃ r : ℝ, (kw i : EReal) = r) ∧ (∀ i, ∃ r : ℝ, (kb i : EReal) = r) := by
  have h1 := congrFun h (fun i => i.elim0)
  unfold fn fn_part1 at h1
  obtain ⟨h1, a7⟩ := and_split h1
  obtain ⟨h1, a6⟩ := and_split h1
  obtain ⟨h1, a5⟩ := and_split h1
  obtain ⟨h1, a4⟩ := and_split h1
  obtain ⟨h1, a3⟩ := and_split h1
  obtain ⟨a1, a2⟩ := and_split h1
  exact ⟨real_of_all _ _ _ _ _ _ a1, real_of_all _ _ _ _ _ _ a2, real_of_all _ _ _ _ _ _ a3, real_of_all _ _ _ _ _ _ a4, real_of_all _ _ _ _ _ _ a5,
    real_of_all _ _ _ _ _ _ a6, real_of_all _ _ _ _ _ _ a7⟩

end Cert.Pre_finite.Own
end
-- ==== Proof.Final.lean ====
module

public import proofs.«01_k».proof.Proof.KerVal
public import proofs.«01_k».proof.Proof.RefOut
public import proofs.«01_k».proof.Proof.Finite

@[expose] public section

set_option maxRecDepth 16384

noncomputable section

namespace Cert.Val

open Idealize.ShloMosaic Idealize.ShloMosaic.TcCoe

/-- A product of real rows, with a real added, is real. -/
theorem dot_real {ι : Type} [Fintype ι] {f g : ι → EReal} {b : EReal} (hf : ∀ i, ∃ r : ℝ, f i = r) (hg : ∀ i, ∃ r : ℝ, g i = r) (hb : ∃ r : ℝ, b = r) :
    ∃ r : ℝ, (∑ i, f i * g i) + b = r := by
  choose fr hfr using hf
  choose gr hgr using hg
  obtain ⟨br, rfl⟩ := hb
  refine ⟨(∑ i, fr i * gr i) + br, ?_⟩
  rw [EReal.coe_add, coe_sum]
  refine congrArg (· + _) (Finset.sum_congr rfl fun i _ => ?_)
  rw [hfr, hgr, EReal.coe_mul]

/-- The two runs leave the same result. -/
theorem same [Cert.Pre_finite.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hP : Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (Cert.ReferenceIdeal.Own.B3 m' c Cert.ReferenceIdeal.main_v63 : Cert.KernelIdeal.S1x2048x768.Idx → EReal) = Cert.KernelIdeal.Own.U6 m c Cert.KernelIdeal.main_v16 := by
  obtain rfl : c = 0 := Subsingleton.elim (α := Fin 1) _ _
  obtain ⟨rx, rw', rb, rqw, rqb, rkw, rkb⟩ := Cert.Pre_finite.Own.reals (hP 0)
  have hx := Cert.KernelIdeal.Own.rX_val m 0
  have hw := Cert.KernelIdeal.Own.rW_val m 0
  have hb := Cert.KernelIdeal.Own.rB_val m 0
  have hl : ∀ n e, ∃ r : ℝ, lg (Cert.KernelIdeal.Own.rX m 0) (Cert.KernelIdeal.Own.rW m 0) (Cert.KernelIdeal.Own.rB m 0) n e = r := fun n e => by
    rw [Cert.ReferenceIdeal.Own.lg_rl hx hw hb n e]
    exact dot_real (fun d => rx _) (fun d => rw' _) (rb _)
  have hq : ∀ e n f, ∃ r : ℝ, prj (Cert.KernelIdeal.Own.gwq m 0) (Cert.KernelIdeal.Own.gbq m 0) (Cert.KernelIdeal.Own.gx m 0) e n f = r :=
    fun e n f => dot_real (fun d => rqw _) (fun d => rx _) (rqb _)
  have hk : ∀ e n f, ∃ r : ℝ, prj (Cert.KernelIdeal.Own.gwk m 0) (Cert.KernelIdeal.Own.gbk m 0) (Cert.KernelIdeal.Own.gx m 0) e n f = r :=
    fun e n f => dot_real (fun d => rkw _) (fun d => rx _) (rkb _)
  funext y
  obtain ⟨a, n, f, rfl⟩ : ∃ (a : Fin 1) (n : Fin 2048) (f : Fin 768), y = ix3 a n f := ⟨y 0, y 1, y 2, by funext i; fin_cases i <;> rfl⟩
  obtain rfl : a = 0 := Subsingleton.elim _ _
  exact (Cert.ReferenceIdeal.Own.ref_val m' 0 hx hw hb hl h0 h1 h2 h3 h4 h5 h6 h7 h8 h9 h10 n f).trans
    (Cert.KernelIdeal.Own.kernel_val m hl hq hk n f).symm

end Cert.Val
end
-- ==== Proof.lean ====
module

public import proofs.«01_k».proof.Defs
public import proofs.«01_k».proof.Proof.Gen.KernelIdeal
public import proofs.«01_k».proof.Proof.Gen.ReferenceIdeal
public import proofs.«01_k».proof.Proof.Top
public import proofs.«01_k».proof.Proof.Ref
public import proofs.«01_k».proof.Proof.Final

@[expose] public section

noncomputable section

namespace Cert.Proof

open Idealize.ShloMosaic Idealize.ShloMosaic.TcCoe Idealize.SL.Sem

theorem claim : Cert.Claim :=
  ⟨Cert.KernelIdeal.Gen.facts, Cert.ReferenceIdeal.Gen.facts, Cert.Pre_finite.Own.facts,
    fun m g _ => θ_run_mono (Cert.KernelIdeal.Own.run_args m g) fun r h => ⟨fun c => (h.1 c).2, h.2⟩,
    fun m g _ => θ_run_mono (Cert.KernelIdeal.Own.run_args m g) fun r h => ⟨fun c => (h.1 c).2, h.2⟩,
    fun m g _ => θ_run_mono (Cert.ReferenceIdeal.Own.run_args m g) fun r h => ⟨fun c => (h.1 c).2, h.2⟩,
    fun m g _ => θ_run_mono (Cert.ReferenceIdeal.Own.run_args m g) fun r h => ⟨fun c => (h.1 c).2, h.2⟩,
    fun m g m' g' hP hA => ⟨fun c => Cert.KernelIdeal.Own.U6 m c Cert.KernelIdeal.main_v16,
      θ_run_mono (Cert.KernelIdeal.Own.run_args m g) fun r h => h.1,
      θ_run_mono (Cert.ReferenceIdeal.Own.run_args m' g') fun r h c =>
        have ⟨h0, h1, h2, h3, h4, h5, h6, h7, h8, h9, h10⟩ := hA c
        ⟨(h.1 c).1.trans (@Cert.Val.same Cert.Pre_finite.Own.facts m m' hP c h0 h1 h2 h3 h4 h5 h6 h7 h8 h9 h10), (h.1 c).2⟩⟩⟩

end Cert.Proof
end
